-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_inputs [hPre_real_inputs : Cert.Pre_real_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_inputs [hPre_real_inputs : Cert.Pre_real_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_real_inputs [hKernelIdeal : Cert.KernelIdeal.Facts] [hPre_real_inputs : Cert.Pre_real_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_real_inputs [hReferenceIdeal : Cert.ReferenceIdeal.Facts] [hPre_real_inputs : Cert.Pre_real_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "inv_n" .f32 0x37A7C5AC#32 ((1 / 50000 : ℝ) : EReal)

def algebraic_KernelIdeal_ReferenceIdeal_pre_real_inputs [hKernelIdeal : Cert.KernelIdeal.Facts] [hReferenceIdeal : Cert.ReferenceIdeal.Facts] [hPre_real_inputs : Cert.Pre_real_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_real_inputs : Cert.Pre_real_inputs.Facts),
    quiescent_Kernel (hKernel := hKernel)
    ∧ quiescent_KernelIdeal (hKernelIdeal := hKernelIdeal)
    ∧ quiescent_KernelIdeal_pre_real_inputs (hKernelIdeal := hKernelIdeal) (hPre_real_inputs := hPre_real_inputs)
    ∧ quiescent_ReferenceIdeal (hReferenceIdeal := hReferenceIdeal)
    ∧ quiescent_ReferenceIdeal_pre_real_inputs (hReferenceIdeal := hReferenceIdeal) (hPre_real_inputs := hPre_real_inputs)
    ∧ preserves_Kernel_KernelIdeal
    ∧ algebraic_KernelIdeal_ReferenceIdeal_pre_real_inputs (hKernelIdeal := hKernelIdeal) (hReferenceIdeal := hReferenceIdeal) (hPre_real_inputs := hPre_real_inputs)
-- ==== Pre_real_inputs.lean ====
abbrev S50000x2 : Shape := ⟨2, ![50000, 2]⟩
abbrev S2x800000 : Shape := ⟨2, ![2, 800000]⟩
abbrev S2x128 : Shape := ⟨2, ![2, 128]⟩
abbrev S15x128x128 : Shape := ⟨3, ![15, 128, 128]⟩
abbrev S15x128 : Shape := ⟨2, ![15, 128]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S1x800000 : Shape := ⟨2, ![1, 800000]⟩
abbrev S800000 : Shape := ⟨1, ![800000]⟩

class Facts : Prop where
  bcast_S_S50000x2 : S_.BroadcastsInDim S50000x2 (![] : Fin 0 → Fin S50000x2.rank)
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S_S2x128 : S_.BroadcastsInDim S2x128 (![] : Fin 0 → Fin S2x128.rank)
  bcast_S_S15x128x128 : S_.BroadcastsInDim S15x128x128 (![] : Fin 0 → Fin S15x128x128.rank)
  bcast_S_S15x128 : S_.BroadcastsInDim S15x128 (![] : Fin 0 → Fin S15x128.rank)

variable [Facts]

def fn_part1 {F : FTy → Type} [FloatOps F] (main_arg5 : FVec F S15x128 .f32) (main_arg6 : FVec F S15x128 .f32) (main_arg7 : FVec F S15x128 .f32) (main_v2 : IVec S50000x2 1) (main_v11 : IVec S800000 1) (main_v14 : IVec S2x128 1) (main_v17 : IVec S15x128x128 1) (main_v18 : FVec F S15x128x128 .f32) : IVec S50000x2 1 × IVec S800000 1 × IVec S2x128 1 × IVec S15x128x128 1 × IVec S15x128x128 1 × IVec S15x128 1 × IVec S15x128 1 × IVec S15x128 1 :=
  let main_cst_3 : FVec F S_ .f32 := constant S_ .f32 0x7F800000#32
  let main_v19 : FVec F S15x128x128 .f32 := broadcastInDim S15x128x128 ![] bcast_S_S15x128x128 main_cst_3
  let main_v20 : IVec S15x128x128 1 := cmpf .olt main_v18 main_v19
  let main_v21 : FVec F S15x128 .f32 := Host.absf main_arg5
  let main_cst_4 : FVec F S_ .f32 := constant S_ .f32 0x7F800000#32
  let main_v22 : FVec F S15x128 .f32 := broadcastInDim S15x128 ![] bcast_S_S15x128 main_cst_4
  let main_v23 : IVec S15x128 1 := cmpf .olt main_v21 main_v22
  let main_v24 : FVec F S15x128 .f32 := Host.absf main_arg6
  let main_cst_5 : FVec F S_ .f32 := constant S_ .f32 0x7F800000#32
  let main_v25 : FVec F S15x128 .f32 := broadcastInDim S15x128 ![] bcast_S_S15x128 main_cst_5
  let main_v26 : IVec S15x128 1 := cmpf .olt main_v24 main_v25
  let main_v27 : FVec F S15x128 .f32 := Host.absf main_arg7
  let main_cst_6 : FVec F S_ .f32 := constant S_ .f32 0x7F800000#32
  let main_v28 : FVec F S15x128 .f32 := broadcastInDim S15x128 ![] bcast_S_S15x128 main_cst_6
  let main_v29 : IVec S15x128 1 := cmpf .olt main_v27 main_v28
  (main_v2, main_v11, main_v14, main_v17, main_v20, main_v23, main_v26, main_v29)

def fn {F : FTy → Type} [FloatOps F] (main_arg0 : FVec F S50000x2 .f32) (main_arg1 : IVec S2x800000 32) (main_arg2 : FVec F S2x128 .f32) (main_arg3 : FVec F S15x128x128 .f32) (main_arg4 : FVec F S15x128x128 .f32) (main_arg5 : FVec F S15x128 .f32) (main_arg6 : FVec F S15x128 .f32) (main_arg7 : FVec F S15x128 .f32) (main_arg8 : FVec F S256x128 .f32) (main_arg9 : FVec F S128 .f32) (main_arg10 : FVec F S128x128 .f32) (main_arg11 : FVec F S128 .f32) (main_arg12 : FVec F S128x1 .f32) (main_arg13 : FVec F S1 .f32) : IVec S50000x2 1 × IVec S800000 1 × IVec S2x128 1 × IVec S15x128x128 1 × IVec S15x128x128 1 × IVec S15x128 1 × IVec S15x128 1 × IVec S15x128 1 :=
  let main_v0 : FVec F S50000x2 .f32 := Host.absf main_arg0
  let main_cst : FVec F S_ .f32 := constant S_ .f32 0x7F800000#32
  let main_v1 : FVec F S50000x2 .f32 := broadcastInDim S50000x2 ![] bcast_S_S50000x2 main_cst
  let main_v2 : IVec S50000x2 1 := cmpf .olt main_v0 main_v1
  let main_v3 : IVec S1x800000 32 := (extractStridedSlice S1x800000 ![0, 0] · slices_S2x800000_S1x800000_0_0) main_arg1
  let main_v4 : IVec S800000 32 := shapeCast S800000 main_v3 shapeCasts_S1x800000_S800000
  let main_c : IVec S_ 32 := constantI S_ 32 0#32
  let main_v5 : IVec S800000 32 := broadcastInDim S800000 ![] bcast_S_S800000 main_c
  let main_v6 : IVec S800000 1 := cmpi .sge main_v4 main_v5
  let main_v7 : IVec S1x800000 32 := (extractStridedSlice S1x800000 ![0, 0] · slices_S2x800000_S1x800000_0_0) main_arg1
  let main_v8 : IVec S800000 32 := shapeCast S800000 main_v7 shapeCasts_S1x800000_S800000
  let main_c_0 : IVec S_ 32 := constantI S_ 32 50000#32
  let main_v9 : IVec S800000 32 := broadcastInDim S800000 ![] bcast_S_S800000 main_c_0
  let main_v10 : IVec S800000 1 := cmpi .slt main_v8 main_v9
  let main_v11 : IVec S800000 1 := andi main_v6 main_v10
  let main_v12 : FVec F S2x128 .f32 := Host.absf main_arg2
  let main_cst_1 : FVec F S_ .f32 := constant S_ .f32 0x7F800000#32
  let main_v13 : FVec F S2x128 .f32 := broadcastInDim S2x128 ![] bcast_S_S2x128 main_cst_1
  let main_v14 : IVec S2x128 1 := cmpf .olt main_v12 main_v13
  let main_v15 : FVec F S15x128x128 .f32 := Host.absf main_arg3
  let main_cst_2 : FVec F S_ .f32 := constant S_ .f32 0x7F800000#32
  let main_v16 : FVec F S15x128x128 .f32 := broadcastInDim S15x128x128 ![] bcast_S_S15x128x128 main_cst_2
  let main_v17 : IVec S15x128x128 1 := cmpf .olt main_v15 main_v16
  let main_v18 : FVec F S15x128x128 .f32 := Host.absf main_arg4
  fn_part1 (F := F) main_arg5 main_arg6 main_arg7 main_v2 main_v11 main_v14 main_v17 main_v18
-- ==== Kernel.lean ====
abbrev S50000x2 : Shape := ⟨2, ![50000, 2]⟩
abbrev S2x800000 : Shape := ⟨2, ![2, 800000]⟩
abbrev S2x128 : Shape := ⟨2, ![2, 128]⟩
abbrev S15x128x128 : Shape := ⟨3, ![15, 128, 128]⟩
abbrev S15x128 : Shape := ⟨2, ![15, 128]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S50000x128 : Shape := ⟨2, ![50000, 128]⟩
abbrev S_ : Shape := ⟨0, ![]⟩
abbrev S800000x1 : Shape := ⟨2, ![800000, 1]⟩
abbrev S1x1 : Shape := ⟨2, ![1, 1]⟩
abbrev S800000x128 : Shape := ⟨2, ![800000, 128]⟩
abbrev S1x128x128 : Shape := ⟨3, ![1, 128, 128]⟩
abbrev S1x128 : Shape := ⟨2, ![1, 128]⟩
abbrev S1000x2 : Shape := ⟨2, ![1000, 2]⟩
abbrev S1000x128 : Shape := ⟨2, ![1000, 128]⟩
abbrev S1000x1 : Shape := ⟨2, ![1000, 1]⟩
abbrev S2000x128 : Shape := ⟨2, ![2000, 128]⟩
abbrev S2000x1 : Shape := ⟨2, ![2000, 1]⟩

abbrev nBuf : Space → Nat
  | .hbm => 871
  | .vmem => 303
  | .smem => 0
  | _ => 0

abbrev hbmTy0_0 (i : Nat) : BufTy := match i % 128 with
  | 0 => ⟨S50000x2, .f32⟩
  | 1 => ⟨S2x800000, .i32⟩
  | 2 => ⟨S2x128, .f32⟩
  | 3 => ⟨S15x128x128, .f32⟩
  | 4 => ⟨S15x128x128, .f32⟩
  | 5 => ⟨S15x128, .f32⟩
  | 6 => ⟨S15x128, .f32⟩
  | 7 => ⟨S15x128, .f32⟩
  | 8 => ⟨S256x128, .f32⟩
  | 9 => ⟨S128, .f32⟩
  | 10 => ⟨S128x128, .f32⟩
  | 11 => ⟨S128, .f32⟩
  | 12 => ⟨S128x1, .f32⟩
  | 13 => ⟨S1, .f32⟩
  | 14 => ⟨S1x800000, .i32⟩
  | 15 => ⟨S800000, .i32⟩
  | 16 => ⟨S1x800000, .i32⟩
  | 17 => ⟨S800000, .i32⟩
  | 18 => ⟨S50000x128, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S1, .i32⟩
  | 28 => ⟨S_, .i32⟩
  | 29 => ⟨S800000x1, .i32⟩
  | 30 => ⟨S800000x1, .i1⟩
  | 31 => ⟨S1x1, .i32⟩
  | 32 => ⟨S800000x1, .i32⟩
  | 33 => ⟨S800000x1, .i1⟩
  | 34 => ⟨S800000x1, .i1⟩
  | 35 => ⟨S_, .i1⟩
  | 36 => ⟨S800000, .i1⟩
  | 37 => ⟨S800000x128, .f32⟩
  | 38 => ⟨S800000x128, .i1⟩
  | 39 => ⟨S_, .f32⟩
  | 40 => ⟨S800000x128, .f32⟩
  | 41 => ⟨S800000x128, .f32⟩
  | 42 => ⟨S_, .f32⟩
  | 43 => ⟨S50000x128, .f32⟩
  | 44 => ⟨S800000x1, .i32⟩
  | 45 => ⟨S50000x128, .f32⟩
  | 46 => ⟨S1x128x128, .f32⟩
  | 47 => ⟨S128x128, .f32⟩
  | 48 => ⟨S1x128x128, .f32⟩
  | 49 => ⟨S128x128, .f32⟩
  | 50 => ⟨S1x128, .f32⟩
  | 51 => ⟨S128, .f32⟩
  | 52 => ⟨S1x128, .f32⟩
  | 53 => ⟨S50000x128, .f32⟩
  | 54 => ⟨S1x128, .f32⟩
  | 55 => ⟨S1x128, .f32⟩
  | 56 => ⟨S1x128, .f32⟩
  | 57 => ⟨S1x128, .f32⟩
  | 58 => ⟨S1x128, .f32⟩
  | 59 => ⟨S128, .f32⟩
  | 60 => ⟨S1x128, .f32⟩
  | 61 => ⟨S_, .f32⟩
  | 62 => ⟨S1x128, .f32⟩
  | 63 => ⟨S1x128, .f32⟩
  | 64 => ⟨S1x128, .f32⟩
  | 65 => ⟨S1x128, .f32⟩
  | 66 => ⟨S1x128, .f32⟩
  | 67 => ⟨S128, .f32⟩
  | 68 => ⟨S1x128, .f32⟩
  | 69 => ⟨S1x128, .f32⟩
  | 70 => ⟨S1x128, .f32⟩
  | 71 => ⟨S50000x128, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S1, .i32⟩
  | 81 => ⟨S_, .i32⟩
  | 82 => ⟨S800000x1, .i32⟩
  | 83 => ⟨S800000x1, .i1⟩
  | 84 => ⟨S1x1, .i32⟩
  | 85 => ⟨S800000x1, .i32⟩
  | 86 => ⟨S800000x1, .i1⟩
  | 87 => ⟨S800000x1, .i1⟩
  | 88 => ⟨S_, .i1⟩
  | 89 => ⟨S800000, .i1⟩
  | 90 => ⟨S800000x128, .f32⟩
  | 91 => ⟨S800000x128, .i1⟩
  | 92 => ⟨S_, .f32⟩
  | 93 => ⟨S800000x128, .f32⟩
  | 94 => ⟨S800000x128, .f32⟩
  | 95 => ⟨S_, .f32⟩
  | 96 => ⟨S50000x128, .f32⟩
  | 97 => ⟨S800000x1, .i32⟩
  | 98 => ⟨S50000x128, .f32⟩
  | 99 => ⟨S1x128x128, .f32⟩
  | 100 => ⟨S128x128, .f32⟩
  | 101 => ⟨S1x128x128, .f32⟩
  | 102 => ⟨S128x128, .f32⟩
  | 103 => ⟨S1x128, .f32⟩
  | 104 => ⟨S128, .f32⟩
  | 105 => ⟨S1x128, .f32⟩
  | 106 => ⟨S50000x128, .f32⟩
  | 107 => ⟨S1x128, .f32⟩
  | 108 => ⟨S1x128, .f32⟩
  | 109 => ⟨S1x128, .f32⟩
  | 110 => ⟨S1x128, .f32⟩
  | 111 => ⟨S1x128, .f32⟩
  | 112 => ⟨S128, .f32⟩
  | 113 => ⟨S1x128, .f32⟩
  | 114 => ⟨S_, .f32⟩
  | 115 => ⟨S1x128, .f32⟩
  | 116 => ⟨S1x128, .f32⟩
  | 117 => ⟨S1x128, .f32⟩
  | 118 => ⟨S1x128, .f32⟩
  | 119 => ⟨S1x128, .f32⟩
  | 120 => ⟨S128, .f32⟩
  | 121 => ⟨S1x128, .f32⟩
  | 122 => ⟨S1x128, .f32⟩
  | 123 => ⟨S1x128, .f32⟩
  | 124 => ⟨S50000x128, .f32⟩
  | 125 => ⟨S_, .i32⟩
  | 126 => ⟨S800000, .i32⟩
  | 127 => ⟨S800000, .i1⟩
  | _ => ⟨S50000x2, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S1, .i32⟩
  | 6 => ⟨S_, .i32⟩
  | 7 => ⟨S800000x1, .i32⟩
  | 8 => ⟨S800000x1, .i1⟩
  | 9 => ⟨S1x1, .i32⟩
  | 10 => ⟨S800000x1, .i32⟩
  | 11 => ⟨S800000x1, .i1⟩
  | 12 => ⟨S800000x1, .i1⟩
  | 13 => ⟨S_, .i1⟩
  | 14 => ⟨S800000, .i1⟩
  | 15 => ⟨S800000x128, .f32⟩
  | 16 => ⟨S800000x128, .i1⟩
  | 17 => ⟨S_, .f32⟩
  | 18 => ⟨S800000x128, .f32⟩
  | 19 => ⟨S800000x128, .f32⟩
  | 20 => ⟨S_, .f32⟩
  | 21 => ⟨S50000x128, .f32⟩
  | 22 => ⟨S800000x1, .i32⟩
  | 23 => ⟨S50000x128, .f32⟩
  | 24 => ⟨S1x128x128, .f32⟩
  | 25 => ⟨S128x128, .f32⟩
  | 26 => ⟨S1x128x128, .f32⟩
  | 27 => ⟨S128x128, .f32⟩
  | 28 => ⟨S1x128, .f32⟩
  | 29 => ⟨S128, .f32⟩
  | 30 => ⟨S1x128, .f32⟩
  | 31 => ⟨S50000x128, .f32⟩
  | 32 => ⟨S1x128, .f32⟩
  | 33 => ⟨S1x128, .f32⟩
  | 34 => ⟨S1x128, .f32⟩
  | 35 => ⟨S1x128, .f32⟩
  | 36 => ⟨S1x128, .f32⟩
  | 37 => ⟨S128, .f32⟩
  | 38 => ⟨S1x128, .f32⟩
  | 39 => ⟨S_, .f32⟩
  | 40 => ⟨S1x128, .f32⟩
  | 41 => ⟨S1x128, .f32⟩
  | 42 => ⟨S1x128, .f32⟩
  | 43 => ⟨S1x128, .f32⟩
  | 44 => ⟨S1x128, .f32⟩
  | 45 => ⟨S128, .f32⟩
  | 46 => ⟨S1x128, .f32⟩
  | 47 => ⟨S1x128, .f32⟩
  | 48 => ⟨S1x128, .f32⟩
  | 49 => ⟨S50000x128, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S1, .i32⟩
  | 59 => ⟨S_, .i32⟩
  | 60 => ⟨S800000x1, .i32⟩
  | 61 => ⟨S800000x1, .i1⟩
  | 62 => ⟨S1x1, .i32⟩
  | 63 => ⟨S800000x1, .i32⟩
  | 64 => ⟨S800000x1, .i1⟩
  | 65 => ⟨S800000x1, .i1⟩
  | 66 => ⟨S_, .i1⟩
  | 67 => ⟨S800000, .i1⟩
  | 68 => ⟨S800000x128, .f32⟩
  | 69 => ⟨S800000x128, .i1⟩
  | 70 => ⟨S_, .f32⟩
  | 71 => ⟨S800000x128, .f32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S1x128x128, .f32⟩
  | 78 => ⟨S128x128, .f32⟩
  | 79 => ⟨S1x128x128, .f32⟩
  | 80 => ⟨S128x128, .f32⟩
  | 81 => ⟨S1x128, .f32⟩
  | 82 => ⟨S128, .f32⟩
  | 83 => ⟨S1x128, .f32⟩
  | 84 => ⟨S50000x128, .f32⟩
  | 85 => ⟨S1x128, .f32⟩
  | 86 => ⟨S1x128, .f32⟩
  | 87 => ⟨S1x128, .f32⟩
  | 88 => ⟨S1x128, .f32⟩
  | 89 => ⟨S1x128, .f32⟩
  | 90 => ⟨S128, .f32⟩
  | 91 => ⟨S1x128, .f32⟩
  | 92 => ⟨S_, .f32⟩
  | 93 => ⟨S1x128, .f32⟩
  | 94 => ⟨S1x128, .f32⟩
  | 95 => ⟨S1x128, .f32⟩
  | 96 => ⟨S1x128, .f32⟩
  | 97 => ⟨S1x128, .f32⟩
  | 98 => ⟨S128, .f32⟩
  | 99 => ⟨S1x128, .f32⟩
  | 100 => ⟨S1x128, .f32⟩
  | 101 => ⟨S1x128, .f32⟩
  | 102 => ⟨S50000x128, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S1, .i32⟩
  | 112 => ⟨S_, .i32⟩
  | 113 => ⟨S800000x1, .i32⟩
  | 114 => ⟨S800000x1, .i1⟩
  | 115 => ⟨S1x1, .i32⟩
  | 116 => ⟨S800000x1, .i32⟩
  | 117 => ⟨S800000x1, .i1⟩
  | 118 => ⟨S800000x1, .i1⟩
  | 119 => ⟨S_, .i1⟩
  | 120 => ⟨S800000, .i1⟩
  | 121 => ⟨S800000x128, .f32⟩
  | 122 => ⟨S800000x128, .i1⟩
  | 123 => ⟨S_, .f32⟩
  | 124 => ⟨S800000x128, .f32⟩
  | 125 => ⟨S800000x128, .f32⟩
  | 126 => ⟨S_, .f32⟩
  | 127 => ⟨S50000x128, .f32⟩
  | _ => ⟨S50000x2, .f32⟩

abbrev hbmTy0_2 (i : Nat) : BufTy := match i % 128 with
  | 0 => ⟨S800000x1, .i32⟩
  | 1 => ⟨S50000x128, .f32⟩
  | 2 => ⟨S1x128x128, .f32⟩
  | 3 => ⟨S128x128, .f32⟩
  | 4 => ⟨S1x128x128, .f32⟩
  | 5 => ⟨S128x128, .f32⟩
  | 6 => ⟨S1x128, .f32⟩
  | 7 => ⟨S128, .f32⟩
  | 8 => ⟨S1x128, .f32⟩
  | 9 => ⟨S50000x128, .f32⟩
  | 10 => ⟨S1x128, .f32⟩
  | 11 => ⟨S1x128, .f32⟩
  | 12 => ⟨S1x128, .f32⟩
  | 13 => ⟨S1x128, .f32⟩
  | 14 => ⟨S1x128, .f32⟩
  | 15 => ⟨S128, .f32⟩
  | 16 => ⟨S1x128, .f32⟩
  | 17 => ⟨S_, .f32⟩
  | 18 => ⟨S1x128, .f32⟩
  | 19 => ⟨S1x128, .f32⟩
  | 20 => ⟨S1x128, .f32⟩
  | 21 => ⟨S1x128, .f32⟩
  | 22 => ⟨S1x128, .f32⟩
  | 23 => ⟨S128, .f32⟩
  | 24 => ⟨S1x128, .f32⟩
  | 25 => ⟨S1x128, .f32⟩
  | 26 => ⟨S1x128, .f32⟩
  | 27 => ⟨S50000x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S1, .i32⟩
  | 37 => ⟨S_, .i32⟩
  | 38 => ⟨S800000x1, .i32⟩
  | 39 => ⟨S800000x1, .i1⟩
  | 40 => ⟨S1x1, .i32⟩
  | 41 => ⟨S800000x1, .i32⟩
  | 42 => ⟨S800000x1, .i1⟩
  | 43 => ⟨S800000x1, .i1⟩
  | 44 => ⟨S_, .i1⟩
  | 45 => ⟨S800000, .i1⟩
  | 46 => ⟨S800000x128, .f32⟩
  | 47 => ⟨S800000x128, .i1⟩
  | 48 => ⟨S_, .f32⟩
  | 49 => ⟨S800000x128, .f32⟩
  | 50 => ⟨S800000x128, .f32⟩
  | 51 => ⟨S_, .f32⟩
  | 52 => ⟨S50000x128, .f32⟩
  | 53 => ⟨S800000x1, .i32⟩
  | 54 => ⟨S50000x128, .f32⟩
  | 55 => ⟨S1x128x128, .f32⟩
  | 56 => ⟨S128x128, .f32⟩
  | 57 => ⟨S1x128x128, .f32⟩
  | 58 => ⟨S128x128, .f32⟩
  | 59 => ⟨S1x128, .f32⟩
  | 60 => ⟨S128, .f32⟩
  | 61 => ⟨S1x128, .f32⟩
  | 62 => ⟨S50000x128, .f32⟩
  | 63 => ⟨S1x128, .f32⟩
  | 64 => ⟨S1x128, .f32⟩
  | 65 => ⟨S1x128, .f32⟩
  | 66 => ⟨S1x128, .f32⟩
  | 67 => ⟨S1x128, .f32⟩
  | 68 => ⟨S128, .f32⟩
  | 69 => ⟨S1x128, .f32⟩
  | 70 => ⟨S_, .f32⟩
  | 71 => ⟨S1x128, .f32⟩
  | 72 => ⟨S1x128, .f32⟩
  | 73 => ⟨S1x128, .f32⟩
  | 74 => ⟨S1x128, .f32⟩
  | 75 => ⟨S1x128, .f32⟩
  | 76 => ⟨S128, .f32⟩
  | 77 => ⟨S1x128, .f32⟩
  | 78 => ⟨S1x128, .f32⟩
  | 79 => ⟨S1x128, .f32⟩
  | 80 => ⟨S50000x128, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S1, .i32⟩
  | 90 => ⟨S_, .i32⟩
  | 91 => ⟨S800000x1, .i32⟩
  | 92 => ⟨S800000x1, .i1⟩
  | 93 => ⟨S1x1, .i32⟩
  | 94 => ⟨S800000x1, .i32⟩
  | 95 => ⟨S800000x1, .i1⟩
  | 96 => ⟨S800000x1, .i1⟩
  | 97 => ⟨S_, .i1⟩
  | 98 => ⟨S800000, .i1⟩
  | 99 => ⟨S800000x128, .f32⟩
  | 100 => ⟨S800000x128, .i1⟩
  | 101 => ⟨S_, .f32⟩
  | 102 => ⟨S800000x128, .f32⟩
  | 103 => ⟨S800000x128, .f32⟩
  | 104 => ⟨S_, .f32⟩
  | 105 => ⟨S50000x128, .f32⟩
  | 106 => ⟨S800000x1, .i32⟩
  | 107 => ⟨S50000x128, .f32⟩
  | 108 => ⟨S1x128x128, .f32⟩
  | 109 => ⟨S128x128, .f32⟩
  | 110 => ⟨S1x128x128, .f32⟩
  | 111 => ⟨S128x128, .f32⟩
  | 112 => ⟨S1x128, .f32⟩
  | 113 => ⟨S128, .f32⟩
  | 114 => ⟨S1x128, .f32⟩
  | 115 => ⟨S50000x128, .f32⟩
  | 116 => ⟨S1x128, .f32⟩
  | 117 => ⟨S1x128, .f32⟩
  | 118 => ⟨S1x128, .f32⟩
  | 119 => ⟨S1x128, .f32⟩
  | 120 => ⟨S1x128, .f32⟩
  | 121 => ⟨S128, .f32⟩
  | 122 => ⟨S1x128, .f32⟩
  | 123 => ⟨S_, .f32⟩
  | 124 => ⟨S1x128, .f32⟩
  | 125 => ⟨S1x128, .f32⟩
  | 126 => ⟨S1x128, .f32⟩
  | 127 => ⟨S1x128, .f32⟩
  | _ => ⟨S50000x2, .f32⟩

abbrev hbmTy0_3 (i : Nat) : BufTy := match i % 128 with
  | 0 => ⟨S1x128, .f32⟩
  | 1 => ⟨S128, .f32⟩
  | 2 => ⟨S1x128, .f32⟩
  | 3 => ⟨S1x128, .f32⟩
  | 4 => ⟨S1x128, .f32⟩
  | 5 => ⟨S50000x128, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S1, .i32⟩
  | 15 => ⟨S_, .i32⟩
  | 16 => ⟨S800000x1, .i32⟩
  | 17 => ⟨S800000x1, .i1⟩
  | 18 => ⟨S1x1, .i32⟩
  | 19 => ⟨S800000x1, .i32⟩
  | 20 => ⟨S800000x1, .i1⟩
  | 21 => ⟨S800000x1, .i1⟩
  | 22 => ⟨S_, .i1⟩
  | 23 => ⟨S800000, .i1⟩
  | 24 => ⟨S800000x128, .f32⟩
  | 25 => ⟨S800000x128, .i1⟩
  | 26 => ⟨S_, .f32⟩
  | 27 => ⟨S800000x128, .f32⟩
  | 28 => ⟨S800000x128, .f32⟩
  | 29 => ⟨S_, .f32⟩
  | 30 => ⟨S50000x128, .f32⟩
  | 31 => ⟨S800000x1, .i32⟩
  | 32 => ⟨S50000x128, .f32⟩
  | 33 => ⟨S1x128x128, .f32⟩
  | 34 => ⟨S128x128, .f32⟩
  | 35 => ⟨S1x128x128, .f32⟩
  | 36 => ⟨S128x128, .f32⟩
  | 37 => ⟨S1x128, .f32⟩
  | 38 => ⟨S128, .f32⟩
  | 39 => ⟨S1x128, .f32⟩
  | 40 => ⟨S50000x128, .f32⟩
  | 41 => ⟨S1x128, .f32⟩
  | 42 => ⟨S1x128, .f32⟩
  | 43 => ⟨S1x128, .f32⟩
  | 44 => ⟨S1x128, .f32⟩
  | 45 => ⟨S1x128, .f32⟩
  | 46 => ⟨S128, .f32⟩
  | 47 => ⟨S1x128, .f32⟩
  | 48 => ⟨S_, .f32⟩
  | 49 => ⟨S1x128, .f32⟩
  | 50 => ⟨S1x128, .f32⟩
  | 51 => ⟨S1x128, .f32⟩
  | 52 => ⟨S1x128, .f32⟩
  | 53 => ⟨S1x128, .f32⟩
  | 54 => ⟨S128, .f32⟩
  | 55 => ⟨S1x128, .f32⟩
  | 56 => ⟨S1x128, .f32⟩
  | 57 => ⟨S1x128, .f32⟩
  | 58 => ⟨S50000x128, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S1, .i32⟩
  | 68 => ⟨S_, .i32⟩
  | 69 => ⟨S800000x1, .i32⟩
  | 70 => ⟨S800000x1, .i1⟩
  | 71 => ⟨S1x1, .i32⟩
  | 72 => ⟨S800000x1, .i32⟩
  | 73 => ⟨S800000x1, .i1⟩
  | 74 => ⟨S800000x1, .i1⟩
  | 75 => ⟨S_, .i1⟩
  | 76 => ⟨S800000, .i1⟩
  | 77 => ⟨S800000x128, .f32⟩
  | 78 => ⟨S800000x128, .i1⟩
  | 79 => ⟨S_, .f32⟩
  | 80 => ⟨S800000x128, .f32⟩
  | 81 => ⟨S800000x128, .f32⟩
  | 82 => ⟨S_, .f32⟩
  | 83 => ⟨S50000x128, .f32⟩
  | 84 => ⟨S800000x1, .i32⟩
  | 85 => ⟨S50000x128, .f32⟩
  | 86 => ⟨S1x128x128, .f32⟩
  | 87 => ⟨S128x128, .f32⟩
  | 88 => ⟨S1x128x128, .f32⟩
  | 89 => ⟨S128x128, .f32⟩
  | 90 => ⟨S1x128, .f32⟩
  | 91 => ⟨S128, .f32⟩
  | 92 => ⟨S1x128, .f32⟩
  | 93 => ⟨S50000x128, .f32⟩
  | 94 => ⟨S1x128, .f32⟩
  | 95 => ⟨S1x128, .f32⟩
  | 96 => ⟨S1x128, .f32⟩
  | 97 => ⟨S1x128, .f32⟩
  | 98 => ⟨S1x128, .f32⟩
  | 99 => ⟨S128, .f32⟩
  | 100 => ⟨S1x128, .f32⟩
  | 101 => ⟨S_, .f32⟩
  | 102 => ⟨S1x128, .f32⟩
  | 103 => ⟨S1x128, .f32⟩
  | 104 => ⟨S1x128, .f32⟩
  | 105 => ⟨S1x128, .f32⟩
  | 106 => ⟨S1x128, .f32⟩
  | 107 => ⟨S128, .f32⟩
  | 108 => ⟨S1x128, .f32⟩
  | 109 => ⟨S1x128, .f32⟩
  | 110 => ⟨S1x128, .f32⟩
  | 111 => ⟨S50000x128, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S1, .i32⟩
  | 121 => ⟨S_, .i32⟩
  | 122 => ⟨S800000x1, .i32⟩
  | 123 => ⟨S800000x1, .i1⟩
  | 124 => ⟨S1x1, .i32⟩
  | 125 => ⟨S800000x1, .i32⟩
  | 126 => ⟨S800000x1, .i1⟩
  | 127 => ⟨S800000x1, .i1⟩
  | _ => ⟨S50000x2, .f32⟩

abbrev hbmTy0_4 (i : Nat) : BufTy := match i % 128 with
  | 0 => ⟨S_, .i1⟩
  | 1 => ⟨S800000, .i1⟩
  | 2 => ⟨S800000x128, .f32⟩
  | 3 => ⟨S800000x128, .i1⟩
  | 4 => ⟨S_, .f32⟩
  | 5 => ⟨S800000x128, .f32⟩
  | 6 => ⟨S800000x128, .f32⟩
  | 7 => ⟨S_, .f32⟩
  | 8 => ⟨S50000x128, .f32⟩
  | 9 => ⟨S800000x1, .i32⟩
  | 10 => ⟨S50000x128, .f32⟩
  | 11 => ⟨S1x128x128, .f32⟩
  | 12 => ⟨S128x128, .f32⟩
  | 13 => ⟨S1x128x128, .f32⟩
  | 14 => ⟨S128x128, .f32⟩
  | 15 => ⟨S1x128, .f32⟩
  | 16 => ⟨S128, .f32⟩
  | 17 => ⟨S1x128, .f32⟩
  | 18 => ⟨S50000x128, .f32⟩
  | 19 => ⟨S1x128, .f32⟩
  | 20 => ⟨S1x128, .f32⟩
  | 21 => ⟨S1x128, .f32⟩
  | 22 => ⟨S1x128, .f32⟩
  | 23 => ⟨S1x128, .f32⟩
  | 24 => ⟨S128, .f32⟩
  | 25 => ⟨S1x128, .f32⟩
  | 26 => ⟨S_, .f32⟩
  | 27 => ⟨S1x128, .f32⟩
  | 28 => ⟨S1x128, .f32⟩
  | 29 => ⟨S1x128, .f32⟩
  | 30 => ⟨S1x128, .f32⟩
  | 31 => ⟨S1x128, .f32⟩
  | 32 => ⟨S128, .f32⟩
  | 33 => ⟨S1x128, .f32⟩
  | 34 => ⟨S1x128, .f32⟩
  | 35 => ⟨S1x128, .f32⟩
  | 36 => ⟨S50000x128, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S1, .i32⟩
  | 46 => ⟨S_, .i32⟩
  | 47 => ⟨S800000x1, .i32⟩
  | 48 => ⟨S800000x1, .i1⟩
  | 49 => ⟨S1x1, .i32⟩
  | 50 => ⟨S800000x1, .i32⟩
  | 51 => ⟨S800000x1, .i1⟩
  | 52 => ⟨S800000x1, .i1⟩
  | 53 => ⟨S_, .i1⟩
  | 54 => ⟨S800000, .i1⟩
  | 55 => ⟨S800000x128, .f32⟩
  | 56 => ⟨S800000x128, .i1⟩
  | 57 => ⟨S_, .f32⟩
  | 58 => ⟨S800000x128, .f32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S1x128x128, .f32⟩
  | 65 => ⟨S128x128, .f32⟩
  | 66 => ⟨S1x128x128, .f32⟩
  | 67 => ⟨S128x128, .f32⟩
  | 68 => ⟨S1x128, .f32⟩
  | 69 => ⟨S128, .f32⟩
  | 70 => ⟨S1x128, .f32⟩
  | 71 => ⟨S50000x128, .f32⟩
  | 72 => ⟨S1x128, .f32⟩
  | 73 => ⟨S1x128, .f32⟩
  | 74 => ⟨S1x128, .f32⟩
  | 75 => ⟨S1x128, .f32⟩
  | 76 => ⟨S1x128, .f32⟩
  | 77 => ⟨S128, .f32⟩
  | 78 => ⟨S1x128, .f32⟩
  | 79 => ⟨S_, .f32⟩
  | 80 => ⟨S1x128, .f32⟩
  | 81 => ⟨S1x128, .f32⟩
  | 82 => ⟨S1x128, .f32⟩
  | 83 => ⟨S1x128, .f32⟩
  | 84 => ⟨S1x128, .f32⟩
  | 85 => ⟨S128, .f32⟩
  | 86 => ⟨S1x128, .f32⟩
  | 87 => ⟨S1x128, .f32⟩
  | 88 => ⟨S1x128, .f32⟩
  | 89 => ⟨S50000x128, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S1, .i32⟩
  | 99 => ⟨S_, .i32⟩
  | 100 => ⟨S800000x1, .i32⟩
  | 101 => ⟨S800000x1, .i1⟩
  | 102 => ⟨S1x1, .i32⟩
  | 103 => ⟨S800000x1, .i32⟩
  | 104 => ⟨S800000x1, .i1⟩
  | 105 => ⟨S800000x1, .i1⟩
  | 106 => ⟨S_, .i1⟩
  | 107 => ⟨S800000, .i1⟩
  | 108 => ⟨S800000x128, .f32⟩
  | 109 => ⟨S800000x128, .i1⟩
  | 110 => ⟨S_, .f32⟩
  | 111 => ⟨S800000x128, .f32⟩
  | 112 => ⟨S800000x128, .f32⟩
  | 113 => ⟨S_, .f32⟩
  | 114 => ⟨S50000x128, .f32⟩
  | 115 => ⟨S800000x1, .i32⟩
  | 116 => ⟨S50000x128, .f32⟩
  | 117 => ⟨S1x128x128, .f32⟩
  | 118 => ⟨S128x128, .f32⟩
  | 119 => ⟨S1x128x128, .f32⟩
  | 120 => ⟨S128x128, .f32⟩
  | 121 => ⟨S1x128, .f32⟩
  | 122 => ⟨S128, .f32⟩
  | 123 => ⟨S1x128, .f32⟩
  | 124 => ⟨S50000x128, .f32⟩
  | 125 => ⟨S1x128, .f32⟩
  | 126 => ⟨S1x128, .f32⟩
  | 127 => ⟨S1x128, .f32⟩
  | _ => ⟨S50000x2, .f32⟩

abbrev hbmTy0_5 (i : Nat) : BufTy := match i % 128 with
  | 0 => ⟨S1x128, .f32⟩
  | 1 => ⟨S1x128, .f32⟩
  | 2 => ⟨S128, .f32⟩
  | 3 => ⟨S1x128, .f32⟩
  | 4 => ⟨S_, .f32⟩
  | 5 => ⟨S1x128, .f32⟩
  | 6 => ⟨S1x128, .f32⟩
  | 7 => ⟨S1x128, .f32⟩
  | 8 => ⟨S1x128, .f32⟩
  | 9 => ⟨S1x128, .f32⟩
  | 10 => ⟨S128, .f32⟩
  | 11 => ⟨S1x128, .f32⟩
  | 12 => ⟨S1x128, .f32⟩
  | 13 => ⟨S1x128, .f32⟩
  | 14 => ⟨S50000x128, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S1, .i32⟩
  | 24 => ⟨S_, .i32⟩
  | 25 => ⟨S800000x1, .i32⟩
  | 26 => ⟨S800000x1, .i1⟩
  | 27 => ⟨S1x1, .i32⟩
  | 28 => ⟨S800000x1, .i32⟩
  | 29 => ⟨S800000x1, .i1⟩
  | 30 => ⟨S800000x1, .i1⟩
  | 31 => ⟨S_, .i1⟩
  | 32 => ⟨S800000, .i1⟩
  | 33 => ⟨S800000x128, .f32⟩
  | 34 => ⟨S800000x128, .i1⟩
  | 35 => ⟨S_, .f32⟩
  | 36 => ⟨S800000x128, .f32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S1x128x128, .f32⟩
  | 43 => ⟨S128x128, .f32⟩
  | 44 => ⟨S1x128x128, .f32⟩
  | 45 => ⟨S128x128, .f32⟩
  | 46 => ⟨S1x128, .f32⟩
  | 47 => ⟨S128, .f32⟩
  | 48 => ⟨S1x128, .f32⟩
  | 49 => ⟨S50000x128, .f32⟩
  | 50 => ⟨S1x128, .f32⟩
  | 51 => ⟨S1x128, .f32⟩
  | 52 => ⟨S1x128, .f32⟩
  | 53 => ⟨S1x128, .f32⟩
  | 54 => ⟨S1x128, .f32⟩
  | 55 => ⟨S128, .f32⟩
  | 56 => ⟨S1x128, .f32⟩
  | 57 => ⟨S_, .f32⟩
  | 58 => ⟨S1x128, .f32⟩
  | 59 => ⟨S1x128, .f32⟩
  | 60 => ⟨S1x128, .f32⟩
  | 61 => ⟨S1x128, .f32⟩
  | 62 => ⟨S1x128, .f32⟩
  | 63 => ⟨S128, .f32⟩
  | 64 => ⟨S1x128, .f32⟩
  | 65 => ⟨S1x128, .f32⟩
  | 66 => ⟨S1x128, .f32⟩
  | 67 => ⟨S50000x128, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S1, .i32⟩
  | 77 => ⟨S_, .i32⟩
  | 78 => ⟨S800000x1, .i32⟩
  | 79 => ⟨S800000x1, .i1⟩
  | 80 => ⟨S1x1, .i32⟩
  | 81 => ⟨S800000x1, .i32⟩
  | 82 => ⟨S800000x1, .i1⟩
  | 83 => ⟨S800000x1, .i1⟩
  | 84 => ⟨S_, .i1⟩
  | 85 => ⟨S800000, .i1⟩
  | 86 => ⟨S800000x128, .f32⟩
  | 87 => ⟨S800000x128, .i1⟩
  | 88 => ⟨S_, .f32⟩
  | 89 => ⟨S800000x128, .f32⟩
  | 90 => ⟨S800000x128, .f32⟩
  | 91 => ⟨S_, .f32⟩
  | 92 => ⟨S50000x128, .f32⟩
  | 93 => ⟨S800000x1, .i32⟩
  | 94 => ⟨S50000x128, .f32⟩
  | 95 => ⟨S1x128x128, .f32⟩
  | 96 => ⟨S128x128, .f32⟩
  | 97 => ⟨S1x128x128, .f32⟩
  | 98 => ⟨S128x128, .f32⟩
  | 99 => ⟨S1x128, .f32⟩
  | 100 => ⟨S128, .f32⟩
  | 101 => ⟨S1x128, .f32⟩
  | 102 => ⟨S50000x128, .f32⟩
  | 103 => ⟨S1x128, .f32⟩
  | 104 => ⟨S1x128, .f32⟩
  | 105 => ⟨S1x128, .f32⟩
  | 106 => ⟨S1x128, .f32⟩
  | 107 => ⟨S1x128, .f32⟩
  | 108 => ⟨S128, .f32⟩
  | 109 => ⟨S1x128, .f32⟩
  | 110 => ⟨S_, .f32⟩
  | 111 => ⟨S1x128, .f32⟩
  | 112 => ⟨S1x128, .f32⟩
  | 113 => ⟨S1x128, .f32⟩
  | 114 => ⟨S1x128, .f32⟩
  | 115 => ⟨S1x128, .f32⟩
  | 116 => ⟨S128, .f32⟩
  | 117 => ⟨S1x128, .f32⟩
  | 118 => ⟨S1x128, .f32⟩
  | 119 => ⟨S1x128, .f32⟩
  | 120 => ⟨S50000x128, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x2, .f32⟩

abbrev hbmTy0_6 (i : Nat) : BufTy := match i % 128 with
  | 0 => ⟨S800000x1, .i32⟩
  | 1 => ⟨S1, .i32⟩
  | 2 => ⟨S_, .i32⟩
  | 3 => ⟨S800000x1, .i32⟩
  | 4 => ⟨S800000x1, .i1⟩
  | 5 => ⟨S1x1, .i32⟩
  | 6 => ⟨S800000x1, .i32⟩
  | 7 => ⟨S800000x1, .i1⟩
  | 8 => ⟨S800000x1, .i1⟩
  | 9 => ⟨S_, .i1⟩
  | 10 => ⟨S800000, .i1⟩
  | 11 => ⟨S800000x128, .f32⟩
  | 12 => ⟨S800000x128, .i1⟩
  | 13 => ⟨S_, .f32⟩
  | 14 => ⟨S800000x128, .f32⟩
  | 15 => ⟨S800000x128, .f32⟩
  | 16 => ⟨S_, .f32⟩
  | 17 => ⟨S50000x128, .f32⟩
  | 18 => ⟨S800000x1, .i32⟩
  | 19 => ⟨S50000x128, .f32⟩
  | 20 => ⟨S1x128x128, .f32⟩
  | 21 => ⟨S128x128, .f32⟩
  | 22 => ⟨S1x128x128, .f32⟩
  | 23 => ⟨S128x128, .f32⟩
  | 24 => ⟨S1x128, .f32⟩
  | 25 => ⟨S128, .f32⟩
  | 26 => ⟨S1x128, .f32⟩
  | 27 => ⟨S50000x128, .f32⟩
  | 28 => ⟨S1x128, .f32⟩
  | 29 => ⟨S1x128, .f32⟩
  | 30 => ⟨S1x128, .f32⟩
  | 31 => ⟨S1x128, .f32⟩
  | 32 => ⟨S1x128, .f32⟩
  | 33 => ⟨S128, .f32⟩
  | 34 => ⟨S1x128, .f32⟩
  | 35 => ⟨S_, .f32⟩
  | 36 => ⟨S1x128, .f32⟩
  | 37 => ⟨S1x128, .f32⟩
  | 38 => ⟨S1x128, .f32⟩
  | 39 => ⟨S1x128, .f32⟩
  | 40 => ⟨S1x128, .f32⟩
  | 41 => ⟨S128, .f32⟩
  | 42 => ⟨S1x128, .f32⟩
  | 43 => ⟨S1x128, .f32⟩
  | 44 => ⟨S1x128, .f32⟩
  | 45 => ⟨S50000x128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S1, .i32⟩
  | 55 => ⟨S_, .i32⟩
  | 56 => ⟨S800000x1, .i32⟩
  | 57 => ⟨S800000x1, .i1⟩
  | 58 => ⟨S1x1, .i32⟩
  | 59 => ⟨S800000x1, .i32⟩
  | 60 => ⟨S800000x1, .i1⟩
  | 61 => ⟨S800000x1, .i1⟩
  | 62 => ⟨S_, .i1⟩
  | 63 => ⟨S800000, .i1⟩
  | 64 => ⟨S800000x128, .f32⟩
  | 65 => ⟨S800000x128, .i1⟩
  | 66 => ⟨S_, .f32⟩
  | 67 => ⟨S800000x128, .f32⟩
  | 68 => ⟨S800000x128, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S1, .i32⟩
  | 78 => ⟨S_, .i32⟩
  | 79 => ⟨S800000x1, .i32⟩
  | 80 => ⟨S800000x1, .i1⟩
  | 81 => ⟨S1x1, .i32⟩
  | 82 => ⟨S800000x1, .i32⟩
  | 83 => ⟨S800000x1, .i1⟩
  | 84 => ⟨S800000x1, .i1⟩
  | 85 => ⟨S_, .i1⟩
  | 86 => ⟨S800000, .i1⟩
  | 87 => ⟨S800000x128, .f32⟩
  | 88 => ⟨S800000x128, .i1⟩
  | 89 => ⟨S_, .f32⟩
  | 90 => ⟨S800000x128, .f32⟩
  | 91 => ⟨S800000x128, .f32⟩
  | 92 => ⟨S_, .f32⟩
  | 93 => ⟨S128x128, .f32⟩
  | 94 => ⟨S_, .i32⟩
  | 95 => ⟨S1, .i32⟩
  | 96 => ⟨S128x128, .f32⟩
  | 97 => ⟨S128x128, .f32⟩
  | 98 => ⟨S128x128, .f32⟩
  | 99 => ⟨S1x128, .f32⟩
  | 100 => ⟨S1x128, .f32⟩
  | 101 => ⟨S1x1, .f32⟩
  | 102 => ⟨S800000x1, .f32⟩
  | _ => ⟨S50000x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S50000x2, .f32⟩

abbrev vmemTy0_0 (i : Nat) : BufTy := match i % 128 with
  | 0 => ⟨S1000x2, .f32⟩
  | 1 => ⟨S1000x2, .f32⟩
  | 2 => ⟨S2x128, .f32⟩
  | 3 => ⟨S1000x128, .f32⟩
  | 4 => ⟨S1000x128, .f32⟩
  | 5 => ⟨S1000x128, .f32⟩
  | 6 => ⟨S1000x128, .f32⟩
  | 7 => ⟨S1000x128, .f32⟩
  | 8 => ⟨S1000x128, .f32⟩
  | 9 => ⟨S128x128, .f32⟩
  | 10 => ⟨S128x128, .f32⟩
  | 11 => ⟨S1x128, .f32⟩
  | 12 => ⟨S1000x128, .f32⟩
  | 13 => ⟨S1000x128, .f32⟩
  | 14 => ⟨S1x128, .f32⟩
  | 15 => ⟨S1x128, .f32⟩
  | 16 => ⟨S1000x128, .f32⟩
  | 17 => ⟨S1000x128, .f32⟩
  | 18 => ⟨S1000x128, .f32⟩
  | 19 => ⟨S1000x128, .f32⟩
  | 20 => ⟨S1x128, .f32⟩
  | 21 => ⟨S1x128, .f32⟩
  | 22 => ⟨S1000x128, .f32⟩
  | 23 => ⟨S1000x128, .f32⟩
  | 24 => ⟨S1000x128, .f32⟩
  | 25 => ⟨S1000x128, .f32⟩
  | 26 => ⟨S1000x128, .f32⟩
  | 27 => ⟨S1000x128, .f32⟩
  | 28 => ⟨S128x128, .f32⟩
  | 29 => ⟨S128x128, .f32⟩
  | 30 => ⟨S1x128, .f32⟩
  | 31 => ⟨S1000x128, .f32⟩
  | 32 => ⟨S1000x128, .f32⟩
  | 33 => ⟨S1x128, .f32⟩
  | 34 => ⟨S1x128, .f32⟩
  | 35 => ⟨S1000x128, .f32⟩
  | 36 => ⟨S1000x128, .f32⟩
  | 37 => ⟨S1000x128, .f32⟩
  | 38 => ⟨S1000x128, .f32⟩
  | 39 => ⟨S1x128, .f32⟩
  | 40 => ⟨S1x128, .f32⟩
  | 41 => ⟨S1000x128, .f32⟩
  | 42 => ⟨S1000x128, .f32⟩
  | 43 => ⟨S1000x128, .f32⟩
  | 44 => ⟨S1000x128, .f32⟩
  | 45 => ⟨S1000x128, .f32⟩
  | 46 => ⟨S1000x128, .f32⟩
  | 47 => ⟨S128x128, .f32⟩
  | 48 => ⟨S128x128, .f32⟩
  | 49 => ⟨S1x128, .f32⟩
  | 50 => ⟨S1000x128, .f32⟩
  | 51 => ⟨S1000x128, .f32⟩
  | 52 => ⟨S1x128, .f32⟩
  | 53 => ⟨S1x128, .f32⟩
  | 54 => ⟨S1000x128, .f32⟩
  | 55 => ⟨S1000x128, .f32⟩
  | 56 => ⟨S1000x128, .f32⟩
  | 57 => ⟨S1000x128, .f32⟩
  | 58 => ⟨S1x128, .f32⟩
  | 59 => ⟨S1x128, .f32⟩
  | 60 => ⟨S1000x128, .f32⟩
  | 61 => ⟨S1000x128, .f32⟩
  | 62 => ⟨S1000x128, .f32⟩
  | 63 => ⟨S1000x128, .f32⟩
  | 64 => ⟨S1000x128, .f32⟩
  | 65 => ⟨S1000x128, .f32⟩
  | 66 => ⟨S128x128, .f32⟩
  | 67 => ⟨S128x128, .f32⟩
  | 68 => ⟨S1x128, .f32⟩
  | 69 => ⟨S1000x128, .f32⟩
  | 70 => ⟨S1000x128, .f32⟩
  | 71 => ⟨S1x128, .f32⟩
  | 72 => ⟨S1x128, .f32⟩
  | 73 => ⟨S1000x128, .f32⟩
  | 74 => ⟨S1000x128, .f32⟩
  | 75 => ⟨S1000x128, .f32⟩
  | 76 => ⟨S1000x128, .f32⟩
  | 77 => ⟨S1x128, .f32⟩
  | 78 => ⟨S1x128, .f32⟩
  | 79 => ⟨S1000x128, .f32⟩
  | 80 => ⟨S1000x128, .f32⟩
  | 81 => ⟨S1000x128, .f32⟩
  | 82 => ⟨S1000x128, .f32⟩
  | 83 => ⟨S1000x128, .f32⟩
  | 84 => ⟨S1000x128, .f32⟩
  | 85 => ⟨S128x128, .f32⟩
  | 86 => ⟨S128x128, .f32⟩
  | 87 => ⟨S1x128, .f32⟩
  | 88 => ⟨S1000x128, .f32⟩
  | 89 => ⟨S1000x128, .f32⟩
  | 90 => ⟨S1x128, .f32⟩
  | 91 => ⟨S1x128, .f32⟩
  | 92 => ⟨S1000x128, .f32⟩
  | 93 => ⟨S1000x128, .f32⟩
  | 94 => ⟨S1000x128, .f32⟩
  | 95 => ⟨S1000x128, .f32⟩
  | 96 => ⟨S1x128, .f32⟩
  | 97 => ⟨S1x128, .f32⟩
  | 98 => ⟨S1000x128, .f32⟩
  | 99 => ⟨S1000x128, .f32⟩
  | 100 => ⟨S1000x128, .f32⟩
  | 101 => ⟨S1000x128, .f32⟩
  | 102 => ⟨S1000x128, .f32⟩
  | 103 => ⟨S1000x128, .f32⟩
  | 104 => ⟨S128x128, .f32⟩
  | 105 => ⟨S128x128, .f32⟩
  | 106 => ⟨S1x128, .f32⟩
  | 107 => ⟨S1000x128, .f32⟩
  | 108 => ⟨S1000x128, .f32⟩
  | 109 => ⟨S1x128, .f32⟩
  | 110 => ⟨S1x128, .f32⟩
  | 111 => ⟨S1000x128, .f32⟩
  | 112 => ⟨S1000x128, .f32⟩
  | 113 => ⟨S1000x128, .f32⟩
  | 114 => ⟨S1000x128, .f32⟩
  | 115 => ⟨S1x128, .f32⟩
  | 116 => ⟨S1x128, .f32⟩
  | 117 => ⟨S1000x128, .f32⟩
  | 118 => ⟨S1000x128, .f32⟩
  | 119 => ⟨S1000x128, .f32⟩
  | 120 => ⟨S1000x128, .f32⟩
  | 121 => ⟨S1000x128, .f32⟩
  | 122 => ⟨S1000x128, .f32⟩
  | 123 => ⟨S128x128, .f32⟩
  | 124 => ⟨S128x128, .f32⟩
  | 125 => ⟨S1x128, .f32⟩
  | 126 => ⟨S1000x128, .f32⟩
  | 127 => ⟨S1000x128, .f32⟩
  | _ => ⟨S50000x2, .f32⟩

abbrev vmemTy0_1 (i : Nat) : BufTy := match i % 128 with
  | 0 => ⟨S1x128, .f32⟩
  | 1 => ⟨S1x128, .f32⟩
  | 2 => ⟨S1000x128, .f32⟩
  | 3 => ⟨S1000x128, .f32⟩
  | 4 => ⟨S1000x128, .f32⟩
  | 5 => ⟨S1000x128, .f32⟩
  | 6 => ⟨S1x128, .f32⟩
  | 7 => ⟨S1x128, .f32⟩
  | 8 => ⟨S1000x128, .f32⟩
  | 9 => ⟨S1000x128, .f32⟩
  | 10 => ⟨S1000x128, .f32⟩
  | 11 => ⟨S1000x128, .f32⟩
  | 12 => ⟨S1000x128, .f32⟩
  | 13 => ⟨S1000x128, .f32⟩
  | 14 => ⟨S128x128, .f32⟩
  | 15 => ⟨S128x128, .f32⟩
  | 16 => ⟨S1x128, .f32⟩
  | 17 => ⟨S1000x128, .f32⟩
  | 18 => ⟨S1000x128, .f32⟩
  | 19 => ⟨S1x128, .f32⟩
  | 20 => ⟨S1x128, .f32⟩
  | 21 => ⟨S1000x128, .f32⟩
  | 22 => ⟨S1000x128, .f32⟩
  | 23 => ⟨S1000x128, .f32⟩
  | 24 => ⟨S1000x128, .f32⟩
  | 25 => ⟨S1x128, .f32⟩
  | 26 => ⟨S1x128, .f32⟩
  | 27 => ⟨S1000x128, .f32⟩
  | 28 => ⟨S1000x128, .f32⟩
  | 29 => ⟨S1000x128, .f32⟩
  | 30 => ⟨S1000x128, .f32⟩
  | 31 => ⟨S1000x128, .f32⟩
  | 32 => ⟨S1000x128, .f32⟩
  | 33 => ⟨S128x128, .f32⟩
  | 34 => ⟨S128x128, .f32⟩
  | 35 => ⟨S1x128, .f32⟩
  | 36 => ⟨S1000x128, .f32⟩
  | 37 => ⟨S1000x128, .f32⟩
  | 38 => ⟨S1x128, .f32⟩
  | 39 => ⟨S1x128, .f32⟩
  | 40 => ⟨S1000x128, .f32⟩
  | 41 => ⟨S1000x128, .f32⟩
  | 42 => ⟨S1000x128, .f32⟩
  | 43 => ⟨S1000x128, .f32⟩
  | 44 => ⟨S1x128, .f32⟩
  | 45 => ⟨S1x128, .f32⟩
  | 46 => ⟨S1000x128, .f32⟩
  | 47 => ⟨S1000x128, .f32⟩
  | 48 => ⟨S1000x128, .f32⟩
  | 49 => ⟨S1000x128, .f32⟩
  | 50 => ⟨S1000x128, .f32⟩
  | 51 => ⟨S1000x128, .f32⟩
  | 52 => ⟨S128x128, .f32⟩
  | 53 => ⟨S128x128, .f32⟩
  | 54 => ⟨S1x128, .f32⟩
  | 55 => ⟨S1000x128, .f32⟩
  | 56 => ⟨S1000x128, .f32⟩
  | 57 => ⟨S1x128, .f32⟩
  | 58 => ⟨S1x128, .f32⟩
  | 59 => ⟨S1000x128, .f32⟩
  | 60 => ⟨S1000x128, .f32⟩
  | 61 => ⟨S1000x128, .f32⟩
  | 62 => ⟨S1000x128, .f32⟩
  | 63 => ⟨S1x128, .f32⟩
  | 64 => ⟨S1x128, .f32⟩
  | 65 => ⟨S1000x128, .f32⟩
  | 66 => ⟨S1000x128, .f32⟩
  | 67 => ⟨S1000x128, .f32⟩
  | 68 => ⟨S1000x128, .f32⟩
  | 69 => ⟨S1000x128, .f32⟩
  | 70 => ⟨S1000x128, .f32⟩
  | 71 => ⟨S128x128, .f32⟩
  | 72 => ⟨S128x128, .f32⟩
  | 73 => ⟨S1x128, .f32⟩
  | 74 => ⟨S1000x128, .f32⟩
  | 75 => ⟨S1000x128, .f32⟩
  | 76 => ⟨S1x128, .f32⟩
  | 77 => ⟨S1x128, .f32⟩
  | 78 => ⟨S1000x128, .f32⟩
  | 79 => ⟨S1000x128, .f32⟩
  | 80 => ⟨S1000x128, .f32⟩
  | 81 => ⟨S1000x128, .f32⟩
  | 82 => ⟨S1x128, .f32⟩
  | 83 => ⟨S1x128, .f32⟩
  | 84 => ⟨S1000x128, .f32⟩
  | 85 => ⟨S1000x128, .f32⟩
  | 86 => ⟨S1000x128, .f32⟩
  | 87 => ⟨S1000x128, .f32⟩
  | 88 => ⟨S1000x128, .f32⟩
  | 89 => ⟨S1000x128, .f32⟩
  | 90 => ⟨S128x128, .f32⟩
  | 91 => ⟨S128x128, .f32⟩
  | 92 => ⟨S1x128, .f32⟩
  | 93 => ⟨S1000x128, .f32⟩
  | 94 => ⟨S1000x128, .f32⟩
  | 95 => ⟨S1x128, .f32⟩
  | 96 => ⟨S1x128, .f32⟩
  | 97 => ⟨S1000x128, .f32⟩
  | 98 => ⟨S1000x128, .f32⟩
  | 99 => ⟨S1000x128, .f32⟩
  | 100 => ⟨S1000x128, .f32⟩
  | 101 => ⟨S1x128, .f32⟩
  | 102 => ⟨S1x128, .f32⟩
  | 103 => ⟨S1000x128, .f32⟩
  | 104 => ⟨S1000x128, .f32⟩
  | 105 => ⟨S1000x128, .f32⟩
  | 106 => ⟨S1000x128, .f32⟩
  | 107 => ⟨S1000x128, .f32⟩
  | 108 => ⟨S1000x128, .f32⟩
  | 109 => ⟨S128x128, .f32⟩
  | 110 => ⟨S128x128, .f32⟩
  | 111 => ⟨S1x128, .f32⟩
  | 112 => ⟨S1000x128, .f32⟩
  | 113 => ⟨S1000x128, .f32⟩
  | 114 => ⟨S1x128, .f32⟩
  | 115 => ⟨S1x128, .f32⟩
  | 116 => ⟨S1000x128, .f32⟩
  | 117 => ⟨S1000x128, .f32⟩
  | 118 => ⟨S1000x128, .f32⟩
  | 119 => ⟨S1000x128, .f32⟩
  | 120 => ⟨S1x128, .f32⟩
  | 121 => ⟨S1x128, .f32⟩
  | 122 => ⟨S1000x128, .f32⟩
  | 123 => ⟨S1000x128, .f32⟩
  | 124 => ⟨S1000x128, .f32⟩
  | 125 => ⟨S1000x128, .f32⟩
  | 126 => ⟨S1000x128, .f32⟩
  | 127 => ⟨S1000x128, .f32⟩
  | _ => ⟨S50000x2, .f32⟩

abbrev vmemTy0_2 (i : Nat) : BufTy := match i % 128 with
  | 0 => ⟨S128x128, .f32⟩
  | 1 => ⟨S128x128, .f32⟩
  | 2 => ⟨S1x128, .f32⟩
  | 3 => ⟨S1000x128, .f32⟩
  | 4 => ⟨S1000x128, .f32⟩
  | 5 => ⟨S1x128, .f32⟩
  | 6 => ⟨S1x128, .f32⟩
  | 7 => ⟨S1000x128, .f32⟩
  | 8 => ⟨S1000x128, .f32⟩
  | 9 => ⟨S1000x128, .f32⟩
  | 10 => ⟨S1000x128, .f32⟩
  | 11 => ⟨S1x128, .f32⟩
  | 12 => ⟨S1x128, .f32⟩
  | 13 => ⟨S1000x128, .f32⟩
  | 14 => ⟨S1000x128, .f32⟩
  | 15 => ⟨S1000x128, .f32⟩
  | 16 => ⟨S1000x128, .f32⟩
  | 17 => ⟨S1000x128, .f32⟩
  | 18 => ⟨S1000x128, .f32⟩
  | 19 => ⟨S128x128, .f32⟩
  | 20 => ⟨S128x128, .f32⟩
  | 21 => ⟨S1x128, .f32⟩
  | 22 => ⟨S1000x128, .f32⟩
  | 23 => ⟨S1000x128, .f32⟩
  | 24 => ⟨S1x128, .f32⟩
  | 25 => ⟨S1x128, .f32⟩
  | 26 => ⟨S1000x128, .f32⟩
  | 27 => ⟨S1000x128, .f32⟩
  | 28 => ⟨S1000x128, .f32⟩
  | 29 => ⟨S1000x128, .f32⟩
  | 30 => ⟨S1x128, .f32⟩
  | 31 => ⟨S1x128, .f32⟩
  | 32 => ⟨S1000x128, .f32⟩
  | 33 => ⟨S1000x128, .f32⟩
  | 34 => ⟨S2000x128, .f32⟩
  | 35 => ⟨S2000x128, .f32⟩
  | 36 => ⟨S2000x128, .f32⟩
  | 37 => ⟨S2000x128, .f32⟩
  | 38 => ⟨S128x128, .f32⟩
  | 39 => ⟨S128x128, .f32⟩
  | 40 => ⟨S1x128, .f32⟩
  | 41 => ⟨S128x128, .f32⟩
  | 42 => ⟨S1x128, .f32⟩
  | 43 => ⟨S128x128, .f32⟩
  | 44 => ⟨S1x1, .f32⟩
  | 45 => ⟨S2000x1, .f32⟩
  | 46 => ⟨S2000x1, .f32⟩
  | _ => ⟨S50000x2, .f32⟩

abbrev vmemTy (i : Nat) : BufTy := match i / 128 with
  | 0 => vmemTy0_0 i
  | 1 => vmemTy0_1 i
  | 2 => vmemTy0_2 i
  | _ => ⟨S50000x2, .f32⟩

abbrev bufTy : (tb : Table) → Fin (tcTables nBuf tb) → BufTy
  | .hbm, ⟨i, _⟩ => hbmTy i
  | .local _ .vmem, ⟨i, _⟩ => vmemTy i
  | _, _ => ⟨S50000x2, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | _ => false

abbrev dmaSemScopedAt (i : Nat) : Bool := match i / 128 with
  | 0 => dmaSemScopedAt0_0 i
  | 1 => dmaSemScopedAt0_1 i
  | 2 => dmaSemScopedAt0_2 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | _ => false

abbrev vmemScopedAt (i : Nat) : Bool := match i / 128 with
  | 0 => vmemScopedAt0_0 i
  | 1 => vmemScopedAt0_1 i
  | 2 => vmemScopedAt0_2 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 303 → Bool
  | ⟨i, _⟩ => dmaSemScopedAt i

abbrev sig : RefSig :=
  ofTc nBuf bufTy 0 303 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_call0_c : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_c_0 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_c_1 : Ref sig .tc := ⟨.hbm, 27, rfl⟩
abbrev main_call0_call0_c_2 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_call0_c_3 : Ref sig .tc := ⟨.hbm, 35, rfl⟩
abbrev main_call0_call0_v12 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst : Ref sig .tc := ⟨.hbm, 39, rfl⟩
abbrev main_call0_call0_v15 : Ref sig .tc := ⟨.hbm, 40, rfl⟩
abbrev main_call0_v5 : Ref sig .tc := ⟨.hbm, 41, rfl⟩
abbrev main_call0_cst : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_call0_v15 : Ref sig .tc := ⟨.hbm, 52, rfl⟩
abbrev main_call0_v16_0 : Ref sig .tc := ⟨.hbm, 53, rfl⟩
abbrev main_call0_v16_1 : Ref sig .tc := ⟨.hbm, 54, rfl⟩
abbrev main_call0_v16_2 : Ref sig .tc := ⟨.hbm, 55, rfl⟩
abbrev main_call0_v17 : Ref sig .tc := ⟨.hbm, 56, rfl⟩
abbrev main_call0_v18 : Ref sig .tc := ⟨.hbm, 57, rfl⟩
abbrev main_call0_v19 : Ref sig .tc := ⟨.hbm, 58, rfl⟩
abbrev main_call0_v20 : Ref sig .tc := ⟨.hbm, 59, rfl⟩
abbrev main_call0_v21 : Ref sig .tc := ⟨.hbm, 60, rfl⟩
abbrev main_call0_cst_0 : Ref sig .tc := ⟨.hbm, 61, rfl⟩
abbrev main_call0_v22 : Ref sig .tc := ⟨.hbm, 62, rfl⟩
abbrev main_call0_v23 : Ref sig .tc := ⟨.hbm, 63, rfl⟩
abbrev main_call0_v24 : Ref sig .tc := ⟨.hbm, 64, rfl⟩
abbrev main_call0_v25 : Ref sig .tc := ⟨.hbm, 65, rfl⟩
abbrev main_call0_v26 : Ref sig .tc := ⟨.hbm, 66, rfl⟩
abbrev main_call0_v27 : Ref sig .tc := ⟨.hbm, 67, rfl⟩
abbrev main_call0_v28 : Ref sig .tc := ⟨.hbm, 68, rfl⟩
abbrev main_call0_v29 : Ref sig .tc := ⟨.hbm, 69, rfl⟩
abbrev main_call0_v30 : Ref sig .tc := ⟨.hbm, 70, rfl⟩
abbrev main_call0_v31 : Ref sig .tc := ⟨.hbm, 71, rfl⟩
abbrev main_call0_call1_c : Ref sig .tc := ⟨.hbm, 72, rfl⟩
abbrev main_call0_call1_v0 : Ref sig .tc := ⟨.hbm, 73, rfl⟩
abbrev main_call0_call1_v1 : Ref sig .tc := ⟨.hbm, 74, rfl⟩
abbrev main_call0_call1_c_0 : Ref sig .tc := ⟨.hbm, 75, rfl⟩
abbrev main_call0_call1_v2 : Ref sig .tc := ⟨.hbm, 76, rfl⟩
abbrev main_call0_call1_v3 : Ref sig .tc := ⟨.hbm, 77, rfl⟩
abbrev main_call0_call1_v4 : Ref sig .tc := ⟨.hbm, 78, rfl⟩
abbrev main_call0_call1_v5 : Ref sig .tc := ⟨.hbm, 79, rfl⟩
abbrev main_call0_call1_c_1 : Ref sig .tc := ⟨.hbm, 80, rfl⟩
abbrev main_call0_call1_c_2 : Ref sig .tc := ⟨.hbm, 81, rfl⟩
abbrev main_call0_call1_v6 : Ref sig .tc := ⟨.hbm, 82, rfl⟩
abbrev main_call0_call1_v7 : Ref sig .tc := ⟨.hbm, 83, rfl⟩
abbrev main_call0_call1_v8 : Ref sig .tc := ⟨.hbm, 84, rfl⟩
abbrev main_call0_call1_v9 : Ref sig .tc := ⟨.hbm, 85, rfl⟩
abbrev main_call0_call1_v10 : Ref sig .tc := ⟨.hbm, 86, rfl⟩
abbrev main_call0_call1_v11 : Ref sig .tc := ⟨.hbm, 87, rfl⟩
abbrev main_call0_call1_c_3 : Ref sig .tc := ⟨.hbm, 88, rfl⟩
abbrev main_call0_call1_v12 : Ref sig .tc := ⟨.hbm, 89, rfl⟩
abbrev main_call0_call1_v13 : Ref sig .tc := ⟨.hbm, 90, rfl⟩
abbrev main_call0_call1_v14 : Ref sig .tc := ⟨.hbm, 91, rfl⟩
abbrev main_call0_call1_cst : Ref sig .tc := ⟨.hbm, 92, rfl⟩
abbrev main_call0_call1_v15 : Ref sig .tc := ⟨.hbm, 93, rfl⟩
abbrev main_call0_v32 : Ref sig .tc := ⟨.hbm, 94, rfl⟩
abbrev main_call0_cst_1 : Ref sig .tc := ⟨.hbm, 95, rfl⟩
abbrev main_call0_v33 : Ref sig .tc := ⟨.hbm, 96, rfl⟩
abbrev main_call0_v34 : Ref sig .tc := ⟨.hbm, 97, rfl⟩
abbrev main_call0_v35 : Ref sig .tc := ⟨.hbm, 98, rfl⟩
abbrev main_call0_v36 : Ref sig .tc := ⟨.hbm, 99, rfl⟩
abbrev main_call0_v37 : Ref sig .tc := ⟨.hbm, 100, rfl⟩
abbrev main_call0_v38 : Ref sig .tc := ⟨.hbm, 101, rfl⟩
abbrev main_call0_v39 : Ref sig .tc := ⟨.hbm, 102, rfl⟩
abbrev main_call0_v40 : Ref sig .tc := ⟨.hbm, 103, rfl⟩
abbrev main_call0_v41 : Ref sig .tc := ⟨.hbm, 104, rfl⟩
abbrev main_call0_v42 : Ref sig .tc := ⟨.hbm, 105, rfl⟩
abbrev main_call0_v43_0 : Ref sig .tc := ⟨.hbm, 106, rfl⟩
abbrev main_call0_v43_1 : Ref sig .tc := ⟨.hbm, 107, rfl⟩
abbrev main_call0_v43_2 : Ref sig .tc := ⟨.hbm, 108, rfl⟩
abbrev main_call0_v44 : Ref sig .tc := ⟨.hbm, 109, rfl⟩
abbrev main_call0_v45 : Ref sig .tc := ⟨.hbm, 110, rfl⟩
abbrev main_call0_v46 : Ref sig .tc := ⟨.hbm, 111, rfl⟩
abbrev main_call0_v47 : Ref sig .tc := ⟨.hbm, 112, rfl⟩
abbrev main_call0_v48 : Ref sig .tc := ⟨.hbm, 113, rfl⟩
abbrev main_call0_cst_2 : Ref sig .tc := ⟨.hbm, 114, rfl⟩
abbrev main_call0_v49 : Ref sig .tc := ⟨.hbm, 115, rfl⟩
abbrev main_call0_v50 : Ref sig .tc := ⟨.hbm, 116, rfl⟩
abbrev main_call0_v51 : Ref sig .tc := ⟨.hbm, 117, rfl⟩
abbrev main_call0_v52 : Ref sig .tc := ⟨.hbm, 118, rfl⟩
abbrev main_call0_v53 : Ref sig .tc := ⟨.hbm, 119, rfl⟩
abbrev main_call0_v54 : Ref sig .tc := ⟨.hbm, 120, rfl⟩
abbrev main_call0_v55 : Ref sig .tc := ⟨.hbm, 121, rfl⟩
abbrev main_call0_v56 : Ref sig .tc := ⟨.hbm, 122, rfl⟩
abbrev main_call0_v57 : Ref sig .tc := ⟨.hbm, 123, rfl⟩
abbrev main_call0_v58 : Ref sig .tc := ⟨.hbm, 124, rfl⟩
abbrev main_call0_call2_c : Ref sig .tc := ⟨.hbm, 125, rfl⟩
abbrev main_call0_call2_v0 : Ref sig .tc := ⟨.hbm, 126, rfl⟩
abbrev main_call0_call2_v1 : Ref sig .tc := ⟨.hbm, 127, rfl⟩
abbrev main_call0_call2_c_0 : Ref sig .tc := ⟨.hbm, 128, rfl⟩
abbrev main_call0_call2_v2 : Ref sig .tc := ⟨.hbm, 129, rfl⟩
abbrev main_call0_call2_v3 : Ref sig .tc := ⟨.hbm, 130, rfl⟩
abbrev main_call0_call2_v4 : Ref sig .tc := ⟨.hbm, 131, rfl⟩
abbrev main_call0_call2_v5 : Ref sig .tc := ⟨.hbm, 132, rfl⟩
abbrev main_call0_call2_c_1 : Ref sig .tc := ⟨.hbm, 133, rfl⟩
abbrev main_call0_call2_c_2 : Ref sig .tc := ⟨.hbm, 134, rfl⟩
abbrev main_call0_call2_v6 : Ref sig .tc := ⟨.hbm, 135, rfl⟩
abbrev main_call0_call2_v7 : Ref sig .tc := ⟨.hbm, 136, rfl⟩
abbrev main_call0_call2_v8 : Ref sig .tc := ⟨.hbm, 137, rfl⟩
abbrev main_call0_call2_v9 : Ref sig .tc := ⟨.hbm, 138, rfl⟩
abbrev main_call0_call2_v10 : Ref sig .tc := ⟨.hbm, 139, rfl⟩
abbrev main_call0_call2_v11 : Ref sig .tc := ⟨.hbm, 140, rfl⟩
abbrev main_call0_call2_c_3 : Ref sig .tc := ⟨.hbm, 141, rfl⟩
abbrev main_call0_call2_v12 : Ref sig .tc := ⟨.hbm, 142, rfl⟩
abbrev main_call0_call2_v13 : Ref sig .tc := ⟨.hbm, 143, rfl⟩
abbrev main_call0_call2_v14 : Ref sig .tc := ⟨.hbm, 144, rfl⟩
abbrev main_call0_call2_cst : Ref sig .tc := ⟨.hbm, 145, rfl⟩
abbrev main_call0_call2_v15 : Ref sig .tc := ⟨.hbm, 146, rfl⟩
abbrev main_call0_v59 : Ref sig .tc := ⟨.hbm, 147, rfl⟩
abbrev main_call0_cst_3 : Ref sig .tc := ⟨.hbm, 148, rfl⟩
abbrev main_call0_v60 : Ref sig .tc := ⟨.hbm, 149, rfl⟩
abbrev main_call0_v61 : Ref sig .tc := ⟨.hbm, 150, rfl⟩
abbrev main_call0_v62 : Ref sig .tc := ⟨.hbm, 151, rfl⟩
abbrev main_call0_v63 : Ref sig .tc := ⟨.hbm, 152, rfl⟩
abbrev main_call0_v64 : Ref sig .tc := ⟨.hbm, 153, rfl⟩
abbrev main_call0_v65 : Ref sig .tc := ⟨.hbm, 154, rfl⟩
abbrev main_call0_v66 : Ref sig .tc := ⟨.hbm, 155, rfl⟩
abbrev main_call0_v67 : Ref sig .tc := ⟨.hbm, 156, rfl⟩
abbrev main_call0_v68 : Ref sig .tc := ⟨.hbm, 157, rfl⟩
abbrev main_call0_v69 : Ref sig .tc := ⟨.hbm, 158, rfl⟩
abbrev main_call0_v70_0 : Ref sig .tc := ⟨.hbm, 159, rfl⟩
abbrev main_call0_v70_1 : Ref sig .tc := ⟨.hbm, 160, rfl⟩
abbrev main_call0_v70_2 : Ref sig .tc := ⟨.hbm, 161, rfl⟩
abbrev main_call0_v71 : Ref sig .tc := ⟨.hbm, 162, rfl⟩
abbrev main_call0_v72 : Ref sig .tc := ⟨.hbm, 163, rfl⟩
abbrev main_call0_v73 : Ref sig .tc := ⟨.hbm, 164, rfl⟩
abbrev main_call0_v74 : Ref sig .tc := ⟨.hbm, 165, rfl⟩
abbrev main_call0_v75 : Ref sig .tc := ⟨.hbm, 166, rfl⟩
abbrev main_call0_cst_4 : Ref sig .tc := ⟨.hbm, 167, rfl⟩
abbrev main_call0_v76 : Ref sig .tc := ⟨.hbm, 168, rfl⟩
abbrev main_call0_v77 : Ref sig .tc := ⟨.hbm, 169, rfl⟩
abbrev main_call0_v78 : Ref sig .tc := ⟨.hbm, 170, rfl⟩
abbrev main_call0_v79 : Ref sig .tc := ⟨.hbm, 171, rfl⟩
abbrev main_call0_v80 : Ref sig .tc := ⟨.hbm, 172, rfl⟩
abbrev main_call0_v81 : Ref sig .tc := ⟨.hbm, 173, rfl⟩
abbrev main_call0_v82 : Ref sig .tc := ⟨.hbm, 174, rfl⟩
abbrev main_call0_v83 : Ref sig .tc := ⟨.hbm, 175, rfl⟩
abbrev main_call0_v84 : Ref sig .tc := ⟨.hbm, 176, rfl⟩
abbrev main_call0_v85 : Ref sig .tc := ⟨.hbm, 177, rfl⟩
abbrev main_call0_call3_c : Ref sig .tc := ⟨.hbm, 178, rfl⟩
abbrev main_call0_call3_v0 : Ref sig .tc := ⟨.hbm, 179, rfl⟩
abbrev main_call0_call3_v1 : Ref sig .tc := ⟨.hbm, 180, rfl⟩
abbrev main_call0_call3_c_0 : Ref sig .tc := ⟨.hbm, 181, rfl⟩
abbrev main_call0_call3_v2 : Ref sig .tc := ⟨.hbm, 182, rfl⟩
abbrev main_call0_call3_v3 : Ref sig .tc := ⟨.hbm, 183, rfl⟩
abbrev main_call0_call3_v4 : Ref sig .tc := ⟨.hbm, 184, rfl⟩
abbrev main_call0_call3_v5 : Ref sig .tc := ⟨.hbm, 185, rfl⟩
abbrev main_call0_call3_c_1 : Ref sig .tc := ⟨.hbm, 186, rfl⟩
abbrev main_call0_call3_c_2 : Ref sig .tc := ⟨.hbm, 187, rfl⟩
abbrev main_call0_call3_v6 : Ref sig .tc := ⟨.hbm, 188, rfl⟩
abbrev main_call0_call3_v7 : Ref sig .tc := ⟨.hbm, 189, rfl⟩
abbrev main_call0_call3_v8 : Ref sig .tc := ⟨.hbm, 190, rfl⟩
abbrev main_call0_call3_v9 : Ref sig .tc := ⟨.hbm, 191, rfl⟩
abbrev main_call0_call3_v10 : Ref sig .tc := ⟨.hbm, 192, rfl⟩
abbrev main_call0_call3_v11 : Ref sig .tc := ⟨.hbm, 193, rfl⟩
abbrev main_call0_call3_c_3 : Ref sig .tc := ⟨.hbm, 194, rfl⟩
abbrev main_call0_call3_v12 : Ref sig .tc := ⟨.hbm, 195, rfl⟩
abbrev main_call0_call3_v13 : Ref sig .tc := ⟨.hbm, 196, rfl⟩
abbrev main_call0_call3_v14 : Ref sig .tc := ⟨.hbm, 197, rfl⟩
abbrev main_call0_call3_cst : Ref sig .tc := ⟨.hbm, 198, rfl⟩
abbrev main_call0_call3_v15 : Ref sig .tc := ⟨.hbm, 199, rfl⟩
abbrev main_call0_v86 : Ref sig .tc := ⟨.hbm, 200, rfl⟩
abbrev main_call0_cst_5 : Ref sig .tc := ⟨.hbm, 201, rfl⟩
abbrev main_call0_v87 : Ref sig .tc := ⟨.hbm, 202, rfl⟩
abbrev main_call0_v88 : Ref sig .tc := ⟨.hbm, 203, rfl⟩
abbrev main_call0_v89 : Ref sig .tc := ⟨.hbm, 204, rfl⟩
abbrev main_call0_v90 : Ref sig .tc := ⟨.hbm, 205, rfl⟩
abbrev main_call0_v91 : Ref sig .tc := ⟨.hbm, 206, rfl⟩
abbrev main_call0_v92 : Ref sig .tc := ⟨.hbm, 207, rfl⟩
abbrev main_call0_v93 : Ref sig .tc := ⟨.hbm, 208, rfl⟩
abbrev main_call0_v94 : Ref sig .tc := ⟨.hbm, 209, rfl⟩
abbrev main_call0_v95 : Ref sig .tc := ⟨.hbm, 210, rfl⟩
abbrev main_call0_v96 : Ref sig .tc := ⟨.hbm, 211, rfl⟩
abbrev main_call0_v97_0 : Ref sig .tc := ⟨.hbm, 212, rfl⟩
abbrev main_call0_v97_1 : Ref sig .tc := ⟨.hbm, 213, rfl⟩
abbrev main_call0_v97_2 : Ref sig .tc := ⟨.hbm, 214, rfl⟩
abbrev main_call0_v98 : Ref sig .tc := ⟨.hbm, 215, rfl⟩
abbrev main_call0_v99 : Ref sig .tc := ⟨.hbm, 216, rfl⟩
abbrev main_call0_v100 : Ref sig .tc := ⟨.hbm, 217, rfl⟩
abbrev main_call0_v101 : Ref sig .tc := ⟨.hbm, 218, rfl⟩
abbrev main_call0_v102 : Ref sig .tc := ⟨.hbm, 219, rfl⟩
abbrev main_call0_cst_6 : Ref sig .tc := ⟨.hbm, 220, rfl⟩
abbrev main_call0_v103 : Ref sig .tc := ⟨.hbm, 221, rfl⟩
abbrev main_call0_v104 : Ref sig .tc := ⟨.hbm, 222, rfl⟩
abbrev main_call0_v105 : Ref sig .tc := ⟨.hbm, 223, rfl⟩
abbrev main_call0_v106 : Ref sig .tc := ⟨.hbm, 224, rfl⟩
abbrev main_call0_v107 : Ref sig .tc := ⟨.hbm, 225, rfl⟩
abbrev main_call0_v108 : Ref sig .tc := ⟨.hbm, 226, rfl⟩
abbrev main_call0_v109 : Ref sig .tc := ⟨.hbm, 227, rfl⟩
abbrev main_call0_v110 : Ref sig .tc := ⟨.hbm, 228, rfl⟩
abbrev main_call0_v111 : Ref sig .tc := ⟨.hbm, 229, rfl⟩
abbrev main_call0_v112 : Ref sig .tc := ⟨.hbm, 230, rfl⟩
abbrev main_call0_call4_c : Ref sig .tc := ⟨.hbm, 231, rfl⟩
abbrev main_call0_call4_v0 : Ref sig .tc := ⟨.hbm, 232, rfl⟩
abbrev main_call0_call4_v1 : Ref sig .tc := ⟨.hbm, 233, rfl⟩
abbrev main_call0_call4_c_0 : Ref sig .tc := ⟨.hbm, 234, rfl⟩
abbrev main_call0_call4_v2 : Ref sig .tc := ⟨.hbm, 235, rfl⟩
abbrev main_call0_call4_v3 : Ref sig .tc := ⟨.hbm, 236, rfl⟩
abbrev main_call0_call4_v4 : Ref sig .tc := ⟨.hbm, 237, rfl⟩
abbrev main_call0_call4_v5 : Ref sig .tc := ⟨.hbm, 238, rfl⟩
abbrev main_call0_call4_c_1 : Ref sig .tc := ⟨.hbm, 239, rfl⟩
abbrev main_call0_call4_c_2 : Ref sig .tc := ⟨.hbm, 240, rfl⟩
abbrev main_call0_call4_v6 : Ref sig .tc := ⟨.hbm, 241, rfl⟩
abbrev main_call0_call4_v7 : Ref sig .tc := ⟨.hbm, 242, rfl⟩
abbrev main_call0_call4_v8 : Ref sig .tc := ⟨.hbm, 243, rfl⟩
abbrev main_call0_call4_v9 : Ref sig .tc := ⟨.hbm, 244, rfl⟩
abbrev main_call0_call4_v10 : Ref sig .tc := ⟨.hbm, 245, rfl⟩
abbrev main_call0_call4_v11 : Ref sig .tc := ⟨.hbm, 246, rfl⟩
abbrev main_call0_call4_c_3 : Ref sig .tc := ⟨.hbm, 247, rfl⟩
abbrev main_call0_call4_v12 : Ref sig .tc := ⟨.hbm, 248, rfl⟩
abbrev main_call0_call4_v13 : Ref sig .tc := ⟨.hbm, 249, rfl⟩
abbrev main_call0_call4_v14 : Ref sig .tc := ⟨.hbm, 250, rfl⟩
abbrev main_call0_call4_cst : Ref sig .tc := ⟨.hbm, 251, rfl⟩
abbrev main_call0_call4_v15 : Ref sig .tc := ⟨.hbm, 252, rfl⟩
abbrev main_call0_v113 : Ref sig .tc := ⟨.hbm, 253, rfl⟩
abbrev main_call0_cst_7 : Ref sig .tc := ⟨.hbm, 254, rfl⟩
abbrev main_call0_v114 : Ref sig .tc := ⟨.hbm, 255, rfl⟩
abbrev main_call0_v115 : Ref sig .tc := ⟨.hbm, 256, rfl⟩
abbrev main_call0_v116 : Ref sig .tc := ⟨.hbm, 257, rfl⟩
abbrev main_call0_v117 : Ref sig .tc := ⟨.hbm, 258, rfl⟩
abbrev main_call0_v118 : Ref sig .tc := ⟨.hbm, 259, rfl⟩
abbrev main_call0_v119 : Ref sig .tc := ⟨.hbm, 260, rfl⟩
abbrev main_call0_v120 : Ref sig .tc := ⟨.hbm, 261, rfl⟩
abbrev main_call0_v121 : Ref sig .tc := ⟨.hbm, 262, rfl⟩
abbrev main_call0_v122 : Ref sig .tc := ⟨.hbm, 263, rfl⟩
abbrev main_call0_v123 : Ref sig .tc := ⟨.hbm, 264, rfl⟩
abbrev main_call0_v124_0 : Ref sig .tc := ⟨.hbm, 265, rfl⟩
abbrev main_call0_v124_1 : Ref sig .tc := ⟨.hbm, 266, rfl⟩
abbrev main_call0_v124_2 : Ref sig .tc := ⟨.hbm, 267, rfl⟩
abbrev main_call0_v125 : Ref sig .tc := ⟨.hbm, 268, rfl⟩
abbrev main_call0_v126 : Ref sig .tc := ⟨.hbm, 269, rfl⟩
abbrev main_call0_v127 : Ref sig .tc := ⟨.hbm, 270, rfl⟩
abbrev main_call0_v128 : Ref sig .tc := ⟨.hbm, 271, rfl⟩
abbrev main_call0_v129 : Ref sig .tc := ⟨.hbm, 272, rfl⟩
abbrev main_call0_cst_8 : Ref sig .tc := ⟨.hbm, 273, rfl⟩
abbrev main_call0_v130 : Ref sig .tc := ⟨.hbm, 274, rfl⟩
abbrev main_call0_v131 : Ref sig .tc := ⟨.hbm, 275, rfl⟩
abbrev main_call0_v132 : Ref sig .tc := ⟨.hbm, 276, rfl⟩
abbrev main_call0_v133 : Ref sig .tc := ⟨.hbm, 277, rfl⟩
abbrev main_call0_v134 : Ref sig .tc := ⟨.hbm, 278, rfl⟩
abbrev main_call0_v135 : Ref sig .tc := ⟨.hbm, 279, rfl⟩
abbrev main_call0_v136 : Ref sig .tc := ⟨.hbm, 280, rfl⟩
abbrev main_call0_v137 : Ref sig .tc := ⟨.hbm, 281, rfl⟩
abbrev main_call0_v138 : Ref sig .tc := ⟨.hbm, 282, rfl⟩
abbrev main_call0_v139 : Ref sig .tc := ⟨.hbm, 283, rfl⟩
abbrev main_call0_call5_c : Ref sig .tc := ⟨.hbm, 284, rfl⟩
abbrev main_call0_call5_v0 : Ref sig .tc := ⟨.hbm, 285, rfl⟩
abbrev main_call0_call5_v1 : Ref sig .tc := ⟨.hbm, 286, rfl⟩
abbrev main_call0_call5_c_0 : Ref sig .tc := ⟨.hbm, 287, rfl⟩
abbrev main_call0_call5_v2 : Ref sig .tc := ⟨.hbm, 288, rfl⟩
abbrev main_call0_call5_v3 : Ref sig .tc := ⟨.hbm, 289, rfl⟩
abbrev main_call0_call5_v4 : Ref sig .tc := ⟨.hbm, 290, rfl⟩
abbrev main_call0_call5_v5 : Ref sig .tc := ⟨.hbm, 291, rfl⟩
abbrev main_call0_call5_c_1 : Ref sig .tc := ⟨.hbm, 292, rfl⟩
abbrev main_call0_call5_c_2 : Ref sig .tc := ⟨.hbm, 293, rfl⟩
abbrev main_call0_call5_v6 : Ref sig .tc := ⟨.hbm, 294, rfl⟩
abbrev main_call0_call5_v7 : Ref sig .tc := ⟨.hbm, 295, rfl⟩
abbrev main_call0_call5_v8 : Ref sig .tc := ⟨.hbm, 296, rfl⟩
abbrev main_call0_call5_v9 : Ref sig .tc := ⟨.hbm, 297, rfl⟩
abbrev main_call0_call5_v10 : Ref sig .tc := ⟨.hbm, 298, rfl⟩
abbrev main_call0_call5_v11 : Ref sig .tc := ⟨.hbm, 299, rfl⟩
abbrev main_call0_call5_c_3 : Ref sig .tc := ⟨.hbm, 300, rfl⟩
abbrev main_call0_call5_v12 : Ref sig .tc := ⟨.hbm, 301, rfl⟩
abbrev main_call0_call5_v13 : Ref sig .tc := ⟨.hbm, 302, rfl⟩
abbrev main_call0_call5_v14 : Ref sig .tc := ⟨.hbm, 303, rfl⟩
abbrev main_call0_call5_cst : Ref sig .tc := ⟨.hbm, 304, rfl⟩
abbrev main_call0_call5_v15 : Ref sig .tc := ⟨.hbm, 305, rfl⟩
abbrev main_call0_v140 : Ref sig .tc := ⟨.hbm, 306, rfl⟩
abbrev main_call0_cst_9 : Ref sig .tc := ⟨.hbm, 307, rfl⟩
abbrev main_call0_v141 : Ref sig .tc := ⟨.hbm, 308, rfl⟩
abbrev main_call0_v142 : Ref sig .tc := ⟨.hbm, 309, rfl⟩
abbrev main_call0_v143 : Ref sig .tc := ⟨.hbm, 310, rfl⟩
abbrev main_call0_v144 : Ref sig .tc := ⟨.hbm, 311, rfl⟩
abbrev main_call0_v145 : Ref sig .tc := ⟨.hbm, 312, rfl⟩
abbrev main_call0_v146 : Ref sig .tc := ⟨.hbm, 313, rfl⟩
abbrev main_call0_v147 : Ref sig .tc := ⟨.hbm, 314, rfl⟩
abbrev main_call0_v148 : Ref sig .tc := ⟨.hbm, 315, rfl⟩
abbrev main_call0_v149 : Ref sig .tc := ⟨.hbm, 316, rfl⟩
abbrev main_call0_v150 : Ref sig .tc := ⟨.hbm, 317, rfl⟩
abbrev main_call0_v151_0 : Ref sig .tc := ⟨.hbm, 318, rfl⟩
abbrev main_call0_v151_1 : Ref sig .tc := ⟨.hbm, 319, rfl⟩
abbrev main_call0_v151_2 : Ref sig .tc := ⟨.hbm, 320, rfl⟩
abbrev main_call0_v152 : Ref sig .tc := ⟨.hbm, 321, rfl⟩
abbrev main_call0_v153 : Ref sig .tc := ⟨.hbm, 322, rfl⟩
abbrev main_call0_v154 : Ref sig .tc := ⟨.hbm, 323, rfl⟩
abbrev main_call0_v155 : Ref sig .tc := ⟨.hbm, 324, rfl⟩
abbrev main_call0_v156 : Ref sig .tc := ⟨.hbm, 325, rfl⟩
abbrev main_call0_cst_10 : Ref sig .tc := ⟨.hbm, 326, rfl⟩
abbrev main_call0_v157 : Ref sig .tc := ⟨.hbm, 327, rfl⟩
abbrev main_call0_v158 : Ref sig .tc := ⟨.hbm, 328, rfl⟩
abbrev main_call0_v159 : Ref sig .tc := ⟨.hbm, 329, rfl⟩
abbrev main_call0_v160 : Ref sig .tc := ⟨.hbm, 330, rfl⟩
abbrev main_call0_v161 : Ref sig .tc := ⟨.hbm, 331, rfl⟩
abbrev main_call0_v162 : Ref sig .tc := ⟨.hbm, 332, rfl⟩
abbrev main_call0_v163 : Ref sig .tc := ⟨.hbm, 333, rfl⟩
abbrev main_call0_v164 : Ref sig .tc := ⟨.hbm, 334, rfl⟩
abbrev main_call0_v165 : Ref sig .tc := ⟨.hbm, 335, rfl⟩
abbrev main_call0_v166 : Ref sig .tc := ⟨.hbm, 336, rfl⟩
abbrev main_call0_call6_c : Ref sig .tc := ⟨.hbm, 337, rfl⟩
abbrev main_call0_call6_v0 : Ref sig .tc := ⟨.hbm, 338, rfl⟩
abbrev main_call0_call6_v1 : Ref sig .tc := ⟨.hbm, 339, rfl⟩
abbrev main_call0_call6_c_0 : Ref sig .tc := ⟨.hbm, 340, rfl⟩
abbrev main_call0_call6_v2 : Ref sig .tc := ⟨.hbm, 341, rfl⟩
abbrev main_call0_call6_v3 : Ref sig .tc := ⟨.hbm, 342, rfl⟩
abbrev main_call0_call6_v4 : Ref sig .tc := ⟨.hbm, 343, rfl⟩
abbrev main_call0_call6_v5 : Ref sig .tc := ⟨.hbm, 344, rfl⟩
abbrev main_call0_call6_c_1 : Ref sig .tc := ⟨.hbm, 345, rfl⟩
abbrev main_call0_call6_c_2 : Ref sig .tc := ⟨.hbm, 346, rfl⟩
abbrev main_call0_call6_v6 : Ref sig .tc := ⟨.hbm, 347, rfl⟩
abbrev main_call0_call6_v7 : Ref sig .tc := ⟨.hbm, 348, rfl⟩
abbrev main_call0_call6_v8 : Ref sig .tc := ⟨.hbm, 349, rfl⟩
abbrev main_call0_call6_v9 : Ref sig .tc := ⟨.hbm, 350, rfl⟩
abbrev main_call0_call6_v10 : Ref sig .tc := ⟨.hbm, 351, rfl⟩
abbrev main_call0_call6_v11 : Ref sig .tc := ⟨.hbm, 352, rfl⟩
abbrev main_call0_call6_c_3 : Ref sig .tc := ⟨.hbm, 353, rfl⟩
abbrev main_call0_call6_v12 : Ref sig .tc := ⟨.hbm, 354, rfl⟩
abbrev main_call0_call6_v13 : Ref sig .tc := ⟨.hbm, 355, rfl⟩
abbrev main_call0_call6_v14 : Ref sig .tc := ⟨.hbm, 356, rfl⟩
abbrev main_call0_call6_cst : Ref sig .tc := ⟨.hbm, 357, rfl⟩
abbrev main_call0_call6_v15 : Ref sig .tc := ⟨.hbm, 358, rfl⟩
abbrev main_call0_v167 : Ref sig .tc := ⟨.hbm, 359, rfl⟩
abbrev main_call0_cst_11 : Ref sig .tc := ⟨.hbm, 360, rfl⟩
abbrev main_call0_v168 : Ref sig .tc := ⟨.hbm, 361, rfl⟩
abbrev main_call0_v169 : Ref sig .tc := ⟨.hbm, 362, rfl⟩
abbrev main_call0_v170 : Ref sig .tc := ⟨.hbm, 363, rfl⟩
abbrev main_call0_v171 : Ref sig .tc := ⟨.hbm, 364, rfl⟩
abbrev main_call0_v172 : Ref sig .tc := ⟨.hbm, 365, rfl⟩
abbrev main_call0_v173 : Ref sig .tc := ⟨.hbm, 366, rfl⟩
abbrev main_call0_v174 : Ref sig .tc := ⟨.hbm, 367, rfl⟩
abbrev main_call0_v175 : Ref sig .tc := ⟨.hbm, 368, rfl⟩
abbrev main_call0_v176 : Ref sig .tc := ⟨.hbm, 369, rfl⟩
abbrev main_call0_v177 : Ref sig .tc := ⟨.hbm, 370, rfl⟩
abbrev main_call0_v178_0 : Ref sig .tc := ⟨.hbm, 371, rfl⟩
abbrev main_call0_v178_1 : Ref sig .tc := ⟨.hbm, 372, rfl⟩
abbrev main_call0_v178_2 : Ref sig .tc := ⟨.hbm, 373, rfl⟩
abbrev main_call0_v179 : Ref sig .tc := ⟨.hbm, 374, rfl⟩
abbrev main_call0_v180 : Ref sig .tc := ⟨.hbm, 375, rfl⟩
abbrev main_call0_v181 : Ref sig .tc := ⟨.hbm, 376, rfl⟩
abbrev main_call0_v182 : Ref sig .tc := ⟨.hbm, 377, rfl⟩
abbrev main_call0_v183 : Ref sig .tc := ⟨.hbm, 378, rfl⟩
abbrev main_call0_cst_12 : Ref sig .tc := ⟨.hbm, 379, rfl⟩
abbrev main_call0_v184 : Ref sig .tc := ⟨.hbm, 380, rfl⟩
abbrev main_call0_v185 : Ref sig .tc := ⟨.hbm, 381, rfl⟩
abbrev main_call0_v186 : Ref sig .tc := ⟨.hbm, 382, rfl⟩
abbrev main_call0_v187 : Ref sig .tc := ⟨.hbm, 383, rfl⟩
abbrev main_call0_v188 : Ref sig .tc := ⟨.hbm, 384, rfl⟩
abbrev main_call0_v189 : Ref sig .tc := ⟨.hbm, 385, rfl⟩
abbrev main_call0_v190 : Ref sig .tc := ⟨.hbm, 386, rfl⟩
abbrev main_call0_v191 : Ref sig .tc := ⟨.hbm, 387, rfl⟩
abbrev main_call0_v192 : Ref sig .tc := ⟨.hbm, 388, rfl⟩
abbrev main_call0_v193 : Ref sig .tc := ⟨.hbm, 389, rfl⟩
abbrev main_call0_call7_c : Ref sig .tc := ⟨.hbm, 390, rfl⟩
abbrev main_call0_call7_v0 : Ref sig .tc := ⟨.hbm, 391, rfl⟩
abbrev main_call0_call7_v1 : Ref sig .tc := ⟨.hbm, 392, rfl⟩
abbrev main_call0_call7_c_0 : Ref sig .tc := ⟨.hbm, 393, rfl⟩
abbrev main_call0_call7_v2 : Ref sig .tc := ⟨.hbm, 394, rfl⟩
abbrev main_call0_call7_v3 : Ref sig .tc := ⟨.hbm, 395, rfl⟩
abbrev main_call0_call7_v4 : Ref sig .tc := ⟨.hbm, 396, rfl⟩
abbrev main_call0_call7_v5 : Ref sig .tc := ⟨.hbm, 397, rfl⟩
abbrev main_call0_call7_c_1 : Ref sig .tc := ⟨.hbm, 398, rfl⟩
abbrev main_call0_call7_c_2 : Ref sig .tc := ⟨.hbm, 399, rfl⟩
abbrev main_call0_call7_v6 : Ref sig .tc := ⟨.hbm, 400, rfl⟩
abbrev main_call0_call7_v7 : Ref sig .tc := ⟨.hbm, 401, rfl⟩
abbrev main_call0_call7_v8 : Ref sig .tc := ⟨.hbm, 402, rfl⟩
abbrev main_call0_call7_v9 : Ref sig .tc := ⟨.hbm, 403, rfl⟩
abbrev main_call0_call7_v10 : Ref sig .tc := ⟨.hbm, 404, rfl⟩
abbrev main_call0_call7_v11 : Ref sig .tc := ⟨.hbm, 405, rfl⟩
abbrev main_call0_call7_c_3 : Ref sig .tc := ⟨.hbm, 406, rfl⟩
abbrev main_call0_call7_v12 : Ref sig .tc := ⟨.hbm, 407, rfl⟩
abbrev main_call0_call7_v13 : Ref sig .tc := ⟨.hbm, 408, rfl⟩
abbrev main_call0_call7_v14 : Ref sig .tc := ⟨.hbm, 409, rfl⟩
abbrev main_call0_call7_cst : Ref sig .tc := ⟨.hbm, 410, rfl⟩
abbrev main_call0_call7_v15 : Ref sig .tc := ⟨.hbm, 411, rfl⟩
abbrev main_call0_v194 : Ref sig .tc := ⟨.hbm, 412, rfl⟩
abbrev main_call0_cst_13 : Ref sig .tc := ⟨.hbm, 413, rfl⟩
abbrev main_call0_v195 : Ref sig .tc := ⟨.hbm, 414, rfl⟩
abbrev main_call0_v196 : Ref sig .tc := ⟨.hbm, 415, rfl⟩
abbrev main_call0_v197 : Ref sig .tc := ⟨.hbm, 416, rfl⟩
abbrev main_call0_v198 : Ref sig .tc := ⟨.hbm, 417, rfl⟩
abbrev main_call0_v199 : Ref sig .tc := ⟨.hbm, 418, rfl⟩
abbrev main_call0_v200 : Ref sig .tc := ⟨.hbm, 419, rfl⟩
abbrev main_call0_v201 : Ref sig .tc := ⟨.hbm, 420, rfl⟩
abbrev main_call0_v202 : Ref sig .tc := ⟨.hbm, 421, rfl⟩
abbrev main_call0_v203 : Ref sig .tc := ⟨.hbm, 422, rfl⟩
abbrev main_call0_v204 : Ref sig .tc := ⟨.hbm, 423, rfl⟩
abbrev main_call0_v205_0 : Ref sig .tc := ⟨.hbm, 424, rfl⟩
abbrev main_call0_v205_1 : Ref sig .tc := ⟨.hbm, 425, rfl⟩
abbrev main_call0_v205_2 : Ref sig .tc := ⟨.hbm, 426, rfl⟩
abbrev main_call0_v206 : Ref sig .tc := ⟨.hbm, 427, rfl⟩
abbrev main_call0_v207 : Ref sig .tc := ⟨.hbm, 428, rfl⟩
abbrev main_call0_v208 : Ref sig .tc := ⟨.hbm, 429, rfl⟩
abbrev main_call0_v209 : Ref sig .tc := ⟨.hbm, 430, rfl⟩
abbrev main_call0_v210 : Ref sig .tc := ⟨.hbm, 431, rfl⟩
abbrev main_call0_cst_14 : Ref sig .tc := ⟨.hbm, 432, rfl⟩
abbrev main_call0_v211 : Ref sig .tc := ⟨.hbm, 433, rfl⟩
abbrev main_call0_v212 : Ref sig .tc := ⟨.hbm, 434, rfl⟩
abbrev main_call0_v213 : Ref sig .tc := ⟨.hbm, 435, rfl⟩
abbrev main_call0_v214 : Ref sig .tc := ⟨.hbm, 436, rfl⟩
abbrev main_call0_v215 : Ref sig .tc := ⟨.hbm, 437, rfl⟩
abbrev main_call0_v216 : Ref sig .tc := ⟨.hbm, 438, rfl⟩
abbrev main_call0_v217 : Ref sig .tc := ⟨.hbm, 439, rfl⟩
abbrev main_call0_v218 : Ref sig .tc := ⟨.hbm, 440, rfl⟩
abbrev main_call0_v219 : Ref sig .tc := ⟨.hbm, 441, rfl⟩
abbrev main_call0_v220 : Ref sig .tc := ⟨.hbm, 442, rfl⟩
abbrev main_call0_call8_c : Ref sig .tc := ⟨.hbm, 443, rfl⟩
abbrev main_call0_call8_v0 : Ref sig .tc := ⟨.hbm, 444, rfl⟩
abbrev main_call0_call8_v1 : Ref sig .tc := ⟨.hbm, 445, rfl⟩
abbrev main_call0_call8_c_0 : Ref sig .tc := ⟨.hbm, 446, rfl⟩
abbrev main_call0_call8_v2 : Ref sig .tc := ⟨.hbm, 447, rfl⟩
abbrev main_call0_call8_v3 : Ref sig .tc := ⟨.hbm, 448, rfl⟩
abbrev main_call0_call8_v4 : Ref sig .tc := ⟨.hbm, 449, rfl⟩
abbrev main_call0_call8_v5 : Ref sig .tc := ⟨.hbm, 450, rfl⟩
abbrev main_call0_call8_c_1 : Ref sig .tc := ⟨.hbm, 451, rfl⟩
abbrev main_call0_call8_c_2 : Ref sig .tc := ⟨.hbm, 452, rfl⟩
abbrev main_call0_call8_v6 : Ref sig .tc := ⟨.hbm, 453, rfl⟩
abbrev main_call0_call8_v7 : Ref sig .tc := ⟨.hbm, 454, rfl⟩
abbrev main_call0_call8_v8 : Ref sig .tc := ⟨.hbm, 455, rfl⟩
abbrev main_call0_call8_v9 : Ref sig .tc := ⟨.hbm, 456, rfl⟩
abbrev main_call0_call8_v10 : Ref sig .tc := ⟨.hbm, 457, rfl⟩
abbrev main_call0_call8_v11 : Ref sig .tc := ⟨.hbm, 458, rfl⟩
abbrev main_call0_call8_c_3 : Ref sig .tc := ⟨.hbm, 459, rfl⟩
abbrev main_call0_call8_v12 : Ref sig .tc := ⟨.hbm, 460, rfl⟩
abbrev main_call0_call8_v13 : Ref sig .tc := ⟨.hbm, 461, rfl⟩
abbrev main_call0_call8_v14 : Ref sig .tc := ⟨.hbm, 462, rfl⟩
abbrev main_call0_call8_cst : Ref sig .tc := ⟨.hbm, 463, rfl⟩
abbrev main_call0_call8_v15 : Ref sig .tc := ⟨.hbm, 464, rfl⟩
abbrev main_call0_v221 : Ref sig .tc := ⟨.hbm, 465, rfl⟩
abbrev main_call0_cst_15 : Ref sig .tc := ⟨.hbm, 466, rfl⟩
abbrev main_call0_v222 : Ref sig .tc := ⟨.hbm, 467, rfl⟩
abbrev main_call0_v223 : Ref sig .tc := ⟨.hbm, 468, rfl⟩
abbrev main_call0_v224 : Ref sig .tc := ⟨.hbm, 469, rfl⟩
abbrev main_call0_v225 : Ref sig .tc := ⟨.hbm, 470, rfl⟩
abbrev main_call0_v226 : Ref sig .tc := ⟨.hbm, 471, rfl⟩
abbrev main_call0_v227 : Ref sig .tc := ⟨.hbm, 472, rfl⟩
abbrev main_call0_v228 : Ref sig .tc := ⟨.hbm, 473, rfl⟩
abbrev main_call0_v229 : Ref sig .tc := ⟨.hbm, 474, rfl⟩
abbrev main_call0_v230 : Ref sig .tc := ⟨.hbm, 475, rfl⟩
abbrev main_call0_v231 : Ref sig .tc := ⟨.hbm, 476, rfl⟩
abbrev main_call0_v232_0 : Ref sig .tc := ⟨.hbm, 477, rfl⟩
abbrev main_call0_v232_1 : Ref sig .tc := ⟨.hbm, 478, rfl⟩
abbrev main_call0_v232_2 : Ref sig .tc := ⟨.hbm, 479, rfl⟩
abbrev main_call0_v233 : Ref sig .tc := ⟨.hbm, 480, rfl⟩
abbrev main_call0_v234 : Ref sig .tc := ⟨.hbm, 481, rfl⟩
abbrev main_call0_v235 : Ref sig .tc := ⟨.hbm, 482, rfl⟩
abbrev main_call0_v236 : Ref sig .tc := ⟨.hbm, 483, rfl⟩
abbrev main_call0_v237 : Ref sig .tc := ⟨.hbm, 484, rfl⟩
abbrev main_call0_cst_16 : Ref sig .tc := ⟨.hbm, 485, rfl⟩
abbrev main_call0_v238 : Ref sig .tc := ⟨.hbm, 486, rfl⟩
abbrev main_call0_v239 : Ref sig .tc := ⟨.hbm, 487, rfl⟩
abbrev main_call0_v240 : Ref sig .tc := ⟨.hbm, 488, rfl⟩
abbrev main_call0_v241 : Ref sig .tc := ⟨.hbm, 489, rfl⟩
abbrev main_call0_v242 : Ref sig .tc := ⟨.hbm, 490, rfl⟩
abbrev main_call0_v243 : Ref sig .tc := ⟨.hbm, 491, rfl⟩
abbrev main_call0_v244 : Ref sig .tc := ⟨.hbm, 492, rfl⟩
abbrev main_call0_v245 : Ref sig .tc := ⟨.hbm, 493, rfl⟩
abbrev main_call0_v246 : Ref sig .tc := ⟨.hbm, 494, rfl⟩
abbrev main_call0_v247 : Ref sig .tc := ⟨.hbm, 495, rfl⟩
abbrev main_call0_call9_c : Ref sig .tc := ⟨.hbm, 496, rfl⟩
abbrev main_call0_call9_v0 : Ref sig .tc := ⟨.hbm, 497, rfl⟩
abbrev main_call0_call9_v1 : Ref sig .tc := ⟨.hbm, 498, rfl⟩
abbrev main_call0_call9_c_0 : Ref sig .tc := ⟨.hbm, 499, rfl⟩
abbrev main_call0_call9_v2 : Ref sig .tc := ⟨.hbm, 500, rfl⟩
abbrev main_call0_call9_v3 : Ref sig .tc := ⟨.hbm, 501, rfl⟩
abbrev main_call0_call9_v4 : Ref sig .tc := ⟨.hbm, 502, rfl⟩
abbrev main_call0_call9_v5 : Ref sig .tc := ⟨.hbm, 503, rfl⟩
abbrev main_call0_call9_c_1 : Ref sig .tc := ⟨.hbm, 504, rfl⟩
abbrev main_call0_call9_c_2 : Ref sig .tc := ⟨.hbm, 505, rfl⟩
abbrev main_call0_call9_v6 : Ref sig .tc := ⟨.hbm, 506, rfl⟩
abbrev main_call0_call9_v7 : Ref sig .tc := ⟨.hbm, 507, rfl⟩
abbrev main_call0_call9_v8 : Ref sig .tc := ⟨.hbm, 508, rfl⟩
abbrev main_call0_call9_v9 : Ref sig .tc := ⟨.hbm, 509, rfl⟩
abbrev main_call0_call9_v10 : Ref sig .tc := ⟨.hbm, 510, rfl⟩
abbrev main_call0_call9_v11 : Ref sig .tc := ⟨.hbm, 511, rfl⟩
abbrev main_call0_call9_c_3 : Ref sig .tc := ⟨.hbm, 512, rfl⟩
abbrev main_call0_call9_v12 : Ref sig .tc := ⟨.hbm, 513, rfl⟩
abbrev main_call0_call9_v13 : Ref sig .tc := ⟨.hbm, 514, rfl⟩
abbrev main_call0_call9_v14 : Ref sig .tc := ⟨.hbm, 515, rfl⟩
abbrev main_call0_call9_cst : Ref sig .tc := ⟨.hbm, 516, rfl⟩
abbrev main_call0_call9_v15 : Ref sig .tc := ⟨.hbm, 517, rfl⟩
abbrev main_call0_v248 : Ref sig .tc := ⟨.hbm, 518, rfl⟩
abbrev main_call0_cst_17 : Ref sig .tc := ⟨.hbm, 519, rfl⟩
abbrev main_call0_v249 : Ref sig .tc := ⟨.hbm, 520, rfl⟩
abbrev main_call0_v250 : Ref sig .tc := ⟨.hbm, 521, rfl⟩
abbrev main_call0_v251 : Ref sig .tc := ⟨.hbm, 522, rfl⟩
abbrev main_call0_v252 : Ref sig .tc := ⟨.hbm, 523, rfl⟩
abbrev main_call0_v253 : Ref sig .tc := ⟨.hbm, 524, rfl⟩
abbrev main_call0_v254 : Ref sig .tc := ⟨.hbm, 525, rfl⟩
abbrev main_call0_v255 : Ref sig .tc := ⟨.hbm, 526, rfl⟩
abbrev main_call0_v256 : Ref sig .tc := ⟨.hbm, 527, rfl⟩
abbrev main_call0_v257 : Ref sig .tc := ⟨.hbm, 528, rfl⟩
abbrev main_call0_v258 : Ref sig .tc := ⟨.hbm, 529, rfl⟩
abbrev main_call0_v259_0 : Ref sig .tc := ⟨.hbm, 530, rfl⟩
abbrev main_call0_v259_1 : Ref sig .tc := ⟨.hbm, 531, rfl⟩
abbrev main_call0_v259_2 : Ref sig .tc := ⟨.hbm, 532, rfl⟩
abbrev main_call0_v260 : Ref sig .tc := ⟨.hbm, 533, rfl⟩
abbrev main_call0_v261 : Ref sig .tc := ⟨.hbm, 534, rfl⟩
abbrev main_call0_v262 : Ref sig .tc := ⟨.hbm, 535, rfl⟩
abbrev main_call0_v263 : Ref sig .tc := ⟨.hbm, 536, rfl⟩
abbrev main_call0_v264 : Ref sig .tc := ⟨.hbm, 537, rfl⟩
abbrev main_call0_cst_18 : Ref sig .tc := ⟨.hbm, 538, rfl⟩
abbrev main_call0_v265 : Ref sig .tc := ⟨.hbm, 539, rfl⟩
abbrev main_call0_v266 : Ref sig .tc := ⟨.hbm, 540, rfl⟩
abbrev main_call0_v267 : Ref sig .tc := ⟨.hbm, 541, rfl⟩
abbrev main_call0_v268 : Ref sig .tc := ⟨.hbm, 542, rfl⟩
abbrev main_call0_v269 : Ref sig .tc := ⟨.hbm, 543, rfl⟩
abbrev main_call0_v270 : Ref sig .tc := ⟨.hbm, 544, rfl⟩
abbrev main_call0_v271 : Ref sig .tc := ⟨.hbm, 545, rfl⟩
abbrev main_call0_v272 : Ref sig .tc := ⟨.hbm, 546, rfl⟩
abbrev main_call0_v273 : Ref sig .tc := ⟨.hbm, 547, rfl⟩
abbrev main_call0_v274 : Ref sig .tc := ⟨.hbm, 548, rfl⟩
abbrev main_call0_call10_c : Ref sig .tc := ⟨.hbm, 549, rfl⟩
abbrev main_call0_call10_v0 : Ref sig .tc := ⟨.hbm, 550, rfl⟩
abbrev main_call0_call10_v1 : Ref sig .tc := ⟨.hbm, 551, rfl⟩
abbrev main_call0_call10_c_0 : Ref sig .tc := ⟨.hbm, 552, rfl⟩
abbrev main_call0_call10_v2 : Ref sig .tc := ⟨.hbm, 553, rfl⟩
abbrev main_call0_call10_v3 : Ref sig .tc := ⟨.hbm, 554, rfl⟩
abbrev main_call0_call10_v4 : Ref sig .tc := ⟨.hbm, 555, rfl⟩
abbrev main_call0_call10_v5 : Ref sig .tc := ⟨.hbm, 556, rfl⟩
abbrev main_call0_call10_c_1 : Ref sig .tc := ⟨.hbm, 557, rfl⟩
abbrev main_call0_call10_c_2 : Ref sig .tc := ⟨.hbm, 558, rfl⟩
abbrev main_call0_call10_v6 : Ref sig .tc := ⟨.hbm, 559, rfl⟩
abbrev main_call0_call10_v7 : Ref sig .tc := ⟨.hbm, 560, rfl⟩
abbrev main_call0_call10_v8 : Ref sig .tc := ⟨.hbm, 561, rfl⟩
abbrev main_call0_call10_v9 : Ref sig .tc := ⟨.hbm, 562, rfl⟩
abbrev main_call0_call10_v10 : Ref sig .tc := ⟨.hbm, 563, rfl⟩
abbrev main_call0_call10_v11 : Ref sig .tc := ⟨.hbm, 564, rfl⟩
abbrev main_call0_call10_c_3 : Ref sig .tc := ⟨.hbm, 565, rfl⟩
abbrev main_call0_call10_v12 : Ref sig .tc := ⟨.hbm, 566, rfl⟩
abbrev main_call0_call10_v13 : Ref sig .tc := ⟨.hbm, 567, rfl⟩
abbrev main_call0_call10_v14 : Ref sig .tc := ⟨.hbm, 568, rfl⟩
abbrev main_call0_call10_cst : Ref sig .tc := ⟨.hbm, 569, rfl⟩
abbrev main_call0_call10_v15 : Ref sig .tc := ⟨.hbm, 570, rfl⟩
abbrev main_call0_v275 : Ref sig .tc := ⟨.hbm, 571, rfl⟩
abbrev main_call0_cst_19 : Ref sig .tc := ⟨.hbm, 572, rfl⟩
abbrev main_call0_v276 : Ref sig .tc := ⟨.hbm, 573, rfl⟩
abbrev main_call0_v277 : Ref sig .tc := ⟨.hbm, 574, rfl⟩
abbrev main_call0_v278 : Ref sig .tc := ⟨.hbm, 575, rfl⟩
abbrev main_call0_v279 : Ref sig .tc := ⟨.hbm, 576, rfl⟩
abbrev main_call0_v280 : Ref sig .tc := ⟨.hbm, 577, rfl⟩
abbrev main_call0_v281 : Ref sig .tc := ⟨.hbm, 578, rfl⟩
abbrev main_call0_v282 : Ref sig .tc := ⟨.hbm, 579, rfl⟩
abbrev main_call0_v283 : Ref sig .tc := ⟨.hbm, 580, rfl⟩
abbrev main_call0_v284 : Ref sig .tc := ⟨.hbm, 581, rfl⟩
abbrev main_call0_v285 : Ref sig .tc := ⟨.hbm, 582, rfl⟩
abbrev main_call0_v286_0 : Ref sig .tc := ⟨.hbm, 583, rfl⟩
abbrev main_call0_v286_1 : Ref sig .tc := ⟨.hbm, 584, rfl⟩
abbrev main_call0_v286_2 : Ref sig .tc := ⟨.hbm, 585, rfl⟩
abbrev main_call0_v287 : Ref sig .tc := ⟨.hbm, 586, rfl⟩
abbrev main_call0_v288 : Ref sig .tc := ⟨.hbm, 587, rfl⟩
abbrev main_call0_v289 : Ref sig .tc := ⟨.hbm, 588, rfl⟩
abbrev main_call0_v290 : Ref sig .tc := ⟨.hbm, 589, rfl⟩
abbrev main_call0_v291 : Ref sig .tc := ⟨.hbm, 590, rfl⟩
abbrev main_call0_cst_20 : Ref sig .tc := ⟨.hbm, 591, rfl⟩
abbrev main_call0_v292 : Ref sig .tc := ⟨.hbm, 592, rfl⟩
abbrev main_call0_v293 : Ref sig .tc := ⟨.hbm, 593, rfl⟩
abbrev main_call0_v294 : Ref sig .tc := ⟨.hbm, 594, rfl⟩
abbrev main_call0_v295 : Ref sig .tc := ⟨.hbm, 595, rfl⟩
abbrev main_call0_v296 : Ref sig .tc := ⟨.hbm, 596, rfl⟩
abbrev main_call0_v297 : Ref sig .tc := ⟨.hbm, 597, rfl⟩
abbrev main_call0_v298 : Ref sig .tc := ⟨.hbm, 598, rfl⟩
abbrev main_call0_v299 : Ref sig .tc := ⟨.hbm, 599, rfl⟩
abbrev main_call0_v300 : Ref sig .tc := ⟨.hbm, 600, rfl⟩
abbrev main_call0_v301 : Ref sig .tc := ⟨.hbm, 601, rfl⟩
abbrev main_call0_call11_c : Ref sig .tc := ⟨.hbm, 602, rfl⟩
abbrev main_call0_call11_v0 : Ref sig .tc := ⟨.hbm, 603, rfl⟩
abbrev main_call0_call11_v1 : Ref sig .tc := ⟨.hbm, 604, rfl⟩
abbrev main_call0_call11_c_0 : Ref sig .tc := ⟨.hbm, 605, rfl⟩
abbrev main_call0_call11_v2 : Ref sig .tc := ⟨.hbm, 606, rfl⟩
abbrev main_call0_call11_v3 : Ref sig .tc := ⟨.hbm, 607, rfl⟩
abbrev main_call0_call11_v4 : Ref sig .tc := ⟨.hbm, 608, rfl⟩
abbrev main_call0_call11_v5 : Ref sig .tc := ⟨.hbm, 609, rfl⟩
abbrev main_call0_call11_c_1 : Ref sig .tc := ⟨.hbm, 610, rfl⟩
abbrev main_call0_call11_c_2 : Ref sig .tc := ⟨.hbm, 611, rfl⟩
abbrev main_call0_call11_v6 : Ref sig .tc := ⟨.hbm, 612, rfl⟩
abbrev main_call0_call11_v7 : Ref sig .tc := ⟨.hbm, 613, rfl⟩
abbrev main_call0_call11_v8 : Ref sig .tc := ⟨.hbm, 614, rfl⟩
abbrev main_call0_call11_v9 : Ref sig .tc := ⟨.hbm, 615, rfl⟩
abbrev main_call0_call11_v10 : Ref sig .tc := ⟨.hbm, 616, rfl⟩
abbrev main_call0_call11_v11 : Ref sig .tc := ⟨.hbm, 617, rfl⟩
abbrev main_call0_call11_c_3 : Ref sig .tc := ⟨.hbm, 618, rfl⟩
abbrev main_call0_call11_v12 : Ref sig .tc := ⟨.hbm, 619, rfl⟩
abbrev main_call0_call11_v13 : Ref sig .tc := ⟨.hbm, 620, rfl⟩
abbrev main_call0_call11_v14 : Ref sig .tc := ⟨.hbm, 621, rfl⟩
abbrev main_call0_call11_cst : Ref sig .tc := ⟨.hbm, 622, rfl⟩
abbrev main_call0_call11_v15 : Ref sig .tc := ⟨.hbm, 623, rfl⟩
abbrev main_call0_v302 : Ref sig .tc := ⟨.hbm, 624, rfl⟩
abbrev main_call0_cst_21 : Ref sig .tc := ⟨.hbm, 625, rfl⟩
abbrev main_call0_v303 : Ref sig .tc := ⟨.hbm, 626, rfl⟩
abbrev main_call0_v304 : Ref sig .tc := ⟨.hbm, 627, rfl⟩
abbrev main_call0_v305 : Ref sig .tc := ⟨.hbm, 628, rfl⟩
abbrev main_call0_v306 : Ref sig .tc := ⟨.hbm, 629, rfl⟩
abbrev main_call0_v307 : Ref sig .tc := ⟨.hbm, 630, rfl⟩
abbrev main_call0_v308 : Ref sig .tc := ⟨.hbm, 631, rfl⟩
abbrev main_call0_v309 : Ref sig .tc := ⟨.hbm, 632, rfl⟩
abbrev main_call0_v310 : Ref sig .tc := ⟨.hbm, 633, rfl⟩
abbrev main_call0_v311 : Ref sig .tc := ⟨.hbm, 634, rfl⟩
abbrev main_call0_v312 : Ref sig .tc := ⟨.hbm, 635, rfl⟩
abbrev main_call0_v313_0 : Ref sig .tc := ⟨.hbm, 636, rfl⟩
abbrev main_call0_v313_1 : Ref sig .tc := ⟨.hbm, 637, rfl⟩
abbrev main_call0_v313_2 : Ref sig .tc := ⟨.hbm, 638, rfl⟩
abbrev main_call0_v314 : Ref sig .tc := ⟨.hbm, 639, rfl⟩
abbrev main_call0_v315 : Ref sig .tc := ⟨.hbm, 640, rfl⟩
abbrev main_call0_v316 : Ref sig .tc := ⟨.hbm, 641, rfl⟩
abbrev main_call0_v317 : Ref sig .tc := ⟨.hbm, 642, rfl⟩
abbrev main_call0_v318 : Ref sig .tc := ⟨.hbm, 643, rfl⟩
abbrev main_call0_cst_22 : Ref sig .tc := ⟨.hbm, 644, rfl⟩
abbrev main_call0_v319 : Ref sig .tc := ⟨.hbm, 645, rfl⟩
abbrev main_call0_v320 : Ref sig .tc := ⟨.hbm, 646, rfl⟩
abbrev main_call0_v321 : Ref sig .tc := ⟨.hbm, 647, rfl⟩
abbrev main_call0_v322 : Ref sig .tc := ⟨.hbm, 648, rfl⟩
abbrev main_call0_v323 : Ref sig .tc := ⟨.hbm, 649, rfl⟩
abbrev main_call0_v324 : Ref sig .tc := ⟨.hbm, 650, rfl⟩
abbrev main_call0_v325 : Ref sig .tc := ⟨.hbm, 651, rfl⟩
abbrev main_call0_v326 : Ref sig .tc := ⟨.hbm, 652, rfl⟩
abbrev main_call0_v327 : Ref sig .tc := ⟨.hbm, 653, rfl⟩
abbrev main_call0_v328 : Ref sig .tc := ⟨.hbm, 654, rfl⟩
abbrev main_call0_call12_c : Ref sig .tc := ⟨.hbm, 655, rfl⟩
abbrev main_call0_call12_v0 : Ref sig .tc := ⟨.hbm, 656, rfl⟩
abbrev main_call0_call12_v1 : Ref sig .tc := ⟨.hbm, 657, rfl⟩
abbrev main_call0_call12_c_0 : Ref sig .tc := ⟨.hbm, 658, rfl⟩
abbrev main_call0_call12_v2 : Ref sig .tc := ⟨.hbm, 659, rfl⟩
abbrev main_call0_call12_v3 : Ref sig .tc := ⟨.hbm, 660, rfl⟩
abbrev main_call0_call12_v4 : Ref sig .tc := ⟨.hbm, 661, rfl⟩
abbrev main_call0_call12_v5 : Ref sig .tc := ⟨.hbm, 662, rfl⟩
abbrev main_call0_call12_c_1 : Ref sig .tc := ⟨.hbm, 663, rfl⟩
abbrev main_call0_call12_c_2 : Ref sig .tc := ⟨.hbm, 664, rfl⟩
abbrev main_call0_call12_v6 : Ref sig .tc := ⟨.hbm, 665, rfl⟩
abbrev main_call0_call12_v7 : Ref sig .tc := ⟨.hbm, 666, rfl⟩
abbrev main_call0_call12_v8 : Ref sig .tc := ⟨.hbm, 667, rfl⟩
abbrev main_call0_call12_v9 : Ref sig .tc := ⟨.hbm, 668, rfl⟩
abbrev main_call0_call12_v10 : Ref sig .tc := ⟨.hbm, 669, rfl⟩
abbrev main_call0_call12_v11 : Ref sig .tc := ⟨.hbm, 670, rfl⟩
abbrev main_call0_call12_c_3 : Ref sig .tc := ⟨.hbm, 671, rfl⟩
abbrev main_call0_call12_v12 : Ref sig .tc := ⟨.hbm, 672, rfl⟩
abbrev main_call0_call12_v13 : Ref sig .tc := ⟨.hbm, 673, rfl⟩
abbrev main_call0_call12_v14 : Ref sig .tc := ⟨.hbm, 674, rfl⟩
abbrev main_call0_call12_cst : Ref sig .tc := ⟨.hbm, 675, rfl⟩
abbrev main_call0_call12_v15 : Ref sig .tc := ⟨.hbm, 676, rfl⟩
abbrev main_call0_v329 : Ref sig .tc := ⟨.hbm, 677, rfl⟩
abbrev main_call0_cst_23 : Ref sig .tc := ⟨.hbm, 678, rfl⟩
abbrev main_call0_v330 : Ref sig .tc := ⟨.hbm, 679, rfl⟩
abbrev main_call0_v331 : Ref sig .tc := ⟨.hbm, 680, rfl⟩
abbrev main_call0_v332 : Ref sig .tc := ⟨.hbm, 681, rfl⟩
abbrev main_call0_v333 : Ref sig .tc := ⟨.hbm, 682, rfl⟩
abbrev main_call0_v334 : Ref sig .tc := ⟨.hbm, 683, rfl⟩
abbrev main_call0_v335 : Ref sig .tc := ⟨.hbm, 684, rfl⟩
abbrev main_call0_v336 : Ref sig .tc := ⟨.hbm, 685, rfl⟩
abbrev main_call0_v337 : Ref sig .tc := ⟨.hbm, 686, rfl⟩
abbrev main_call0_v338 : Ref sig .tc := ⟨.hbm, 687, rfl⟩
abbrev main_call0_v339 : Ref sig .tc := ⟨.hbm, 688, rfl⟩
abbrev main_call0_v340_0 : Ref sig .tc := ⟨.hbm, 689, rfl⟩
abbrev main_call0_v340_1 : Ref sig .tc := ⟨.hbm, 690, rfl⟩
abbrev main_call0_v340_2 : Ref sig .tc := ⟨.hbm, 691, rfl⟩
abbrev main_call0_v341 : Ref sig .tc := ⟨.hbm, 692, rfl⟩
abbrev main_call0_v342 : Ref sig .tc := ⟨.hbm, 693, rfl⟩
abbrev main_call0_v343 : Ref sig .tc := ⟨.hbm, 694, rfl⟩
abbrev main_call0_v344 : Ref sig .tc := ⟨.hbm, 695, rfl⟩
abbrev main_call0_v345 : Ref sig .tc := ⟨.hbm, 696, rfl⟩
abbrev main_call0_cst_24 : Ref sig .tc := ⟨.hbm, 697, rfl⟩
abbrev main_call0_v346 : Ref sig .tc := ⟨.hbm, 698, rfl⟩
abbrev main_call0_v347 : Ref sig .tc := ⟨.hbm, 699, rfl⟩
abbrev main_call0_v348 : Ref sig .tc := ⟨.hbm, 700, rfl⟩
abbrev main_call0_v349 : Ref sig .tc := ⟨.hbm, 701, rfl⟩
abbrev main_call0_v350 : Ref sig .tc := ⟨.hbm, 702, rfl⟩
abbrev main_call0_v351 : Ref sig .tc := ⟨.hbm, 703, rfl⟩
abbrev main_call0_v352 : Ref sig .tc := ⟨.hbm, 704, rfl⟩
abbrev main_call0_v353 : Ref sig .tc := ⟨.hbm, 705, rfl⟩
abbrev main_call0_v354 : Ref sig .tc := ⟨.hbm, 706, rfl⟩
abbrev main_call0_v355 : Ref sig .tc := ⟨.hbm, 707, rfl⟩
abbrev main_call0_call13_c : Ref sig .tc := ⟨.hbm, 708, rfl⟩
abbrev main_call0_call13_v0 : Ref sig .tc := ⟨.hbm, 709, rfl⟩
abbrev main_call0_call13_v1 : Ref sig .tc := ⟨.hbm, 710, rfl⟩
abbrev main_call0_call13_c_0 : Ref sig .tc := ⟨.hbm, 711, rfl⟩
abbrev main_call0_call13_v2 : Ref sig .tc := ⟨.hbm, 712, rfl⟩
abbrev main_call0_call13_v3 : Ref sig .tc := ⟨.hbm, 713, rfl⟩
abbrev main_call0_call13_v4 : Ref sig .tc := ⟨.hbm, 714, rfl⟩
abbrev main_call0_call13_v5 : Ref sig .tc := ⟨.hbm, 715, rfl⟩
abbrev main_call0_call13_c_1 : Ref sig .tc := ⟨.hbm, 716, rfl⟩
abbrev main_call0_call13_c_2 : Ref sig .tc := ⟨.hbm, 717, rfl⟩
abbrev main_call0_call13_v6 : Ref sig .tc := ⟨.hbm, 718, rfl⟩
abbrev main_call0_call13_v7 : Ref sig .tc := ⟨.hbm, 719, rfl⟩
abbrev main_call0_call13_v8 : Ref sig .tc := ⟨.hbm, 720, rfl⟩
abbrev main_call0_call13_v9 : Ref sig .tc := ⟨.hbm, 721, rfl⟩
abbrev main_call0_call13_v10 : Ref sig .tc := ⟨.hbm, 722, rfl⟩
abbrev main_call0_call13_v11 : Ref sig .tc := ⟨.hbm, 723, rfl⟩
abbrev main_call0_call13_c_3 : Ref sig .tc := ⟨.hbm, 724, rfl⟩
abbrev main_call0_call13_v12 : Ref sig .tc := ⟨.hbm, 725, rfl⟩
abbrev main_call0_call13_v13 : Ref sig .tc := ⟨.hbm, 726, rfl⟩
abbrev main_call0_call13_v14 : Ref sig .tc := ⟨.hbm, 727, rfl⟩
abbrev main_call0_call13_cst : Ref sig .tc := ⟨.hbm, 728, rfl⟩
abbrev main_call0_call13_v15 : Ref sig .tc := ⟨.hbm, 729, rfl⟩
abbrev main_call0_v356 : Ref sig .tc := ⟨.hbm, 730, rfl⟩
abbrev main_call0_cst_25 : Ref sig .tc := ⟨.hbm, 731, rfl⟩
abbrev main_call0_v357 : Ref sig .tc := ⟨.hbm, 732, rfl⟩
abbrev main_call0_v358 : Ref sig .tc := ⟨.hbm, 733, rfl⟩
abbrev main_call0_v359 : Ref sig .tc := ⟨.hbm, 734, rfl⟩
abbrev main_call0_v360 : Ref sig .tc := ⟨.hbm, 735, rfl⟩
abbrev main_call0_v361 : Ref sig .tc := ⟨.hbm, 736, rfl⟩
abbrev main_call0_v362 : Ref sig .tc := ⟨.hbm, 737, rfl⟩
abbrev main_call0_v363 : Ref sig .tc := ⟨.hbm, 738, rfl⟩
abbrev main_call0_v364 : Ref sig .tc := ⟨.hbm, 739, rfl⟩
abbrev main_call0_v365 : Ref sig .tc := ⟨.hbm, 740, rfl⟩
abbrev main_call0_v366 : Ref sig .tc := ⟨.hbm, 741, rfl⟩
abbrev main_call0_v367_0 : Ref sig .tc := ⟨.hbm, 742, rfl⟩
abbrev main_call0_v367_1 : Ref sig .tc := ⟨.hbm, 743, rfl⟩
abbrev main_call0_v367_2 : Ref sig .tc := ⟨.hbm, 744, rfl⟩
abbrev main_call0_v368 : Ref sig .tc := ⟨.hbm, 745, rfl⟩
abbrev main_call0_v369 : Ref sig .tc := ⟨.hbm, 746, rfl⟩
abbrev main_call0_v370 : Ref sig .tc := ⟨.hbm, 747, rfl⟩
abbrev main_call0_v371 : Ref sig .tc := ⟨.hbm, 748, rfl⟩
abbrev main_call0_v372 : Ref sig .tc := ⟨.hbm, 749, rfl⟩
abbrev main_call0_cst_26 : Ref sig .tc := ⟨.hbm, 750, rfl⟩
abbrev main_call0_v373 : Ref sig .tc := ⟨.hbm, 751, rfl⟩
abbrev main_call0_v374 : Ref sig .tc := ⟨.hbm, 752, rfl⟩
abbrev main_call0_v375 : Ref sig .tc := ⟨.hbm, 753, rfl⟩
abbrev main_call0_v376 : Ref sig .tc := ⟨.hbm, 754, rfl⟩
abbrev main_call0_v377 : Ref sig .tc := ⟨.hbm, 755, rfl⟩
abbrev main_call0_v378 : Ref sig .tc := ⟨.hbm, 756, rfl⟩
abbrev main_call0_v379 : Ref sig .tc := ⟨.hbm, 757, rfl⟩
abbrev main_call0_v380 : Ref sig .tc := ⟨.hbm, 758, rfl⟩
abbrev main_call0_v381 : Ref sig .tc := ⟨.hbm, 759, rfl⟩
abbrev main_call0_v382 : Ref sig .tc := ⟨.hbm, 760, rfl⟩
abbrev main_call0_call14_c : Ref sig .tc := ⟨.hbm, 761, rfl⟩
abbrev main_call0_call14_v0 : Ref sig .tc := ⟨.hbm, 762, rfl⟩
abbrev main_call0_call14_v1 : Ref sig .tc := ⟨.hbm, 763, rfl⟩
abbrev main_call0_call14_c_0 : Ref sig .tc := ⟨.hbm, 764, rfl⟩
abbrev main_call0_call14_v2 : Ref sig .tc := ⟨.hbm, 765, rfl⟩
abbrev main_call0_call14_v3 : Ref sig .tc := ⟨.hbm, 766, rfl⟩
abbrev main_call0_call14_v4 : Ref sig .tc := ⟨.hbm, 767, rfl⟩
abbrev main_call0_call14_v5 : Ref sig .tc := ⟨.hbm, 768, rfl⟩
abbrev main_call0_call14_c_1 : Ref sig .tc := ⟨.hbm, 769, rfl⟩
abbrev main_call0_call14_c_2 : Ref sig .tc := ⟨.hbm, 770, rfl⟩
abbrev main_call0_call14_v6 : Ref sig .tc := ⟨.hbm, 771, rfl⟩
abbrev main_call0_call14_v7 : Ref sig .tc := ⟨.hbm, 772, rfl⟩
abbrev main_call0_call14_v8 : Ref sig .tc := ⟨.hbm, 773, rfl⟩
abbrev main_call0_call14_v9 : Ref sig .tc := ⟨.hbm, 774, rfl⟩
abbrev main_call0_call14_v10 : Ref sig .tc := ⟨.hbm, 775, rfl⟩
abbrev main_call0_call14_v11 : Ref sig .tc := ⟨.hbm, 776, rfl⟩
abbrev main_call0_call14_c_3 : Ref sig .tc := ⟨.hbm, 777, rfl⟩
abbrev main_call0_call14_v12 : Ref sig .tc := ⟨.hbm, 778, rfl⟩
abbrev main_call0_call14_v13 : Ref sig .tc := ⟨.hbm, 779, rfl⟩
abbrev main_call0_call14_v14 : Ref sig .tc := ⟨.hbm, 780, rfl⟩
abbrev main_call0_call14_cst : Ref sig .tc := ⟨.hbm, 781, rfl⟩
abbrev main_call0_call14_v15 : Ref sig .tc := ⟨.hbm, 782, rfl⟩
abbrev main_call0_v383 : Ref sig .tc := ⟨.hbm, 783, rfl⟩
abbrev main_call0_cst_27 : Ref sig .tc := ⟨.hbm, 784, rfl⟩
abbrev main_call0_v384 : Ref sig .tc := ⟨.hbm, 785, rfl⟩
abbrev main_call0_v385 : Ref sig .tc := ⟨.hbm, 786, rfl⟩
abbrev main_call0_v386 : Ref sig .tc := ⟨.hbm, 787, rfl⟩
abbrev main_call0_v387 : Ref sig .tc := ⟨.hbm, 788, rfl⟩
abbrev main_call0_v388 : Ref sig .tc := ⟨.hbm, 789, rfl⟩
abbrev main_call0_v389 : Ref sig .tc := ⟨.hbm, 790, rfl⟩
abbrev main_call0_v390 : Ref sig .tc := ⟨.hbm, 791, rfl⟩
abbrev main_call0_v391 : Ref sig .tc := ⟨.hbm, 792, rfl⟩
abbrev main_call0_v392 : Ref sig .tc := ⟨.hbm, 793, rfl⟩
abbrev main_call0_v393 : Ref sig .tc := ⟨.hbm, 794, rfl⟩
abbrev main_call0_v394_0 : Ref sig .tc := ⟨.hbm, 795, rfl⟩
abbrev main_call0_v394_1 : Ref sig .tc := ⟨.hbm, 796, rfl⟩
abbrev main_call0_v394_2 : Ref sig .tc := ⟨.hbm, 797, rfl⟩
abbrev main_call0_v395 : Ref sig .tc := ⟨.hbm, 798, rfl⟩
abbrev main_call0_v396 : Ref sig .tc := ⟨.hbm, 799, rfl⟩
abbrev main_call0_v397 : Ref sig .tc := ⟨.hbm, 800, rfl⟩
abbrev main_call0_v398 : Ref sig .tc := ⟨.hbm, 801, rfl⟩
abbrev main_call0_v399 : Ref sig .tc := ⟨.hbm, 802, rfl⟩
abbrev main_call0_cst_28 : Ref sig .tc := ⟨.hbm, 803, rfl⟩
abbrev main_call0_v400 : Ref sig .tc := ⟨.hbm, 804, rfl⟩
abbrev main_call0_v401 : Ref sig .tc := ⟨.hbm, 805, rfl⟩
abbrev main_call0_v402 : Ref sig .tc := ⟨.hbm, 806, rfl⟩
abbrev main_call0_v403 : Ref sig .tc := ⟨.hbm, 807, rfl⟩
abbrev main_call0_v404 : Ref sig .tc := ⟨.hbm, 808, rfl⟩
abbrev main_call0_v405 : Ref sig .tc := ⟨.hbm, 809, rfl⟩
abbrev main_call0_v406 : Ref sig .tc := ⟨.hbm, 810, rfl⟩
abbrev main_call0_v407 : Ref sig .tc := ⟨.hbm, 811, rfl⟩
abbrev main_call0_v408 : Ref sig .tc := ⟨.hbm, 812, rfl⟩
abbrev main_call0_v409 : Ref sig .tc := ⟨.hbm, 813, rfl⟩
abbrev main_call0_call15_c : Ref sig .tc := ⟨.hbm, 814, rfl⟩
abbrev main_call0_call15_v0 : Ref sig .tc := ⟨.hbm, 815, rfl⟩
abbrev main_call0_call15_v1 : Ref sig .tc := ⟨.hbm, 816, rfl⟩
abbrev main_call0_call15_c_0 : Ref sig .tc := ⟨.hbm, 817, rfl⟩
abbrev main_call0_call15_v2 : Ref sig .tc := ⟨.hbm, 818, rfl⟩
abbrev main_call0_call15_v3 : Ref sig .tc := ⟨.hbm, 819, rfl⟩
abbrev main_call0_call15_v4 : Ref sig .tc := ⟨.hbm, 820, rfl⟩
abbrev main_call0_call15_v5 : Ref sig .tc := ⟨.hbm, 821, rfl⟩
abbrev main_call0_call15_c_1 : Ref sig .tc := ⟨.hbm, 822, rfl⟩
abbrev main_call0_call15_c_2 : Ref sig .tc := ⟨.hbm, 823, rfl⟩
abbrev main_call0_call15_v6 : Ref sig .tc := ⟨.hbm, 824, rfl⟩
abbrev main_call0_call15_v7 : Ref sig .tc := ⟨.hbm, 825, rfl⟩
abbrev main_call0_call15_v8 : Ref sig .tc := ⟨.hbm, 826, rfl⟩
abbrev main_call0_call15_v9 : Ref sig .tc := ⟨.hbm, 827, rfl⟩
abbrev main_call0_call15_v10 : Ref sig .tc := ⟨.hbm, 828, rfl⟩
abbrev main_call0_call15_v11 : Ref sig .tc := ⟨.hbm, 829, rfl⟩
abbrev main_call0_call15_c_3 : Ref sig .tc := ⟨.hbm, 830, rfl⟩
abbrev main_call0_call15_v12 : Ref sig .tc := ⟨.hbm, 831, rfl⟩
abbrev main_call0_call15_v13 : Ref sig .tc := ⟨.hbm, 832, rfl⟩
abbrev main_call0_call15_v14 : Ref sig .tc := ⟨.hbm, 833, rfl⟩
abbrev main_call0_call15_cst : Ref sig .tc := ⟨.hbm, 834, rfl⟩
abbrev main_call0_call15_v15 : Ref sig .tc := ⟨.hbm, 835, rfl⟩
abbrev main_call0_v410 : Ref sig .tc := ⟨.hbm, 836, rfl⟩
abbrev main_call0_call16_c : Ref sig .tc := ⟨.hbm, 837, rfl⟩
abbrev main_call0_call16_v0 : Ref sig .tc := ⟨.hbm, 838, rfl⟩
abbrev main_call0_call16_v1 : Ref sig .tc := ⟨.hbm, 839, rfl⟩
abbrev main_call0_call16_c_0 : Ref sig .tc := ⟨.hbm, 840, rfl⟩
abbrev main_call0_call16_v2 : Ref sig .tc := ⟨.hbm, 841, rfl⟩
abbrev main_call0_call16_v3 : Ref sig .tc := ⟨.hbm, 842, rfl⟩
abbrev main_call0_call16_v4 : Ref sig .tc := ⟨.hbm, 843, rfl⟩
abbrev main_call0_call16_v5 : Ref sig .tc := ⟨.hbm, 844, rfl⟩
abbrev main_call0_call16_c_1 : Ref sig .tc := ⟨.hbm, 845, rfl⟩
abbrev main_call0_call16_c_2 : Ref sig .tc := ⟨.hbm, 846, rfl⟩
abbrev main_call0_call16_v6 : Ref sig .tc := ⟨.hbm, 847, rfl⟩
abbrev main_call0_call16_v7 : Ref sig .tc := ⟨.hbm, 848, rfl⟩
abbrev main_call0_call16_v8 : Ref sig .tc := ⟨.hbm, 849, rfl⟩
abbrev main_call0_call16_v9 : Ref sig .tc := ⟨.hbm, 850, rfl⟩
abbrev main_call0_call16_v10 : Ref sig .tc := ⟨.hbm, 851, rfl⟩
abbrev main_call0_call16_v11 : Ref sig .tc := ⟨.hbm, 852, rfl⟩
abbrev main_call0_call16_c_3 : Ref sig .tc := ⟨.hbm, 853, rfl⟩
abbrev main_call0_call16_v12 : Ref sig .tc := ⟨.hbm, 854, rfl⟩
abbrev main_call0_call16_v13 : Ref sig .tc := ⟨.hbm, 855, rfl⟩
abbrev main_call0_call16_v14 : Ref sig .tc := ⟨.hbm, 856, rfl⟩
abbrev main_call0_call16_cst : Ref sig .tc := ⟨.hbm, 857, rfl⟩
abbrev main_call0_call16_v15 : Ref sig .tc := ⟨.hbm, 858, rfl⟩
abbrev main_call0_v411 : Ref sig .tc := ⟨.hbm, 859, rfl⟩
abbrev main_call0_cst_29 : Ref sig .tc := ⟨.hbm, 860, rfl⟩
abbrev main_call0_v412 : Ref sig .tc := ⟨.hbm, 861, rfl⟩
abbrev main_call0_c : Ref sig .tc := ⟨.hbm, 862, rfl⟩
abbrev main_call0_v413 : Ref sig .tc := ⟨.hbm, 863, rfl⟩
abbrev main_call0_v414 : Ref sig .tc := ⟨.hbm, 864, rfl⟩
abbrev main_call0_v415 : Ref sig .tc := ⟨.hbm, 865, rfl⟩
abbrev main_call0_v416 : Ref sig .tc := ⟨.hbm, 866, rfl⟩
abbrev main_call0_v417 : Ref sig .tc := ⟨.hbm, 867, rfl⟩
abbrev main_call0_v418 : Ref sig .tc := ⟨.hbm, 868, rfl⟩
abbrev main_call0_v419 : Ref sig .tc := ⟨.hbm, 869, rfl⟩
abbrev main_v0 : Ref sig .tc := ⟨.hbm, 870, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg7_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc3_stg6_0 : Ref sig .tc := ⟨.vmem, 33, rfl⟩
abbrev cc3_stg7_0 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg4_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg5_1 : Ref sig .tc := ⟨.vmem, 51, rfl⟩
abbrev cc5_stg6_0 : Ref sig .tc := ⟨.vmem, 52, rfl⟩
abbrev cc5_stg7_0 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg4_1 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg1_1 : Ref sig .tc := ⟨.vmem, 65, rfl⟩
abbrev cc7_stg2_0 : Ref sig .tc := ⟨.vmem, 66, rfl⟩
abbrev cc7_stg3_0 : Ref sig .tc := ⟨.vmem, 67, rfl⟩
abbrev cc7_stg4_0 : Ref sig .tc := ⟨.vmem, 68, rfl⟩
abbrev cc7_stg5_0 : Ref sig .tc := ⟨.vmem, 69, rfl⟩
abbrev cc7_stg5_1 : Ref sig .tc := ⟨.vmem, 70, rfl⟩
abbrev cc7_stg6_0 : Ref sig .tc := ⟨.vmem, 71, rfl⟩
abbrev cc7_stg7_0 : Ref sig .tc := ⟨.vmem, 72, rfl⟩
abbrev cc8_stg0_0 : Ref sig .tc := ⟨.vmem, 73, rfl⟩
abbrev cc8_stg0_1 : Ref sig .tc := ⟨.vmem, 74, rfl⟩
abbrev cc8_stg1_0 : Ref sig .tc := ⟨.vmem, 75, rfl⟩
abbrev cc8_stg1_1 : Ref sig .tc := ⟨.vmem, 76, rfl⟩
abbrev cc8_stg2_0 : Ref sig .tc := ⟨.vmem, 77, rfl⟩
abbrev cc8_stg3_0 : Ref sig .tc := ⟨.vmem, 78, rfl⟩
abbrev cc8_stg4_0 : Ref sig .tc := ⟨.vmem, 79, rfl⟩
abbrev cc8_stg4_1 : Ref sig .tc := ⟨.vmem, 80, rfl⟩
abbrev cc9_stg0_0 : Ref sig .tc := ⟨.vmem, 81, rfl⟩
abbrev cc9_stg0_1 : Ref sig .tc := ⟨.vmem, 82, rfl⟩
abbrev cc9_stg1_0 : Ref sig .tc := ⟨.vmem, 83, rfl⟩
abbrev cc9_stg1_1 : Ref sig .tc := ⟨.vmem, 84, rfl⟩
abbrev cc9_stg2_0 : Ref sig .tc := ⟨.vmem, 85, rfl⟩
abbrev cc9_stg3_0 : Ref sig .tc := ⟨.vmem, 86, rfl⟩
abbrev cc9_stg4_0 : Ref sig .tc := ⟨.vmem, 87, rfl⟩
abbrev cc9_stg5_0 : Ref sig .tc := ⟨.vmem, 88, rfl⟩
abbrev cc9_stg5_1 : Ref sig .tc := ⟨.vmem, 89, rfl⟩
abbrev cc9_stg6_0 : Ref sig .tc := ⟨.vmem, 90, rfl⟩
abbrev cc9_stg7_0 : Ref sig .tc := ⟨.vmem, 91, rfl⟩
abbrev cc10_stg0_0 : Ref sig .tc := ⟨.vmem, 92, rfl⟩
abbrev cc10_stg0_1 : Ref sig .tc := ⟨.vmem, 93, rfl⟩
abbrev cc10_stg1_0 : Ref sig .tc := ⟨.vmem, 94, rfl⟩
abbrev cc10_stg1_1 : Ref sig .tc := ⟨.vmem, 95, rfl⟩
abbrev cc10_stg2_0 : Ref sig .tc := ⟨.vmem, 96, rfl⟩
abbrev cc10_stg3_0 : Ref sig .tc := ⟨.vmem, 97, rfl⟩
abbrev cc10_stg4_0 : Ref sig .tc := ⟨.vmem, 98, rfl⟩
abbrev cc10_stg4_1 : Ref sig .tc := ⟨.vmem, 99, rfl⟩
abbrev cc11_stg0_0 : Ref sig .tc := ⟨.vmem, 100, rfl⟩
abbrev cc11_stg0_1 : Ref sig .tc := ⟨.vmem, 101, rfl⟩
abbrev cc11_stg1_0 : Ref sig .tc := ⟨.vmem, 102, rfl⟩
abbrev cc11_stg1_1 : Ref sig .tc := ⟨.vmem, 103, rfl⟩
abbrev cc11_stg2_0 : Ref sig .tc := ⟨.vmem, 104, rfl⟩
abbrev cc11_stg3_0 : Ref sig .tc := ⟨.vmem, 105, rfl⟩
abbrev cc11_stg4_0 : Ref sig .tc := ⟨.vmem, 106, rfl⟩
abbrev cc11_stg5_0 : Ref sig .tc := ⟨.vmem, 107, rfl⟩
abbrev cc11_stg5_1 : Ref sig .tc := ⟨.vmem, 108, rfl⟩
abbrev cc11_stg6_0 : Ref sig .tc := ⟨.vmem, 109, rfl⟩
abbrev cc11_stg7_0 : Ref sig .tc := ⟨.vmem, 110, rfl⟩
abbrev cc12_stg0_0 : Ref sig .tc := ⟨.vmem, 111, rfl⟩
abbrev cc12_stg0_1 : Ref sig .tc := ⟨.vmem, 112, rfl⟩
abbrev cc12_stg1_0 : Ref sig .tc := ⟨.vmem, 113, rfl⟩
abbrev cc12_stg1_1 : Ref sig .tc := ⟨.vmem, 114, rfl⟩
abbrev cc12_stg2_0 : Ref sig .tc := ⟨.vmem, 115, rfl⟩
abbrev cc12_stg3_0 : Ref sig .tc := ⟨.vmem, 116, rfl⟩
abbrev cc12_stg4_0 : Ref sig .tc := ⟨.vmem, 117, rfl⟩
abbrev cc12_stg4_1 : Ref sig .tc := ⟨.vmem, 118, rfl⟩
abbrev cc13_stg0_0 : Ref sig .tc := ⟨.vmem, 119, rfl⟩
abbrev cc13_stg0_1 : Ref sig .tc := ⟨.vmem, 120, rfl⟩
abbrev cc13_stg1_0 : Ref sig .tc := ⟨.vmem, 121, rfl⟩
abbrev cc13_stg1_1 : Ref sig .tc := ⟨.vmem, 122, rfl⟩
abbrev cc13_stg2_0 : Ref sig .tc := ⟨.vmem, 123, rfl⟩
abbrev cc13_stg3_0 : Ref sig .tc := ⟨.vmem, 124, rfl⟩
abbrev cc13_stg4_0 : Ref sig .tc := ⟨.vmem, 125, rfl⟩
abbrev cc13_stg5_0 : Ref sig .tc := ⟨.vmem, 126, rfl⟩
abbrev cc13_stg5_1 : Ref sig .tc := ⟨.vmem, 127, rfl⟩
abbrev cc13_stg6_0 : Ref sig .tc := ⟨.vmem, 128, rfl⟩
abbrev cc13_stg7_0 : Ref sig .tc := ⟨.vmem, 129, rfl⟩
abbrev cc14_stg0_0 : Ref sig .tc := ⟨.vmem, 130, rfl⟩
abbrev cc14_stg0_1 : Ref sig .tc := ⟨.vmem, 131, rfl⟩
abbrev cc14_stg1_0 : Ref sig .tc := ⟨.vmem, 132, rfl⟩
abbrev cc14_stg1_1 : Ref sig .tc := ⟨.vmem, 133, rfl⟩
abbrev cc14_stg2_0 : Ref sig .tc := ⟨.vmem, 134, rfl⟩
abbrev cc14_stg3_0 : Ref sig .tc := ⟨.vmem, 135, rfl⟩
abbrev cc14_stg4_0 : Ref sig .tc := ⟨.vmem, 136, rfl⟩
abbrev cc14_stg4_1 : Ref sig .tc := ⟨.vmem, 137, rfl⟩
abbrev cc15_stg0_0 : Ref sig .tc := ⟨.vmem, 138, rfl⟩
abbrev cc15_stg0_1 : Ref sig .tc := ⟨.vmem, 139, rfl⟩
abbrev cc15_stg1_0 : Ref sig .tc := ⟨.vmem, 140, rfl⟩
abbrev cc15_stg1_1 : Ref sig .tc := ⟨.vmem, 141, rfl⟩
abbrev cc15_stg2_0 : Ref sig .tc := ⟨.vmem, 142, rfl⟩
abbrev cc15_stg3_0 : Ref sig .tc := ⟨.vmem, 143, rfl⟩
abbrev cc15_stg4_0 : Ref sig .tc := ⟨.vmem, 144, rfl⟩
abbrev cc15_stg5_0 : Ref sig .tc := ⟨.vmem, 145, rfl⟩
abbrev cc15_stg5_1 : Ref sig .tc := ⟨.vmem, 146, rfl⟩
abbrev cc15_stg6_0 : Ref sig .tc := ⟨.vmem, 147, rfl⟩
abbrev cc15_stg7_0 : Ref sig .tc := ⟨.vmem, 148, rfl⟩
abbrev cc16_stg0_0 : Ref sig .tc := ⟨.vmem, 149, rfl⟩
abbrev cc16_stg0_1 : Ref sig .tc := ⟨.vmem, 150, rfl⟩
abbrev cc16_stg1_0 : Ref sig .tc := ⟨.vmem, 151, rfl⟩
abbrev cc16_stg1_1 : Ref sig .tc := ⟨.vmem, 152, rfl⟩
abbrev cc16_stg2_0 : Ref sig .tc := ⟨.vmem, 153, rfl⟩
abbrev cc16_stg3_0 : Ref sig .tc := ⟨.vmem, 154, rfl⟩
abbrev cc16_stg4_0 : Ref sig .tc := ⟨.vmem, 155, rfl⟩
abbrev cc16_stg4_1 : Ref sig .tc := ⟨.vmem, 156, rfl⟩
abbrev cc17_stg0_0 : Ref sig .tc := ⟨.vmem, 157, rfl⟩
abbrev cc17_stg0_1 : Ref sig .tc := ⟨.vmem, 158, rfl⟩
abbrev cc17_stg1_0 : Ref sig .tc := ⟨.vmem, 159, rfl⟩
abbrev cc17_stg1_1 : Ref sig .tc := ⟨.vmem, 160, rfl⟩
abbrev cc17_stg2_0 : Ref sig .tc := ⟨.vmem, 161, rfl⟩
abbrev cc17_stg3_0 : Ref sig .tc := ⟨.vmem, 162, rfl⟩
abbrev cc17_stg4_0 : Ref sig .tc := ⟨.vmem, 163, rfl⟩
abbrev cc17_stg5_0 : Ref sig .tc := ⟨.vmem, 164, rfl⟩
abbrev cc17_stg5_1 : Ref sig .tc := ⟨.vmem, 165, rfl⟩
abbrev cc17_stg6_0 : Ref sig .tc := ⟨.vmem, 166, rfl⟩
abbrev cc17_stg7_0 : Ref sig .tc := ⟨.vmem, 167, rfl⟩
abbrev cc18_stg0_0 : Ref sig .tc := ⟨.vmem, 168, rfl⟩
abbrev cc18_stg0_1 : Ref sig .tc := ⟨.vmem, 169, rfl⟩
abbrev cc18_stg1_0 : Ref sig .tc := ⟨.vmem, 170, rfl⟩
abbrev cc18_stg1_1 : Ref sig .tc := ⟨.vmem, 171, rfl⟩
abbrev cc18_stg2_0 : Ref sig .tc := ⟨.vmem, 172, rfl⟩
abbrev cc18_stg3_0 : Ref sig .tc := ⟨.vmem, 173, rfl⟩
abbrev cc18_stg4_0 : Ref sig .tc := ⟨.vmem, 174, rfl⟩
abbrev cc18_stg4_1 : Ref sig .tc := ⟨.vmem, 175, rfl⟩
abbrev cc19_stg0_0 : Ref sig .tc := ⟨.vmem, 176, rfl⟩
abbrev cc19_stg0_1 : Ref sig .tc := ⟨.vmem, 177, rfl⟩
abbrev cc19_stg1_0 : Ref sig .tc := ⟨.vmem, 178, rfl⟩
abbrev cc19_stg1_1 : Ref sig .tc := ⟨.vmem, 179, rfl⟩
abbrev cc19_stg2_0 : Ref sig .tc := ⟨.vmem, 180, rfl⟩
abbrev cc19_stg3_0 : Ref sig .tc := ⟨.vmem, 181, rfl⟩
abbrev cc19_stg4_0 : Ref sig .tc := ⟨.vmem, 182, rfl⟩
abbrev cc19_stg5_0 : Ref sig .tc := ⟨.vmem, 183, rfl⟩
abbrev cc19_stg5_1 : Ref sig .tc := ⟨.vmem, 184, rfl⟩
abbrev cc19_stg6_0 : Ref sig .tc := ⟨.vmem, 185, rfl⟩
abbrev cc19_stg7_0 : Ref sig .tc := ⟨.vmem, 186, rfl⟩
abbrev cc20_stg0_0 : Ref sig .tc := ⟨.vmem, 187, rfl⟩
abbrev cc20_stg0_1 : Ref sig .tc := ⟨.vmem, 188, rfl⟩
abbrev cc20_stg1_0 : Ref sig .tc := ⟨.vmem, 189, rfl⟩
abbrev cc20_stg1_1 : Ref sig .tc := ⟨.vmem, 190, rfl⟩
abbrev cc20_stg2_0 : Ref sig .tc := ⟨.vmem, 191, rfl⟩
abbrev cc20_stg3_0 : Ref sig .tc := ⟨.vmem, 192, rfl⟩
abbrev cc20_stg4_0 : Ref sig .tc := ⟨.vmem, 193, rfl⟩
abbrev cc20_stg4_1 : Ref sig .tc := ⟨.vmem, 194, rfl⟩
abbrev cc21_stg0_0 : Ref sig .tc := ⟨.vmem, 195, rfl⟩
abbrev cc21_stg0_1 : Ref sig .tc := ⟨.vmem, 196, rfl⟩
abbrev cc21_stg1_0 : Ref sig .tc := ⟨.vmem, 197, rfl⟩
abbrev cc21_stg1_1 : Ref sig .tc := ⟨.vmem, 198, rfl⟩
abbrev cc21_stg2_0 : Ref sig .tc := ⟨.vmem, 199, rfl⟩
abbrev cc21_stg3_0 : Ref sig .tc := ⟨.vmem, 200, rfl⟩
abbrev cc21_stg4_0 : Ref sig .tc := ⟨.vmem, 201, rfl⟩
abbrev cc21_stg5_0 : Ref sig .tc := ⟨.vmem, 202, rfl⟩
abbrev cc21_stg5_1 : Ref sig .tc := ⟨.vmem, 203, rfl⟩
abbrev cc21_stg6_0 : Ref sig .tc := ⟨.vmem, 204, rfl⟩
abbrev cc21_stg7_0 : Ref sig .tc := ⟨.vmem, 205, rfl⟩
abbrev cc22_stg0_0 : Ref sig .tc := ⟨.vmem, 206, rfl⟩
abbrev cc22_stg0_1 : Ref sig .tc := ⟨.vmem, 207, rfl⟩
abbrev cc22_stg1_0 : Ref sig .tc := ⟨.vmem, 208, rfl⟩
abbrev cc22_stg1_1 : Ref sig .tc := ⟨.vmem, 209, rfl⟩
abbrev cc22_stg2_0 : Ref sig .tc := ⟨.vmem, 210, rfl⟩
abbrev cc22_stg3_0 : Ref sig .tc := ⟨.vmem, 211, rfl⟩
abbrev cc22_stg4_0 : Ref sig .tc := ⟨.vmem, 212, rfl⟩
abbrev cc22_stg4_1 : Ref sig .tc := ⟨.vmem, 213, rfl⟩
abbrev cc23_stg0_0 : Ref sig .tc := ⟨.vmem, 214, rfl⟩
abbrev cc23_stg0_1 : Ref sig .tc := ⟨.vmem, 215, rfl⟩
abbrev cc23_stg1_0 : Ref sig .tc := ⟨.vmem, 216, rfl⟩
abbrev cc23_stg1_1 : Ref sig .tc := ⟨.vmem, 217, rfl⟩
abbrev cc23_stg2_0 : Ref sig .tc := ⟨.vmem, 218, rfl⟩
abbrev cc23_stg3_0 : Ref sig .tc := ⟨.vmem, 219, rfl⟩
abbrev cc23_stg4_0 : Ref sig .tc := ⟨.vmem, 220, rfl⟩
abbrev cc23_stg5_0 : Ref sig .tc := ⟨.vmem, 221, rfl⟩
abbrev cc23_stg5_1 : Ref sig .tc := ⟨.vmem, 222, rfl⟩
abbrev cc23_stg6_0 : Ref sig .tc := ⟨.vmem, 223, rfl⟩
abbrev cc23_stg7_0 : Ref sig .tc := ⟨.vmem, 224, rfl⟩
abbrev cc24_stg0_0 : Ref sig .tc := ⟨.vmem, 225, rfl⟩
abbrev cc24_stg0_1 : Ref sig .tc := ⟨.vmem, 226, rfl⟩
abbrev cc24_stg1_0 : Ref sig .tc := ⟨.vmem, 227, rfl⟩
abbrev cc24_stg1_1 : Ref sig .tc := ⟨.vmem, 228, rfl⟩
abbrev cc24_stg2_0 : Ref sig .tc := ⟨.vmem, 229, rfl⟩
abbrev cc24_stg3_0 : Ref sig .tc := ⟨.vmem, 230, rfl⟩
abbrev cc24_stg4_0 : Ref sig .tc := ⟨.vmem, 231, rfl⟩
abbrev cc24_stg4_1 : Ref sig .tc := ⟨.vmem, 232, rfl⟩
abbrev cc25_stg0_0 : Ref sig .tc := ⟨.vmem, 233, rfl⟩
abbrev cc25_stg0_1 : Ref sig .tc := ⟨.vmem, 234, rfl⟩
abbrev cc25_stg1_0 : Ref sig .tc := ⟨.vmem, 235, rfl⟩
abbrev cc25_stg1_1 : Ref sig .tc := ⟨.vmem, 236, rfl⟩
abbrev cc25_stg2_0 : Ref sig .tc := ⟨.vmem, 237, rfl⟩
abbrev cc25_stg3_0 : Ref sig .tc := ⟨.vmem, 238, rfl⟩
abbrev cc25_stg4_0 : Ref sig .tc := ⟨.vmem, 239, rfl⟩
abbrev cc25_stg5_0 : Ref sig .tc := ⟨.vmem, 240, rfl⟩
abbrev cc25_stg5_1 : Ref sig .tc := ⟨.vmem, 241, rfl⟩
abbrev cc25_stg6_0 : Ref sig .tc := ⟨.vmem, 242, rfl⟩
abbrev cc25_stg7_0 : Ref sig .tc := ⟨.vmem, 243, rfl⟩
abbrev cc26_stg0_0 : Ref sig .tc := ⟨.vmem, 244, rfl⟩
abbrev cc26_stg0_1 : Ref sig .tc := ⟨.vmem, 245, rfl⟩
abbrev cc26_stg1_0 : Ref sig .tc := ⟨.vmem, 246, rfl⟩
abbrev cc26_stg1_1 : Ref sig .tc := ⟨.vmem, 247, rfl⟩
abbrev cc26_stg2_0 : Ref sig .tc := ⟨.vmem, 248, rfl⟩
abbrev cc26_stg3_0 : Ref sig .tc := ⟨.vmem, 249, rfl⟩
abbrev cc26_stg4_0 : Ref sig .tc := ⟨.vmem, 250, rfl⟩
abbrev cc26_stg4_1 : Ref sig .tc := ⟨.vmem, 251, rfl⟩
abbrev cc27_stg0_0 : Ref sig .tc := ⟨.vmem, 252, rfl⟩
abbrev cc27_stg0_1 : Ref sig .tc := ⟨.vmem, 253, rfl⟩
abbrev cc27_stg1_0 : Ref sig .tc := ⟨.vmem, 254, rfl⟩
abbrev cc27_stg1_1 : Ref sig .tc := ⟨.vmem, 255, rfl⟩
abbrev cc27_stg2_0 : Ref sig .tc := ⟨.vmem, 256, rfl⟩
abbrev cc27_stg3_0 : Ref sig .tc := ⟨.vmem, 257, rfl⟩
abbrev cc27_stg4_0 : Ref sig .tc := ⟨.vmem, 258, rfl⟩
abbrev cc27_stg5_0 : Ref sig .tc := ⟨.vmem, 259, rfl⟩
abbrev cc27_stg5_1 : Ref sig .tc := ⟨.vmem, 260, rfl⟩
abbrev cc27_stg6_0 : Ref sig .tc := ⟨.vmem, 261, rfl⟩
abbrev cc27_stg7_0 : Ref sig .tc := ⟨.vmem, 262, rfl⟩
abbrev cc28_stg0_0 : Ref sig .tc := ⟨.vmem, 263, rfl⟩
abbrev cc28_stg0_1 : Ref sig .tc := ⟨.vmem, 264, rfl⟩
abbrev cc28_stg1_0 : Ref sig .tc := ⟨.vmem, 265, rfl⟩
abbrev cc28_stg1_1 : Ref sig .tc := ⟨.vmem, 266, rfl⟩
abbrev cc28_stg2_0 : Ref sig .tc := ⟨.vmem, 267, rfl⟩
abbrev cc28_stg3_0 : Ref sig .tc := ⟨.vmem, 268, rfl⟩
abbrev cc28_stg4_0 : Ref sig .tc := ⟨.vmem, 269, rfl⟩
abbrev cc28_stg4_1 : Ref sig .tc := ⟨.vmem, 270, rfl⟩
abbrev cc29_stg0_0 : Ref sig .tc := ⟨.vmem, 271, rfl⟩
abbrev cc29_stg0_1 : Ref sig .tc := ⟨.vmem, 272, rfl⟩
abbrev cc29_stg1_0 : Ref sig .tc := ⟨.vmem, 273, rfl⟩
abbrev cc29_stg1_1 : Ref sig .tc := ⟨.vmem, 274, rfl⟩
abbrev cc29_stg2_0 : Ref sig .tc := ⟨.vmem, 275, rfl⟩
abbrev cc29_stg3_0 : Ref sig .tc := ⟨.vmem, 276, rfl⟩
abbrev cc29_stg4_0 : Ref sig .tc := ⟨.vmem, 277, rfl⟩
abbrev cc29_stg5_0 : Ref sig .tc := ⟨.vmem, 278, rfl⟩
abbrev cc29_stg5_1 : Ref sig .tc := ⟨.vmem, 279, rfl⟩
abbrev cc29_stg6_0 : Ref sig .tc := ⟨.vmem, 280, rfl⟩
abbrev cc29_stg7_0 : Ref sig .tc := ⟨.vmem, 281, rfl⟩
abbrev cc30_stg0_0 : Ref sig .tc := ⟨.vmem, 282, rfl⟩
abbrev cc30_stg0_1 : Ref sig .tc := ⟨.vmem, 283, rfl⟩
abbrev cc30_stg1_0 : Ref sig .tc := ⟨.vmem, 284, rfl⟩
abbrev cc30_stg1_1 : Ref sig .tc := ⟨.vmem, 285, rfl⟩
abbrev cc30_stg2_0 : Ref sig .tc := ⟨.vmem, 286, rfl⟩
abbrev cc30_stg3_0 : Ref sig .tc := ⟨.vmem, 287, rfl⟩
abbrev cc30_stg4_0 : Ref sig .tc := ⟨.vmem, 288, rfl⟩
abbrev cc30_stg4_1 : Ref sig .tc := ⟨.vmem, 289, rfl⟩
abbrev cc31_stg0_0 : Ref sig .tc := ⟨.vmem, 290, rfl⟩
abbrev cc31_stg0_1 : Ref sig .tc := ⟨.vmem, 291, rfl⟩
abbrev cc31_stg1_0 : Ref sig .tc := ⟨.vmem, 292, rfl⟩
abbrev cc31_stg1_1 : Ref sig .tc := ⟨.vmem, 293, rfl⟩
abbrev cc31_stg2_0 : Ref sig .tc := ⟨.vmem, 294, rfl⟩
abbrev cc31_stg3_0 : Ref sig .tc := ⟨.vmem, 295, rfl⟩
abbrev cc31_stg4_0 : Ref sig .tc := ⟨.vmem, 296, rfl⟩
abbrev cc31_stg5_0 : Ref sig .tc := ⟨.vmem, 297, rfl⟩
abbrev cc31_stg6_0 : Ref sig .tc := ⟨.vmem, 298, rfl⟩
abbrev cc31_stg7_0 : Ref sig .tc := ⟨.vmem, 299, rfl⟩
abbrev cc31_stg8_0 : Ref sig .tc := ⟨.vmem, 300, rfl⟩
abbrev cc31_stg9_0 : Ref sig .tc := ⟨.vmem, 301, rfl⟩
abbrev cc31_stg9_1 : Ref sig .tc := ⟨.vmem, 302, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem7_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc3_sem6_0 : DmaSem sig := 33
abbrev cc3_sem7_0 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem3_0 : DmaSem sig := 40
abbrev cc4_sem4_0 : DmaSem sig := 41
abbrev cc4_sem4_1 : DmaSem sig := 42
abbrev cc5_sem0_0 : DmaSem sig := 43
abbrev cc5_sem0_1 : DmaSem sig := 44
abbrev cc5_sem1_0 : DmaSem sig := 45
abbrev cc5_sem1_1 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem5_1 : DmaSem sig := 51
abbrev cc5_sem6_0 : DmaSem sig := 52
abbrev cc5_sem7_0 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem4_1 : DmaSem sig := 61
abbrev cc7_sem0_0 : DmaSem sig := 62
abbrev cc7_sem0_1 : DmaSem sig := 63
abbrev cc7_sem1_0 : DmaSem sig := 64
abbrev cc7_sem1_1 : DmaSem sig := 65
abbrev cc7_sem2_0 : DmaSem sig := 66
abbrev cc7_sem3_0 : DmaSem sig := 67
abbrev cc7_sem4_0 : DmaSem sig := 68
abbrev cc7_sem5_0 : DmaSem sig := 69
abbrev cc7_sem5_1 : DmaSem sig := 70
abbrev cc7_sem6_0 : DmaSem sig := 71
abbrev cc7_sem7_0 : DmaSem sig := 72
abbrev cc8_sem0_0 : DmaSem sig := 73
abbrev cc8_sem0_1 : DmaSem sig := 74
abbrev cc8_sem1_0 : DmaSem sig := 75
abbrev cc8_sem1_1 : DmaSem sig := 76
abbrev cc8_sem2_0 : DmaSem sig := 77
abbrev cc8_sem3_0 : DmaSem sig := 78
abbrev cc8_sem4_0 : DmaSem sig := 79
abbrev cc8_sem4_1 : DmaSem sig := 80
abbrev cc9_sem0_0 : DmaSem sig := 81
abbrev cc9_sem0_1 : DmaSem sig := 82
abbrev cc9_sem1_0 : DmaSem sig := 83
abbrev cc9_sem1_1 : DmaSem sig := 84
abbrev cc9_sem2_0 : DmaSem sig := 85
abbrev cc9_sem3_0 : DmaSem sig := 86
abbrev cc9_sem4_0 : DmaSem sig := 87
abbrev cc9_sem5_0 : DmaSem sig := 88
abbrev cc9_sem5_1 : DmaSem sig := 89
abbrev cc9_sem6_0 : DmaSem sig := 90
abbrev cc9_sem7_0 : DmaSem sig := 91
abbrev cc10_sem0_0 : DmaSem sig := 92
abbrev cc10_sem0_1 : DmaSem sig := 93
abbrev cc10_sem1_0 : DmaSem sig := 94
abbrev cc10_sem1_1 : DmaSem sig := 95
abbrev cc10_sem2_0 : DmaSem sig := 96
abbrev cc10_sem3_0 : DmaSem sig := 97
abbrev cc10_sem4_0 : DmaSem sig := 98
abbrev cc10_sem4_1 : DmaSem sig := 99
abbrev cc11_sem0_0 : DmaSem sig := 100
abbrev cc11_sem0_1 : DmaSem sig := 101
abbrev cc11_sem1_0 : DmaSem sig := 102
abbrev cc11_sem1_1 : DmaSem sig := 103
abbrev cc11_sem2_0 : DmaSem sig := 104
abbrev cc11_sem3_0 : DmaSem sig := 105
abbrev cc11_sem4_0 : DmaSem sig := 106
abbrev cc11_sem5_0 : DmaSem sig := 107
abbrev cc11_sem5_1 : DmaSem sig := 108
abbrev cc11_sem6_0 : DmaSem sig := 109
abbrev cc11_sem7_0 : DmaSem sig := 110
abbrev cc12_sem0_0 : DmaSem sig := 111
abbrev cc12_sem0_1 : DmaSem sig := 112
abbrev cc12_sem1_0 : DmaSem sig := 113
abbrev cc12_sem1_1 : DmaSem sig := 114
abbrev cc12_sem2_0 : DmaSem sig := 115
abbrev cc12_sem3_0 : DmaSem sig := 116
abbrev cc12_sem4_0 : DmaSem sig := 117
abbrev cc12_sem4_1 : DmaSem sig := 118
abbrev cc13_sem0_0 : DmaSem sig := 119
abbrev cc13_sem0_1 : DmaSem sig := 120
abbrev cc13_sem1_0 : DmaSem sig := 121
abbrev cc13_sem1_1 : DmaSem sig := 122
abbrev cc13_sem2_0 : DmaSem sig := 123
abbrev cc13_sem3_0 : DmaSem sig := 124
abbrev cc13_sem4_0 : DmaSem sig := 125
abbrev cc13_sem5_0 : DmaSem sig := 126
abbrev cc13_sem5_1 : DmaSem sig := 127
abbrev cc13_sem6_0 : DmaSem sig := 128
abbrev cc13_sem7_0 : DmaSem sig := 129
abbrev cc14_sem0_0 : DmaSem sig := 130
abbrev cc14_sem0_1 : DmaSem sig := 131
abbrev cc14_sem1_0 : DmaSem sig := 132
abbrev cc14_sem1_1 : DmaSem sig := 133
abbrev cc14_sem2_0 : DmaSem sig := 134
abbrev cc14_sem3_0 : DmaSem sig := 135
abbrev cc14_sem4_0 : DmaSem sig := 136
abbrev cc14_sem4_1 : DmaSem sig := 137
abbrev cc15_sem0_0 : DmaSem sig := 138
abbrev cc15_sem0_1 : DmaSem sig := 139
abbrev cc15_sem1_0 : DmaSem sig := 140
abbrev cc15_sem1_1 : DmaSem sig := 141
abbrev cc15_sem2_0 : DmaSem sig := 142
abbrev cc15_sem3_0 : DmaSem sig := 143
abbrev cc15_sem4_0 : DmaSem sig := 144
abbrev cc15_sem5_0 : DmaSem sig := 145
abbrev cc15_sem5_1 : DmaSem sig := 146
abbrev cc15_sem6_0 : DmaSem sig := 147
abbrev cc15_sem7_0 : DmaSem sig := 148
abbrev cc16_sem0_0 : DmaSem sig := 149
abbrev cc16_sem0_1 : DmaSem sig := 150
abbrev cc16_sem1_0 : DmaSem sig := 151
abbrev cc16_sem1_1 : DmaSem sig := 152
abbrev cc16_sem2_0 : DmaSem sig := 153
abbrev cc16_sem3_0 : DmaSem sig := 154
abbrev cc16_sem4_0 : DmaSem sig := 155
abbrev cc16_sem4_1 : DmaSem sig := 156
abbrev cc17_sem0_0 : DmaSem sig := 157
abbrev cc17_sem0_1 : DmaSem sig := 158
abbrev cc17_sem1_0 : DmaSem sig := 159
abbrev cc17_sem1_1 : DmaSem sig := 160
abbrev cc17_sem2_0 : DmaSem sig := 161
abbrev cc17_sem3_0 : DmaSem sig := 162
abbrev cc17_sem4_0 : DmaSem sig := 163
abbrev cc17_sem5_0 : DmaSem sig := 164
abbrev cc17_sem5_1 : DmaSem sig := 165
abbrev cc17_sem6_0 : DmaSem sig := 166
abbrev cc17_sem7_0 : DmaSem sig := 167
abbrev cc18_sem0_0 : DmaSem sig := 168
abbrev cc18_sem0_1 : DmaSem sig := 169
abbrev cc18_sem1_0 : DmaSem sig := 170
abbrev cc18_sem1_1 : DmaSem sig := 171
abbrev cc18_sem2_0 : DmaSem sig := 172
abbrev cc18_sem3_0 : DmaSem sig := 173
abbrev cc18_sem4_0 : DmaSem sig := 174
abbrev cc18_sem4_1 : DmaSem sig := 175
abbrev cc19_sem0_0 : DmaSem sig := 176
abbrev cc19_sem0_1 : DmaSem sig := 177
abbrev cc19_sem1_0 : DmaSem sig := 178
abbrev cc19_sem1_1 : DmaSem sig := 179
abbrev cc19_sem2_0 : DmaSem sig := 180
abbrev cc19_sem3_0 : DmaSem sig := 181
abbrev cc19_sem4_0 : DmaSem sig := 182
abbrev cc19_sem5_0 : DmaSem sig := 183
abbrev cc19_sem5_1 : DmaSem sig := 184
abbrev cc19_sem6_0 : DmaSem sig := 185
abbrev cc19_sem7_0 : DmaSem sig := 186
abbrev cc20_sem0_0 : DmaSem sig := 187
abbrev cc20_sem0_1 : DmaSem sig := 188
abbrev cc20_sem1_0 : DmaSem sig := 189
abbrev cc20_sem1_1 : DmaSem sig := 190
abbrev cc20_sem2_0 : DmaSem sig := 191
abbrev cc20_sem3_0 : DmaSem sig := 192
abbrev cc20_sem4_0 : DmaSem sig := 193
abbrev cc20_sem4_1 : DmaSem sig := 194
abbrev cc21_sem0_0 : DmaSem sig := 195
abbrev cc21_sem0_1 : DmaSem sig := 196
abbrev cc21_sem1_0 : DmaSem sig := 197
abbrev cc21_sem1_1 : DmaSem sig := 198
abbrev cc21_sem2_0 : DmaSem sig := 199
abbrev cc21_sem3_0 : DmaSem sig := 200
abbrev cc21_sem4_0 : DmaSem sig := 201
abbrev cc21_sem5_0 : DmaSem sig := 202
abbrev cc21_sem5_1 : DmaSem sig := 203
abbrev cc21_sem6_0 : DmaSem sig := 204
abbrev cc21_sem7_0 : DmaSem sig := 205
abbrev cc22_sem0_0 : DmaSem sig := 206
abbrev cc22_sem0_1 : DmaSem sig := 207
abbrev cc22_sem1_0 : DmaSem sig := 208
abbrev cc22_sem1_1 : DmaSem sig := 209
abbrev cc22_sem2_0 : DmaSem sig := 210
abbrev cc22_sem3_0 : DmaSem sig := 211
abbrev cc22_sem4_0 : DmaSem sig := 212
abbrev cc22_sem4_1 : DmaSem sig := 213
abbrev cc23_sem0_0 : DmaSem sig := 214
abbrev cc23_sem0_1 : DmaSem sig := 215
abbrev cc23_sem1_0 : DmaSem sig := 216
abbrev cc23_sem1_1 : DmaSem sig := 217
abbrev cc23_sem2_0 : DmaSem sig := 218
abbrev cc23_sem3_0 : DmaSem sig := 219
abbrev cc23_sem4_0 : DmaSem sig := 220
abbrev cc23_sem5_0 : DmaSem sig := 221
abbrev cc23_sem5_1 : DmaSem sig := 222
abbrev cc23_sem6_0 : DmaSem sig := 223
abbrev cc23_sem7_0 : DmaSem sig := 224
abbrev cc24_sem0_0 : DmaSem sig := 225
abbrev cc24_sem0_1 : DmaSem sig := 226
abbrev cc24_sem1_0 : DmaSem sig := 227
abbrev cc24_sem1_1 : DmaSem sig := 228
abbrev cc24_sem2_0 : DmaSem sig := 229
abbrev cc24_sem3_0 : DmaSem sig := 230
abbrev cc24_sem4_0 : DmaSem sig := 231
abbrev cc24_sem4_1 : DmaSem sig := 232
abbrev cc25_sem0_0 : DmaSem sig := 233
abbrev cc25_sem0_1 : DmaSem sig := 234
abbrev cc25_sem1_0 : DmaSem sig := 235
abbrev cc25_sem1_1 : DmaSem sig := 236
abbrev cc25_sem2_0 : DmaSem sig := 237
abbrev cc25_sem3_0 : DmaSem sig := 238
abbrev cc25_sem4_0 : DmaSem sig := 239
abbrev cc25_sem5_0 : DmaSem sig := 240
abbrev cc25_sem5_1 : DmaSem sig := 241
abbrev cc25_sem6_0 : DmaSem sig := 242
abbrev cc25_sem7_0 : DmaSem sig := 243
abbrev cc26_sem0_0 : DmaSem sig := 244
abbrev cc26_sem0_1 : DmaSem sig := 245
abbrev cc26_sem1_0 : DmaSem sig := 246
abbrev cc26_sem1_1 : DmaSem sig := 247
abbrev cc26_sem2_0 : DmaSem sig := 248
abbrev cc26_sem3_0 : DmaSem sig := 249
abbrev cc26_sem4_0 : DmaSem sig := 250
abbrev cc26_sem4_1 : DmaSem sig := 251
abbrev cc27_sem0_0 : DmaSem sig := 252
abbrev cc27_sem0_1 : DmaSem sig := 253
abbrev cc27_sem1_0 : DmaSem sig := 254
abbrev cc27_sem1_1 : DmaSem sig := 255
abbrev cc27_sem2_0 : DmaSem sig := 256
abbrev cc27_sem3_0 : DmaSem sig := 257
abbrev cc27_sem4_0 : DmaSem sig := 258
abbrev cc27_sem5_0 : DmaSem sig := 259
abbrev cc27_sem5_1 : DmaSem sig := 260
abbrev cc27_sem6_0 : DmaSem sig := 261
abbrev cc27_sem7_0 : DmaSem sig := 262
abbrev cc28_sem0_0 : DmaSem sig := 263
abbrev cc28_sem0_1 : DmaSem sig := 264
abbrev cc28_sem1_0 : DmaSem sig := 265
abbrev cc28_sem1_1 : DmaSem sig := 266
abbrev cc28_sem2_0 : DmaSem sig := 267
abbrev cc28_sem3_0 : DmaSem sig := 268
abbrev cc28_sem4_0 : DmaSem sig := 269
abbrev cc28_sem4_1 : DmaSem sig := 270
abbrev cc29_sem0_0 : DmaSem sig := 271
abbrev cc29_sem0_1 : DmaSem sig := 272
abbrev cc29_sem1_0 : DmaSem sig := 273
abbrev cc29_sem1_1 : DmaSem sig := 274
abbrev cc29_sem2_0 : DmaSem sig := 275
abbrev cc29_sem3_0 : DmaSem sig := 276
abbrev cc29_sem4_0 : DmaSem sig := 277
abbrev cc29_sem5_0 : DmaSem sig := 278
abbrev cc29_sem5_1 : DmaSem sig := 279
abbrev cc29_sem6_0 : DmaSem sig := 280
abbrev cc29_sem7_0 : DmaSem sig := 281
abbrev cc30_sem0_0 : DmaSem sig := 282
abbrev cc30_sem0_1 : DmaSem sig := 283
abbrev cc30_sem1_0 : DmaSem sig := 284
abbrev cc30_sem1_1 : DmaSem sig := 285
abbrev cc30_sem2_0 : DmaSem sig := 286
abbrev cc30_sem3_0 : DmaSem sig := 287
abbrev cc30_sem4_0 : DmaSem sig := 288
abbrev cc30_sem4_1 : DmaSem sig := 289
abbrev cc31_sem0_0 : DmaSem sig := 290
abbrev cc31_sem0_1 : DmaSem sig := 291
abbrev cc31_sem1_0 : DmaSem sig := 292
abbrev cc31_sem1_1 : DmaSem sig := 293
abbrev cc31_sem2_0 : DmaSem sig := 294
abbrev cc31_sem3_0 : DmaSem sig := 295
abbrev cc31_sem4_0 : DmaSem sig := 296
abbrev cc31_sem5_0 : DmaSem sig := 297
abbrev cc31_sem6_0 : DmaSem sig := 298
abbrev cc31_sem7_0 : DmaSem sig := 299
abbrev cc31_sem8_0 : DmaSem sig := 300
abbrev cc31_sem9_0 : DmaSem sig := 301
abbrev cc31_sem9_1 : DmaSem sig := 302

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S1000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S1000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S1000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S1000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S1000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S1000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S1000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S1x128 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev grid10 : Pipeline.Grid := ⟨1, ![50], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S1000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S1000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S1000x128 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![50], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S1000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S1000x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S128x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S128x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S1000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev stage11_6 : Fin 1 → Memref sig .tc .vmem S1x128 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 1 → Memref sig .tc .vmem S1x128 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![false]

abbrev grid12 : Pipeline.Grid := ⟨1, ![50], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S1000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S1000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S1000x128 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev grid13 : Pipeline.Grid := ⟨1, ![50], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_7 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S1000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S1000x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S128x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S128x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S1000x128 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev stage13_6 : Fin 1 → Memref sig .tc .vmem S1x128 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev stage13_7 : Fin 1 → Memref sig .tc .vmem S1x128 .f32 := fun | 0 => Memref.whole cc13_stg7_0 | ⟨_ + 1, h⟩ => absurd h (Nat.not_lt.2 (Nat.le_add_left _ _))
abbrev sem13_7 : Fin 1 → DmaSem sig := fun | 0 => cc13_sem7_0 | ⟨_ + 1, h⟩ => absurd h (Nat.not_lt.2 (Nat.le_add_left _ _))
abbrev reads13_7 : Fin grid13.rank → Bool := ![false]

abbrev grid14 : Pipeline.Grid := ⟨1, ![50], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S1000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S1000x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 2 → Memref sig .tc .vmem S1000x128 .f32 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true]

abbrev grid15 : Pipeline.Grid := ⟨1, ![50], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_6 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_7 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage15_0 : Fin 2 → Memref sig .tc .vmem S1000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S1000x128 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S128x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S128x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x128 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 2 → Memref sig .tc .vmem S1000x128 .f32 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

abbrev stage15_6 : Fin 1 → Memref sig .tc .vmem S1x128 .f32 := fun | 0 => Memref.whole cc15_stg6_0 | ⟨_ + 1, h⟩ => absurd h (Nat.not_lt.2 (Nat.le_add_left _ _))
abbrev sem15_6 : Fin 1 → DmaSem sig := fun | 0 => cc15_sem6_0 | ⟨_ + 1, h⟩ => absurd h (Nat.not_lt.2 (Nat.le_add_left _ _))
abbrev reads15_6 : Fin grid15.rank → Bool := ![false]

abbrev stage15_7 : Fin 1 → Memref sig .tc .vmem S1x128 .f32 := fun | 0 => Memref.whole cc15_stg7_0 | ⟨_ + 1, h⟩ => absurd h (Nat.not_lt.2 (Nat.le_add_left _ _))
abbrev sem15_7 : Fin 1 → DmaSem sig := fun | 0 => cc15_sem7_0 | ⟨_ + 1, h⟩ => absurd h (Nat.not_lt.2 (Nat.le_add_left _ _))
abbrev reads15_7 : Fin grid15.rank → Bool := ![false]

abbrev grid16 : Pipeline.Grid := ⟨1, ![50], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S1000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S1000x128 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 1 → Memref sig .tc .vmem S1x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S1x128 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 2 → Memref sig .tc .vmem S1000x128 .f32 := fun | 0 => Memref.whole cc16_stg4_0 | 1 => Memref.whole cc16_stg4_1 | ⟨_ + 2, h⟩ => absurd h (Nat.not_lt.2 (Nat.le_add_left _ _))
abbrev sem16_4 : Fin 2 → DmaSem sig := fun | 0 => cc16_sem4_0 | 1 => cc16_sem4_1 | ⟨_ + 2, h⟩ => absurd h (Nat.not_lt.2 (Nat.le_add_left _ _))
abbrev reads16_4 : Fin grid16.rank → Bool := ![true]

abbrev grid17 : Pipeline.Grid := ⟨1, ![50], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_4 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_5 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_6 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_7 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage17_0 : Fin 2 → Memref sig .tc .vmem S1000x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S1000x128 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev stage17_2 : Fin 1 → Memref sig .tc .vmem S128x128 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S128x128 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false]

abbrev stage17_4 : Fin 1 → Memref sig .tc .vmem S1x128 .f32 := fun | 0 => Memref.whole cc17_stg4_0 | ⟨_ + 1, h⟩ => absurd h (Nat.not_lt.2 (Nat.le_add_left _ _))
abbrev sem17_4 : Fin 1 → DmaSem sig := fun | 0 => cc17_sem4_0 | ⟨_ + 1, h⟩ => absurd h (Nat.not_lt.2 (Nat.le_add_left _ _))
abbrev reads17_4 : Fin grid17.rank → Bool := ![false]

abbrev stage17_5 : Fin 2 → Memref sig .tc .vmem S1000x128 .f32 := fun | 0 => Memref.whole cc17_stg5_0 | 1 => Memref.whole cc17_stg5_1 | ⟨_ + 2, h⟩ => absurd h (Nat.not_lt.2 (Nat.le_add_left _ _))
abbrev sem17_5 : Fin 2 → DmaSem sig := fun | 0 => cc17_sem5_0 | 1 => cc17_sem5_1 | ⟨_ + 2, h⟩ => absurd h (Nat.not_lt.2 (Nat.le_add_left _ _))
abbrev reads17_5 : Fin grid17.rank → Bool := ![true]

abbrev stage17_6 : Fin 1 → Memref sig .tc .vmem S1x128 .f32 := fun | 0 => Memref.whole cc17_stg6_0 | ⟨_ + 1, h⟩ => absurd h (Nat.not_lt.2 (Nat.le_add_left _ _))
abbrev sem17_6 : Fin 1 → DmaSem sig := fun | 0 => cc17_sem6_0 | ⟨_ + 1, h⟩ => absurd h (Nat.not_lt.2 (Nat.le_add_left _ _))
abbrev reads17_6 : Fin grid17.rank → Bool := ![false]

abbrev stage17_7 : Fin 1 → Memref sig .tc .vmem S1x128 .f32 := fun | 0 => Memref.whole cc17_stg7_0 | ⟨_ + 1, h⟩ => absurd h (Nat.not_lt.2 (Nat.le_add_left _ _))
abbrev sem17_7 : Fin 1 → DmaSem sig := fun | 0 => cc17_sem7_0 | ⟨_ + 1, h⟩ => absurd h (Nat.not_lt.2 (Nat.le_add_left _ _))
abbrev reads17_7 : Fin grid17.rank → Bool := ![false]

abbrev grid18 : Pipeline.Grid := ⟨1, ![50], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S1000x128 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S1000x128 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 1 → Memref sig .tc .vmem S1x128 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 1 → Memref sig .tc .vmem S1x128 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 2 → Memref sig .tc .vmem S1000x128 .f32 := fun | 0 => Memref.whole cc18_stg4_0 | 1 => Memref.whole cc18_stg4_1 | ⟨_ + 2, h⟩ => absurd h (Nat.not_lt.2 (Nat.le_add_left _ _))
abbrev sem18_4 : Fin 2 → DmaSem sig := fun | 0 => cc18_sem4_0 | 1 => cc18_sem4_1 | ⟨_ + 2, h⟩ => absurd h (Nat.not_lt.2 (Nat.le_add_left _ _))
abbrev reads18_4 : Fin grid18.rank → Bool := ![true]

abbrev grid19 : Pipeline.Grid := ⟨1, ![50], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_4 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_5 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_6 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_7 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage19_0 : Fin 2 → Memref sig .tc .vmem S1000x128 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S1000x128 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 1 → Memref sig .tc .vmem S128x128 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 1 → Memref sig .tc .vmem S128x128 .f32 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))
abbrev reads19_3 : Fin grid19.rank → Bool := ![false]

abbrev stage19_4 : Fin 1 → Memref sig .tc .vmem S1x128 .f32 := fun | 0 => Memref.whole cc19_stg4_0 | ⟨_ + 1, h⟩ => absurd h (Nat.not_lt.2 (Nat.le_add_left _ _))
abbrev sem19_4 : Fin 1 → DmaSem sig := fun | 0 => cc19_sem4_0 | ⟨_ + 1, h⟩ => absurd h (Nat.not_lt.2 (Nat.le_add_left _ _))
abbrev reads19_4 : Fin grid19.rank → Bool := ![false]

abbrev stage19_5 : Fin 2 → Memref sig .tc .vmem S1000x128 .f32 := fun | 0 => Memref.whole cc19_stg5_0 | 1 => Memref.whole cc19_stg5_1 | ⟨_ + 2, h⟩ => absurd h (Nat.not_lt.2 (Nat.le_add_left _ _))
abbrev sem19_5 : Fin 2 → DmaSem sig := fun | 0 => cc19_sem5_0 | 1 => cc19_sem5_1 | ⟨_ + 2, h⟩ => absurd h (Nat.not_lt.2 (Nat.le_add_left _ _))
abbrev reads19_5 : Fin grid19.rank → Bool := ![true]

abbrev stage19_6 : Fin 1 → Memref sig .tc .vmem S1x128 .f32 := fun | 0 => Memref.whole cc19_stg6_0 | ⟨_ + 1, h⟩ => absurd h (Nat.not_lt.2 (Nat.le_add_left _ _))
abbrev sem19_6 : Fin 1 → DmaSem sig := fun | 0 => cc19_sem6_0 | ⟨_ + 1, h⟩ => absurd h (Nat.not_lt.2 (Nat.le_add_left _ _))
abbrev reads19_6 : Fin grid19.rank → Bool := ![false]

abbrev stage19_7 : Fin 1 → Memref sig .tc .vmem S1x128 .f32 := fun | 0 => Memref.whole cc19_stg7_0 | ⟨_ + 1, h⟩ => absurd h (Nat.not_lt.2 (Nat.le_add_left _ _))
abbrev sem19_7 : Fin 1 → DmaSem sig := fun | 0 => cc19_sem7_0 | ⟨_ + 1, h⟩ => absurd h (Nat.not_lt.2 (Nat.le_add_left _ _))
abbrev reads19_7 : Fin grid19.rank → Bool := ![false]

abbrev grid20 : Pipeline.Grid := ⟨1, ![50], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_3 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_4 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S1000x128 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S1000x128 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 1 → Memref sig .tc .vmem S1x128 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev stage20_3 : Fin 1 → Memref sig .tc .vmem S1x128 .f32 := fun | 0 => Memref.whole cc20_stg3_0 | ⟨_ + 1, h⟩ => absurd h (Nat.not_lt.2 (Nat.le_add_left _ _))
abbrev sem20_3 : Fin 1 → DmaSem sig := fun | 0 => cc20_sem3_0 | ⟨_ + 1, h⟩ => absurd h (Nat.not_lt.2 (Nat.le_add_left _ _))
abbrev reads20_3 : Fin grid20.rank → Bool := ![false]

abbrev stage20_4 : Fin 2 → Memref sig .tc .vmem S1000x128 .f32 := fun | 0 => Memref.whole cc20_stg4_0 | 1 => Memref.whole cc20_stg4_1 | ⟨_ + 2, h⟩ => absurd h (Nat.not_lt.2 (Nat.le_add_left _ _))
abbrev sem20_4 : Fin 2 → DmaSem sig := fun | 0 => cc20_sem4_0 | 1 => cc20_sem4_1 | ⟨_ + 2, h⟩ => absurd h (Nat.not_lt.2 (Nat.le_add_left _ _))
abbrev reads20_4 : Fin grid20.rank → Bool := ![true]

abbrev grid21 : Pipeline.Grid := ⟨1, ![50], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_2 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_3 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_4 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_5 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_6 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_7 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage21_0 : Fin 2 → Memref sig .tc .vmem S1000x128 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 2 → Memref sig .tc .vmem S1000x128 .f32 := fun | 0 => Memref.whole cc21_stg1_0 | 1 => Memref.whole cc21_stg1_1 | ⟨_ + 2, h⟩ => absurd h (Nat.not_lt.2 (Nat.le_add_left _ _))
abbrev sem21_1 : Fin 2 → DmaSem sig := fun | 0 => cc21_sem1_0 | 1 => cc21_sem1_1 | ⟨_ + 2, h⟩ => absurd h (Nat.not_lt.2 (Nat.le_add_left _ _))
abbrev reads21_1 : Fin grid21.rank → Bool := ![true]

abbrev stage21_2 : Fin 1 → Memref sig .tc .vmem S128x128 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false]

abbrev stage21_3 : Fin 1 → Memref sig .tc .vmem S128x128 .f32 := fun | 0 => Memref.whole cc21_stg3_0 | ⟨_ + 1, h⟩ => absurd h (Nat.not_lt.2 (Nat.le_add_left _ _))
abbrev sem21_3 : Fin 1 → DmaSem sig := fun | 0 => cc21_sem3_0 | ⟨_ + 1, h⟩ => absurd h (Nat.not_lt.2 (Nat.le_add_left _ _))
abbrev reads21_3 : Fin grid21.rank → Bool := ![false]

abbrev stage21_4 : Fin 1 → Memref sig .tc .vmem S1x128 .f32 := fun | 0 => Memref.whole cc21_stg4_0 | ⟨_ + 1, h⟩ => absurd h (Nat.not_lt.2 (Nat.le_add_left _ _))
abbrev sem21_4 : Fin 1 → DmaSem sig := fun | 0 => cc21_sem4_0 | ⟨_ + 1, h⟩ => absurd h (Nat.not_lt.2 (Nat.le_add_left _ _))
abbrev reads21_4 : Fin grid21.rank → Bool := ![false]

abbrev stage21_5 : Fin 2 → Memref sig .tc .vmem S1000x128 .f32 := fun | 0 => Memref.whole cc21_stg5_0 | 1 => Memref.whole cc21_stg5_1 | ⟨_ + 2, h⟩ => absurd h (Nat.not_lt.2 (Nat.le_add_left _ _))
abbrev sem21_5 : Fin 2 → DmaSem sig := fun | 0 => cc21_sem5_0 | 1 => cc21_sem5_1 | ⟨_ + 2, h⟩ => absurd h (Nat.not_lt.2 (Nat.le_add_left _ _))
abbrev reads21_5 : Fin grid21.rank → Bool := ![true]

abbrev stage21_6 : Fin 1 → Memref sig .tc .vmem S1x128 .f32 := fun | 0 => Memref.whole cc21_stg6_0 | ⟨_ + 1, h⟩ => absurd h (Nat.not_lt.2 (Nat.le_add_left _ _))
abbrev sem21_6 : Fin 1 → DmaSem sig := fun | 0 => cc21_sem6_0 | ⟨_ + 1, h⟩ => absurd h (Nat.not_lt.2 (Nat.le_add_left _ _))
abbrev reads21_6 : Fin grid21.rank → Bool := ![false]

abbrev stage21_7 : Fin 1 → Memref sig .tc .vmem S1x128 .f32 := fun | 0 => Memref.whole cc21_stg7_0 | ⟨_ + 1, h⟩ => absurd h (Nat.not_lt.2 (Nat.le_add_left _ _))
abbrev sem21_7 : Fin 1 → DmaSem sig := fun | 0 => cc21_sem7_0 | ⟨_ + 1, h⟩ => absurd h (Nat.not_lt.2 (Nat.le_add_left _ _))
abbrev reads21_7 : Fin grid21.rank → Bool := ![false]

abbrev grid22 : Pipeline.Grid := ⟨1, ![50], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_2 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_3 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_4 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 2 → Memref sig .tc .vmem S1000x128 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 2 → Memref sig .tc .vmem S1000x128 .f32 := fun | 0 => Memref.whole cc22_stg1_0 | 1 => Memref.whole cc22_stg1_1 | ⟨_ + 2, h⟩ => absurd h (Nat.not_lt.2 (Nat.le_add_left _ _))
abbrev sem22_1 : Fin 2 → DmaSem sig := fun | 0 => cc22_sem1_0 | 1 => cc22_sem1_1 | ⟨_ + 2, h⟩ => absurd h (Nat.not_lt.2 (Nat.le_add_left _ _))
abbrev reads22_1 : Fin grid22.rank → Bool := ![true]

abbrev stage22_2 : Fin 1 → Memref sig .tc .vmem S1x128 .f32 := fun | 0 => Memref.whole cc22_stg2_0 | ⟨_ + 1, h⟩ => absurd h (Nat.not_lt.2 (Nat.le_add_left _ _))
abbrev sem22_2 : Fin 1 → DmaSem sig := fun | 0 => cc22_sem2_0 | ⟨_ + 1, h⟩ => absurd h (Nat.not_lt.2 (Nat.le_add_left _ _))
abbrev reads22_2 : Fin grid22.rank → Bool := ![false]

abbrev stage22_3 : Fin 1 → Memref sig .tc .vmem S1x128 .f32 := fun | 0 => Memref.whole cc22_stg3_0 | ⟨_ + 1, h⟩ => absurd h (Nat.not_lt.2 (Nat.le_add_left _ _))
abbrev sem22_3 : Fin 1 → DmaSem sig := fun | 0 => cc22_sem3_0 | ⟨_ + 1, h⟩ => absurd h (Nat.not_lt.2 (Nat.le_add_left _ _))
abbrev reads22_3 : Fin grid22.rank → Bool := ![false]

abbrev stage22_4 : Fin 2 → Memref sig .tc .vmem S1000x128 .f32 := fun | 0 => Memref.whole cc22_stg4_0 | 1 => Memref.whole cc22_stg4_1 | ⟨_ + 2, h⟩ => absurd h (Nat.not_lt.2 (Nat.le_add_left _ _))
abbrev sem22_4 : Fin 2 → DmaSem sig := fun | 0 => cc22_sem4_0 | 1 => cc22_sem4_1 | ⟨_ + 2, h⟩ => absurd h (Nat.not_lt.2 (Nat.le_add_left _ _))
abbrev reads22_4 : Fin grid22.rank → Bool := ![true]

abbrev grid23 : Pipeline.Grid := ⟨1, ![50], ![false]⟩

def cc23_transform_0 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_1 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_2 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_3 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_4 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_5 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_6 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_7 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage23_0 : Fin 2 → Memref sig .tc .vmem S1000x128 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev stage23_1 : Fin 2 → Memref sig .tc .vmem S1000x128 .f32 := fun | 0 => Memref.whole cc23_stg1_0 | 1 => Memref.whole cc23_stg1_1 | ⟨_ + 2, h⟩ => absurd h (Nat.not_lt.2 (Nat.le_add_left _ _))
abbrev sem23_1 : Fin 2 → DmaSem sig := fun | 0 => cc23_sem1_0 | 1 => cc23_sem1_1 | ⟨_ + 2, h⟩ => absurd h (Nat.not_lt.2 (Nat.le_add_left _ _))
abbrev reads23_1 : Fin grid23.rank → Bool := ![true]

abbrev stage23_2 : Fin 1 → Memref sig .tc .vmem S128x128 .f32 := fun | 0 => Memref.whole cc23_stg2_0 | ⟨_ + 1, h⟩ => absurd h (Nat.not_lt.2 (Nat.le_add_left _ _))
abbrev sem23_2 : Fin 1 → DmaSem sig := fun | 0 => cc23_sem2_0 | ⟨_ + 1, h⟩ => absurd h (Nat.not_lt.2 (Nat.le_add_left _ _))
abbrev reads23_2 : Fin grid23.rank → Bool := ![false]

abbrev stage23_3 : Fin 1 → Memref sig .tc .vmem S128x128 .f32 := fun | 0 => Memref.whole cc23_stg3_0 | ⟨_ + 1, h⟩ => absurd h (Nat.not_lt.2 (Nat.le_add_left _ _))
abbrev sem23_3 : Fin 1 → DmaSem sig := fun | 0 => cc23_sem3_0 | ⟨_ + 1, h⟩ => absurd h (Nat.not_lt.2 (Nat.le_add_left _ _))
abbrev reads23_3 : Fin grid23.rank → Bool := ![false]

abbrev stage23_4 : Fin 1 → Memref sig .tc .vmem S1x128 .f32 := fun | 0 => Memref.whole cc23_stg4_0 | ⟨_ + 1, h⟩ => absurd h (Nat.not_lt.2 (Nat.le_add_left _ _))
abbrev sem23_4 : Fin 1 → DmaSem sig := fun | 0 => cc23_sem4_0 | ⟨_ + 1, h⟩ => absurd h (Nat.not_lt.2 (Nat.le_add_left _ _))
abbrev reads23_4 : Fin grid23.rank → Bool := ![false]

abbrev stage23_5 : Fin 2 → Memref sig .tc .vmem S1000x128 .f32 := fun | 0 => Memref.whole cc23_stg5_0 | 1 => Memref.whole cc23_stg5_1 | ⟨_ + 2, h⟩ => absurd h (Nat.not_lt.2 (Nat.le_add_left _ _))
abbrev sem23_5 : Fin 2 → DmaSem sig := fun | 0 => cc23_sem5_0 | 1 => cc23_sem5_1 | ⟨_ + 2, h⟩ => absurd h (Nat.not_lt.2 (Nat.le_add_left _ _))
abbrev reads23_5 : Fin grid23.rank → Bool := ![true]

abbrev stage23_6 : Fin 1 → Memref sig .tc .vmem S1x128 .f32 := fun | 0 => Memref.whole cc23_stg6_0 | ⟨_ + 1, h⟩ => absurd h (Nat.not_lt.2 (Nat.le_add_left _ _))
abbrev sem23_6 : Fin 1 → DmaSem sig := fun | 0 => cc23_sem6_0 | ⟨_ + 1, h⟩ => absurd h (Nat.not_lt.2 (Nat.le_add_left _ _))
abbrev reads23_6 : Fin grid23.rank → Bool := ![false]

abbrev stage23_7 : Fin 1 → Memref sig .tc .vmem S1x128 .f32 := fun | 0 => Memref.whole cc23_stg7_0 | ⟨_ + 1, h⟩ => absurd h (Nat.not_lt.2 (Nat.le_add_left _ _))
abbrev sem23_7 : Fin 1 → DmaSem sig := fun | 0 => cc23_sem7_0 | ⟨_ + 1, h⟩ => absurd h (Nat.not_lt.2 (Nat.le_add_left _ _))
abbrev reads23_7 : Fin grid23.rank → Bool := ![false]

abbrev grid24 : Pipeline.Grid := ⟨1, ![50], ![false]⟩

def cc24_transform_0 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_1 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_2 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_3 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_4 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage24_0 : Fin 2 → Memref sig .tc .vmem S1000x128 .f32 := fun | 0 => Memref.whole cc24_stg0_0 | 1 => Memref.whole cc24_stg0_1 | ⟨_ + 2, h⟩ => absurd h (Nat.not_lt.2 (Nat.le_add_left _ _))
abbrev sem24_0 : Fin 2 → DmaSem sig := fun | 0 => cc24_sem0_0 | 1 => cc24_sem0_1 | ⟨_ + 2, h⟩ => absurd h (Nat.not_lt.2 (Nat.le_add_left _ _))
abbrev reads24_0 : Fin grid24.rank → Bool := ![true]

abbrev stage24_1 : Fin 2 → Memref sig .tc .vmem S1000x128 .f32 := fun | 0 => Memref.whole cc24_stg1_0 | 1 => Memref.whole cc24_stg1_1 | ⟨_ + 2, h⟩ => absurd h (Nat.not_lt.2 (Nat.le_add_left _ _))
abbrev sem24_1 : Fin 2 → DmaSem sig := fun | 0 => cc24_sem1_0 | 1 => cc24_sem1_1 | ⟨_ + 2, h⟩ => absurd h (Nat.not_lt.2 (Nat.le_add_left _ _))
abbrev reads24_1 : Fin grid24.rank → Bool := ![true]

abbrev stage24_2 : Fin 1 → Memref sig .tc .vmem S1x128 .f32 := fun | 0 => Memref.whole cc24_stg2_0 | ⟨_ + 1, h⟩ => absurd h (Nat.not_lt.2 (Nat.le_add_left _ _))
abbrev sem24_2 : Fin 1 → DmaSem sig := fun | 0 => cc24_sem2_0 | ⟨_ + 1, h⟩ => absurd h (Nat.not_lt.2 (Nat.le_add_left _ _))
abbrev reads24_2 : Fin grid24.rank → Bool := ![false]

abbrev stage24_3 : Fin 1 → Memref sig .tc .vmem S1x128 .f32 := fun | 0 => Memref.whole cc24_stg3_0 | ⟨_ + 1, h⟩ => absurd h (Nat.not_lt.2 (Nat.le_add_left _ _))
abbrev sem24_3 : Fin 1 → DmaSem sig := fun | 0 => cc24_sem3_0 | ⟨_ + 1, h⟩ => absurd h (Nat.not_lt.2 (Nat.le_add_left _ _))
abbrev reads24_3 : Fin grid24.rank → Bool := ![false]

abbrev stage24_4 : Fin 2 → Memref sig .tc .vmem S1000x128 .f32 := fun | 0 => Memref.whole cc24_stg4_0 | 1 => Memref.whole cc24_stg4_1 | ⟨_ + 2, h⟩ => absurd h (Nat.not_lt.2 (Nat.le_add_left _ _))
abbrev sem24_4 : Fin 2 → DmaSem sig := fun | 0 => cc24_sem4_0 | 1 => cc24_sem4_1 | ⟨_ + 2, h⟩ => absurd h (Nat.not_lt.2 (Nat.le_add_left _ _))
abbrev reads24_4 : Fin grid24.rank → Bool := ![true]

abbrev grid25 : Pipeline.Grid := ⟨1, ![50], ![false]⟩

def cc25_transform_0 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_1 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_2 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_3 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_4 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_5 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_6 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_7 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage25_0 : Fin 2 → Memref sig .tc .vmem S1000x128 .f32 := fun | 0 => Memref.whole cc25_stg0_0 | 1 => Memref.whole cc25_stg0_1 | ⟨_ + 2, h⟩ => absurd h (Nat.not_lt.2 (Nat.le_add_left _ _))
abbrev sem25_0 : Fin 2 → DmaSem sig := fun | 0 => cc25_sem0_0 | 1 => cc25_sem0_1 | ⟨_ + 2, h⟩ => absurd h (Nat.not_lt.2 (Nat.le_add_left _ _))
abbrev reads25_0 : Fin grid25.rank → Bool := ![true]

abbrev stage25_1 : Fin 2 → Memref sig .tc .vmem S1000x128 .f32 := fun | 0 => Memref.whole cc25_stg1_0 | 1 => Memref.whole cc25_stg1_1 | ⟨_ + 2, h⟩ => absurd h (Nat.not_lt.2 (Nat.le_add_left _ _))
abbrev sem25_1 : Fin 2 → DmaSem sig := fun | 0 => cc25_sem1_0 | 1 => cc25_sem1_1 | ⟨_ + 2, h⟩ => absurd h (Nat.not_lt.2 (Nat.le_add_left _ _))
abbrev reads25_1 : Fin grid25.rank → Bool := ![true]

abbrev stage25_2 : Fin 1 → Memref sig .tc .vmem S128x128 .f32 := fun | 0 => Memref.whole cc25_stg2_0 | ⟨_ + 1, h⟩ => absurd h (Nat.not_lt.2 (Nat.le_add_left _ _))
abbrev sem25_2 : Fin 1 → DmaSem sig := fun | 0 => cc25_sem2_0 | ⟨_ + 1, h⟩ => absurd h (Nat.not_lt.2 (Nat.le_add_left _ _))
abbrev reads25_2 : Fin grid25.rank → Bool := ![false]

abbrev stage25_3 : Fin 1 → Memref sig .tc .vmem S128x128 .f32 := fun | 0 => Memref.whole cc25_stg3_0 | ⟨_ + 1, h⟩ => absurd h (Nat.not_lt.2 (Nat.le_add_left _ _))
abbrev sem25_3 : Fin 1 → DmaSem sig := fun | 0 => cc25_sem3_0 | ⟨_ + 1, h⟩ => absurd h (Nat.not_lt.2 (Nat.le_add_left _ _))
abbrev reads25_3 : Fin grid25.rank → Bool := ![false]

abbrev stage25_4 : Fin 1 → Memref sig .tc .vmem S1x128 .f32 := fun | 0 => Memref.whole cc25_stg4_0 | ⟨_ + 1, h⟩ => absurd h (Nat.not_lt.2 (Nat.le_add_left _ _))
abbrev sem25_4 : Fin 1 → DmaSem sig := fun | 0 => cc25_sem4_0 | ⟨_ + 1, h⟩ => absurd h (Nat.not_lt.2 (Nat.le_add_left _ _))
abbrev reads25_4 : Fin grid25.rank → Bool := ![false]

abbrev stage25_5 : Fin 2 → Memref sig .tc .vmem S1000x128 .f32 := fun | 0 => Memref.whole cc25_stg5_0 | 1 => Memref.whole cc25_stg5_1 | ⟨_ + 2, h⟩ => absurd h (Nat.not_lt.2 (Nat.le_add_left _ _))
abbrev sem25_5 : Fin 2 → DmaSem sig := fun | 0 => cc25_sem5_0 | 1 => cc25_sem5_1 | ⟨_ + 2, h⟩ => absurd h (Nat.not_lt.2 (Nat.le_add_left _ _))
abbrev reads25_5 : Fin grid25.rank → Bool := ![true]

abbrev stage25_6 : Fin 1 → Memref sig .tc .vmem S1x128 .f32 := fun | 0 => Memref.whole cc25_stg6_0 | ⟨_ + 1, h⟩ => absurd h (Nat.not_lt.2 (Nat.le_add_left _ _))
abbrev sem25_6 : Fin 1 → DmaSem sig := fun | 0 => cc25_sem6_0 | ⟨_ + 1, h⟩ => absurd h (Nat.not_lt.2 (Nat.le_add_left _ _))
abbrev reads25_6 : Fin grid25.rank → Bool := ![false]

abbrev stage25_7 : Fin 1 → Memref sig .tc .vmem S1x128 .f32 := fun | 0 => Memref.whole cc25_stg7_0 | ⟨_ + 1, h⟩ => absurd h (Nat.not_lt.2 (Nat.le_add_left _ _))
abbrev sem25_7 : Fin 1 → DmaSem sig := fun | 0 => cc25_sem7_0 | ⟨_ + 1, h⟩ => absurd h (Nat.not_lt.2 (Nat.le_add_left _ _))
abbrev reads25_7 : Fin grid25.rank → Bool := ![false]

abbrev grid26 : Pipeline.Grid := ⟨1, ![50], ![false]⟩

def cc26_transform_0 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_1 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_2 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc26_transform_3 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc26_transform_4 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage26_0 : Fin 2 → Memref sig .tc .vmem S1000x128 .f32 := fun | 0 => Memref.whole cc26_stg0_0 | 1 => Memref.whole cc26_stg0_1 | ⟨_ + 2, h⟩ => absurd h (Nat.not_lt.2 (Nat.le_add_left _ _))
abbrev sem26_0 : Fin 2 → DmaSem sig := fun | 0 => cc26_sem0_0 | 1 => cc26_sem0_1 | ⟨_ + 2, h⟩ => absurd h (Nat.not_lt.2 (Nat.le_add_left _ _))
abbrev reads26_0 : Fin grid26.rank → Bool := ![true]

abbrev stage26_1 : Fin 2 → Memref sig .tc .vmem S1000x128 .f32 := fun | 0 => Memref.whole cc26_stg1_0 | 1 => Memref.whole cc26_stg1_1 | ⟨_ + 2, h⟩ => absurd h (Nat.not_lt.2 (Nat.le_add_left _ _))
abbrev sem26_1 : Fin 2 → DmaSem sig := fun | 0 => cc26_sem1_0 | 1 => cc26_sem1_1 | ⟨_ + 2, h⟩ => absurd h (Nat.not_lt.2 (Nat.le_add_left _ _))
abbrev reads26_1 : Fin grid26.rank → Bool := ![true]

abbrev stage26_2 : Fin 1 → Memref sig .tc .vmem S1x128 .f32 := fun | 0 => Memref.whole cc26_stg2_0 | ⟨_ + 1, h⟩ => absurd h (Nat.not_lt.2 (Nat.le_add_left _ _))
abbrev sem26_2 : Fin 1 → DmaSem sig := fun | 0 => cc26_sem2_0 | ⟨_ + 1, h⟩ => absurd h (Nat.not_lt.2 (Nat.le_add_left _ _))
abbrev reads26_2 : Fin grid26.rank → Bool := ![false]

abbrev stage26_3 : Fin 1 → Memref sig .tc .vmem S1x128 .f32 := fun | 0 => Memref.whole cc26_stg3_0 | ⟨_ + 1, h⟩ => absurd h (Nat.not_lt.2 (Nat.le_add_left _ _))
abbrev sem26_3 : Fin 1 → DmaSem sig := fun | 0 => cc26_sem3_0 | ⟨_ + 1, h⟩ => absurd h (Nat.not_lt.2 (Nat.le_add_left _ _))
abbrev reads26_3 : Fin grid26.rank → Bool := ![false]

abbrev stage26_4 : Fin 2 → Memref sig .tc .vmem S1000x128 .f32 := fun | 0 => Memref.whole cc26_stg4_0 | 1 => Memref.whole cc26_stg4_1 | ⟨_ + 2, h⟩ => absurd h (Nat.not_lt.2 (Nat.le_add_left _ _))
abbrev sem26_4 : Fin 2 → DmaSem sig := fun | 0 => cc26_sem4_0 | 1 => cc26_sem4_1 | ⟨_ + 2, h⟩ => absurd h (Nat.not_lt.2 (Nat.le_add_left _ _))
abbrev reads26_4 : Fin grid26.rank → Bool := ![true]

abbrev grid27 : Pipeline.Grid := ⟨1, ![50], ![false]⟩

def cc27_transform_0 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

def cc27_transform_1 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

def cc27_transform_2 (i : grid27.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc27_transform_3 (i : grid27.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc27_transform_4 (i : grid27.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc27_transform_5 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

def cc27_transform_6 (i : grid27.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc27_transform_7 (i : grid27.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage27_0 : Fin 2 → Memref sig .tc .vmem S1000x128 .f32 := fun | 0 => Memref.whole cc27_stg0_0 | 1 => Memref.whole cc27_stg0_1 | ⟨_ + 2, h⟩ => absurd h (Nat.not_lt.2 (Nat.le_add_left _ _))
abbrev sem27_0 : Fin 2 → DmaSem sig := fun | 0 => cc27_sem0_0 | 1 => cc27_sem0_1 | ⟨_ + 2, h⟩ => absurd h (Nat.not_lt.2 (Nat.le_add_left _ _))
abbrev reads27_0 : Fin grid27.rank → Bool := ![true]

abbrev stage27_1 : Fin 2 → Memref sig .tc .vmem S1000x128 .f32 := fun | 0 => Memref.whole cc27_stg1_0 | 1 => Memref.whole cc27_stg1_1 | ⟨_ + 2, h⟩ => absurd h (Nat.not_lt.2 (Nat.le_add_left _ _))
abbrev sem27_1 : Fin 2 → DmaSem sig := fun | 0 => cc27_sem1_0 | 1 => cc27_sem1_1 | ⟨_ + 2, h⟩ => absurd h (Nat.not_lt.2 (Nat.le_add_left _ _))
abbrev reads27_1 : Fin grid27.rank → Bool := ![true]

abbrev stage27_2 : Fin 1 → Memref sig .tc .vmem S128x128 .f32 := fun | 0 => Memref.whole cc27_stg2_0 | ⟨_ + 1, h⟩ => absurd h (Nat.not_lt.2 (Nat.le_add_left _ _))
abbrev sem27_2 : Fin 1 → DmaSem sig := fun | 0 => cc27_sem2_0 | ⟨_ + 1, h⟩ => absurd h (Nat.not_lt.2 (Nat.le_add_left _ _))
abbrev reads27_2 : Fin grid27.rank → Bool := ![false]

abbrev stage27_3 : Fin 1 → Memref sig .tc .vmem S128x128 .f32 := fun | 0 => Memref.whole cc27_stg3_0 | ⟨_ + 1, h⟩ => absurd h (Nat.not_lt.2 (Nat.le_add_left _ _))
abbrev sem27_3 : Fin 1 → DmaSem sig := fun | 0 => cc27_sem3_0 | ⟨_ + 1, h⟩ => absurd h (Nat.not_lt.2 (Nat.le_add_left _ _))
abbrev reads27_3 : Fin grid27.rank → Bool := ![false]

abbrev stage27_4 : Fin 1 → Memref sig .tc .vmem S1x128 .f32 := fun | 0 => Memref.whole cc27_stg4_0 | ⟨_ + 1, h⟩ => absurd h (Nat.not_lt.2 (Nat.le_add_left _ _))
abbrev sem27_4 : Fin 1 → DmaSem sig := fun | 0 => cc27_sem4_0 | ⟨_ + 1, h⟩ => absurd h (Nat.not_lt.2 (Nat.le_add_left _ _))
abbrev reads27_4 : Fin grid27.rank → Bool := ![false]

abbrev stage27_5 : Fin 2 → Memref sig .tc .vmem S1000x128 .f32 := fun | 0 => Memref.whole cc27_stg5_0 | 1 => Memref.whole cc27_stg5_1 | ⟨_ + 2, h⟩ => absurd h (Nat.not_lt.2 (Nat.le_add_left _ _))
abbrev sem27_5 : Fin 2 → DmaSem sig := fun | 0 => cc27_sem5_0 | 1 => cc27_sem5_1 | ⟨_ + 2, h⟩ => absurd h (Nat.not_lt.2 (Nat.le_add_left _ _))
abbrev reads27_5 : Fin grid27.rank → Bool := ![true]

abbrev stage27_6 : Fin 1 → Memref sig .tc .vmem S1x128 .f32 := fun | 0 => Memref.whole cc27_stg6_0 | ⟨_ + 1, h⟩ => absurd h (Nat.not_lt.2 (Nat.le_add_left _ _))
abbrev sem27_6 : Fin 1 → DmaSem sig := fun | 0 => cc27_sem6_0 | ⟨_ + 1, h⟩ => absurd h (Nat.not_lt.2 (Nat.le_add_left _ _))
abbrev reads27_6 : Fin grid27.rank → Bool := ![false]

abbrev stage27_7 : Fin 1 → Memref sig .tc .vmem S1x128 .f32 := fun | 0 => Memref.whole cc27_stg7_0 | ⟨_ + 1, h⟩ => absurd h (Nat.not_lt.2 (Nat.le_add_left _ _))
abbrev sem27_7 : Fin 1 → DmaSem sig := fun | 0 => cc27_sem7_0 | ⟨_ + 1, h⟩ => absurd h (Nat.not_lt.2 (Nat.le_add_left _ _))
abbrev reads27_7 : Fin grid27.rank → Bool := ![false]

abbrev grid28 : Pipeline.Grid := ⟨1, ![50], ![false]⟩

def cc28_transform_0 (i : grid28.Coords) : Fin 2 → Nat :=
  let arg0 : BitVec 32 := BitVec.ofNat 32 (i 0).val
  let c0_i32 : BitVec 32 := 0#32
  let c0_i32_0 : BitVec 32 := 0#32
  ![arg0.toNat, c0_i32.toNat]

def cc28_transform_1 (i : grid28.Coords) : Fin 2 → Nat :=
  let arg0 : BitVec 32 := BitVec.ofNat 32 (i 0).val
  let c0_i32 : BitVec 32 := 0#32
  let c0_i32_0 : BitVec 32 := 0#32
  ![arg0.toNat, c0_i32.toNat]

def cc28_transform_2 (i : grid28.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc28_transform_3 (i : grid28.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc28_transform_4 (i : grid28.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage28_0 : Fin 2 → Memref sig .tc .vmem S1000x128 .f32 := fun | 0 => Memref.whole cc28_stg0_0 | 1 => Memref.whole cc28_stg0_1 | ⟨_ + 2, h⟩ => absurd h (Nat.not_lt.2 (Nat.le_add_left _ _))
abbrev sem28_0 : Fin 2 → DmaSem sig := fun | 0 => cc28_sem0_0 | 1 => cc28_sem0_1 | ⟨_ + 2, h⟩ => absurd h (Nat.not_lt.2 (Nat.le_add_left _ _))
abbrev reads28_0 : Fin grid28.rank → Bool := ![true]

abbrev stage28_1 : Fin 2 → Memref sig .tc .vmem S1000x128 .f32 := fun | 0 => Memref.whole cc28_stg1_0 | 1 => Memref.whole cc28_stg1_1 | ⟨_ + 2, h⟩ => absurd h (Nat.not_lt.2 (Nat.le_add_left _ _))
abbrev sem28_1 : Fin 2 → DmaSem sig := fun | 0 => cc28_sem1_0 | 1 => cc28_sem1_1 | ⟨_ + 2, h⟩ => absurd h (Nat.not_lt.2 (Nat.le_add_left _ _))
abbrev reads28_1 : Fin grid28.rank → Bool := ![true]

abbrev stage28_2 : Fin 1 → Memref sig .tc .vmem S1x128 .f32 := fun | 0 => Memref.whole cc28_stg2_0 | ⟨_ + 1, h⟩ => absurd h (Nat.not_lt.2 (Nat.le_add_left _ _))
abbrev sem28_2 : Fin 1 → DmaSem sig := fun | 0 => cc28_sem2_0 | ⟨_ + 1, h⟩ => absurd h (Nat.not_lt.2 (Nat.le_add_left _ _))
abbrev reads28_2 : Fin grid28.rank → Bool := ![false]

abbrev stage28_3 : Fin 1 → Memref sig .tc .vmem S1x128 .f32 := fun | 0 => Memref.whole cc28_stg3_0 | ⟨_ + 1, h⟩ => absurd h (Nat.not_lt.2 (Nat.le_add_left _ _))
abbrev sem28_3 : Fin 1 → DmaSem sig := fun | 0 => cc28_sem3_0 | ⟨_ + 1, h⟩ => absurd h (Nat.not_lt.2 (Nat.le_add_left _ _))
abbrev reads28_3 : Fin grid28.rank → Bool := ![false]

abbrev stage28_4 : Fin 2 → Memref sig .tc .vmem S1000x128 .f32 := fun | 0 => Memref.whole cc28_stg4_0 | 1 => Memref.whole cc28_stg4_1 | ⟨_ + 2, h⟩ => absurd h (Nat.not_lt.2 (Nat.le_add_left _ _))
abbrev sem28_4 : Fin 2 → DmaSem sig := fun | 0 => cc28_sem4_0 | 1 => cc28_sem4_1 | ⟨_ + 2, h⟩ => absurd h (Nat.not_lt.2 (Nat.le_add_left _ _))
abbrev reads28_4 : Fin grid28.rank → Bool := ![true]

abbrev grid29 : Pipeline.Grid := ⟨1, ![50], ![false]⟩

def cc29_transform_0 (i : grid29.Coords) : Fin 2 → Nat :=
  let arg0 : BitVec 32 := BitVec.ofNat 32 (i 0).val
  let c0_i32 : BitVec 32 := 0#32
  let c0_i32_0 : BitVec 32 := 0#32
  ![arg0.toNat, c0_i32.toNat]

def cc29_transform_1 (i : grid29.Coords) : Fin 2 → Nat :=
  let arg0 : BitVec 32 := BitVec.ofNat 32 (i 0).val
  let c0_i32 : BitVec 32 := 0#32
  let c0_i32_0 : BitVec 32 := 0#32
  ![arg0.toNat, c0_i32.toNat]

def cc29_transform_2 (i : grid29.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc29_transform_3 (i : grid29.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc29_transform_4 (i : grid29.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc29_transform_5 (i : grid29.Coords) : Fin 2 → Nat :=
  let arg0 : BitVec 32 := BitVec.ofNat 32 (i 0).val
  let c0_i32 : BitVec 32 := 0#32
  let c0_i32_0 : BitVec 32 := 0#32
  ![arg0.toNat, c0_i32.toNat]

def cc29_transform_6 (i : grid29.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc29_transform_7 (i : grid29.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage29_0 : Fin 2 → Memref sig .tc .vmem S1000x128 .f32 := fun | 0 => Memref.whole cc29_stg0_0 | 1 => Memref.whole cc29_stg0_1 | ⟨_ + 2, h⟩ => absurd h (Nat.not_lt.2 (Nat.le_add_left _ _))
abbrev sem29_0 : Fin 2 → DmaSem sig := fun | 0 => cc29_sem0_0 | 1 => cc29_sem0_1 | ⟨_ + 2, h⟩ => absurd h (Nat.not_lt.2 (Nat.le_add_left _ _))
abbrev reads29_0 : Fin grid29.rank → Bool := ![true]

abbrev stage29_1 : Fin 2 → Memref sig .tc .vmem S1000x128 .f32 := fun | 0 => Memref.whole cc29_stg1_0 | 1 => Memref.whole cc29_stg1_1 | ⟨_ + 2, h⟩ => absurd h (Nat.not_lt.2 (Nat.le_add_left _ _))
abbrev sem29_1 : Fin 2 → DmaSem sig := fun | 0 => cc29_sem1_0 | 1 => cc29_sem1_1 | ⟨_ + 2, h⟩ => absurd h (Nat.not_lt.2 (Nat.le_add_left _ _))
abbrev reads29_1 : Fin grid29.rank → Bool := ![true]

abbrev stage29_2 : Fin 1 → Memref sig .tc .vmem S128x128 .f32 := fun | 0 => Memref.whole cc29_stg2_0 | ⟨_ + 1, h⟩ => absurd h (Nat.not_lt.2 (Nat.le_add_left _ _))
abbrev sem29_2 : Fin 1 → DmaSem sig := fun | 0 => cc29_sem2_0 | ⟨_ + 1, h⟩ => absurd h (Nat.not_lt.2 (Nat.le_add_left _ _))
abbrev reads29_2 : Fin grid29.rank → Bool := ![false]

abbrev stage29_3 : Fin 1 → Memref sig .tc .vmem S128x128 .f32 := fun | 0 => Memref.whole cc29_stg3_0 | ⟨_ + 1, h⟩ => absurd h (Nat.not_lt.2 (Nat.le_add_left _ _))
abbrev sem29_3 : Fin 1 → DmaSem sig := fun | 0 => cc29_sem3_0 | ⟨_ + 1, h⟩ => absurd h (Nat.not_lt.2 (Nat.le_add_left _ _))
abbrev reads29_3 : Fin grid29.rank → Bool := ![false]

abbrev stage29_4 : Fin 1 → Memref sig .tc .vmem S1x128 .f32 := fun | 0 => Memref.whole cc29_stg4_0 | ⟨_ + 1, h⟩ => absurd h (Nat.not_lt.2 (Nat.le_add_left _ _))
abbrev sem29_4 : Fin 1 → DmaSem sig := fun | 0 => cc29_sem4_0 | ⟨_ + 1, h⟩ => absurd h (Nat.not_lt.2 (Nat.le_add_left _ _))
abbrev reads29_4 : Fin grid29.rank → Bool := ![false]

abbrev stage29_5 : Fin 2 → Memref sig .tc .vmem S1000x128 .f32 := fun | 0 => Memref.whole cc29_stg5_0 | 1 => Memref.whole cc29_stg5_1 | ⟨_ + 2, h⟩ => absurd h (Nat.not_lt.2 (Nat.le_add_left _ _))
abbrev sem29_5 : Fin 2 → DmaSem sig := fun | 0 => cc29_sem5_0 | 1 => cc29_sem5_1 | ⟨_ + 2, h⟩ => absurd h (Nat.not_lt.2 (Nat.le_add_left _ _))
abbrev reads29_5 : Fin grid29.rank → Bool := ![true]

abbrev stage29_6 : Fin 1 → Memref sig .tc .vmem S1x128 .f32 := fun | 0 => Memref.whole cc29_stg6_0 | ⟨_ + 1, h⟩ => absurd h (Nat.not_lt.2 (Nat.le_add_left _ _))
abbrev sem29_6 : Fin 1 → DmaSem sig := fun | 0 => cc29_sem6_0 | ⟨_ + 1, h⟩ => absurd h (Nat.not_lt.2 (Nat.le_add_left _ _))
abbrev reads29_6 : Fin grid29.rank → Bool := ![false]

abbrev stage29_7 : Fin 1 → Memref sig .tc .vmem S1x128 .f32 := fun | 0 => Memref.whole cc29_stg7_0 | ⟨_ + 1, h⟩ => absurd h (Nat.not_lt.2 (Nat.le_add_left _ _))
abbrev sem29_7 : Fin 1 → DmaSem sig := fun | 0 => cc29_sem7_0 | ⟨_ + 1, h⟩ => absurd h (Nat.not_lt.2 (Nat.le_add_left _ _))
abbrev reads29_7 : Fin grid29.rank → Bool := ![false]

abbrev grid30 : Pipeline.Grid := ⟨1, ![50], ![false]⟩

def cc30_transform_0 (i : grid30.Coords) : Fin 2 → Nat :=
  let arg0 : BitVec 32 := BitVec.ofNat 32 (i 0).val
  let c0_i32 : BitVec 32 := 0#32
  let c0_i32_0 : BitVec 32 := 0#32
  ![arg0.toNat, c0_i32.toNat]

def cc30_transform_1 (i : grid30.Coords) : Fin 2 → Nat :=
  let arg0 : BitVec 32 := BitVec.ofNat 32 (i 0).val
  let c0_i32 : BitVec 32 := 0#32
  let c0_i32_0 : BitVec 32 := 0#32
  ![arg0.toNat, c0_i32.toNat]

def cc30_transform_2 (i : grid30.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc30_transform_3 (i : grid30.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc30_transform_4 (i : grid30.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage30_0 : Fin 2 → Memref sig .tc .vmem S1000x128 .f32 := fun | 0 => Memref.whole cc30_stg0_0 | 1 => Memref.whole cc30_stg0_1 | ⟨_ + 2, h⟩ => absurd h (Nat.not_lt.2 (Nat.le_add_left _ _))
abbrev sem30_0 : Fin 2 → DmaSem sig := fun | 0 => cc30_sem0_0 | 1 => cc30_sem0_1 | ⟨_ + 2, h⟩ => absurd h (Nat.not_lt.2 (Nat.le_add_left _ _))
abbrev reads30_0 : Fin grid30.rank → Bool := ![true]

abbrev stage30_1 : Fin 2 → Memref sig .tc .vmem S1000x128 .f32 := fun | 0 => Memref.whole cc30_stg1_0 | 1 => Memref.whole cc30_stg1_1 | ⟨_ + 2, h⟩ => absurd h (Nat.not_lt.2 (Nat.le_add_left _ _))
abbrev sem30_1 : Fin 2 → DmaSem sig := fun | 0 => cc30_sem1_0 | 1 => cc30_sem1_1 | ⟨_ + 2, h⟩ => absurd h (Nat.not_lt.2 (Nat.le_add_left _ _))
abbrev reads30_1 : Fin grid30.rank → Bool := ![true]

abbrev stage30_2 : Fin 1 → Memref sig .tc .vmem S1x128 .f32 := fun | 0 => Memref.whole cc30_stg2_0 | ⟨_ + 1, h⟩ => absurd h (Nat.not_lt.2 (Nat.le_add_left _ _))
abbrev sem30_2 : Fin 1 → DmaSem sig := fun | 0 => cc30_sem2_0 | ⟨_ + 1, h⟩ => absurd h (Nat.not_lt.2 (Nat.le_add_left _ _))
abbrev reads30_2 : Fin grid30.rank → Bool := ![false]

abbrev stage30_3 : Fin 1 → Memref sig .tc .vmem S1x128 .f32 := fun | 0 => Memref.whole cc30_stg3_0 | ⟨_ + 1, h⟩ => absurd h (Nat.not_lt.2 (Nat.le_add_left _ _))
abbrev sem30_3 : Fin 1 → DmaSem sig := fun | 0 => cc30_sem3_0 | ⟨_ + 1, h⟩ => absurd h (Nat.not_lt.2 (Nat.le_add_left _ _))
abbrev reads30_3 : Fin grid30.rank → Bool := ![false]

abbrev stage30_4 : Fin 2 → Memref sig .tc .vmem S1000x128 .f32 := fun | 0 => Memref.whole cc30_stg4_0 | 1 => Memref.whole cc30_stg4_1 | ⟨_ + 2, h⟩ => absurd h (Nat.not_lt.2 (Nat.le_add_left _ _))
abbrev sem30_4 : Fin 2 → DmaSem sig := fun | 0 => cc30_sem4_0 | 1 => cc30_sem4_1 | ⟨_ + 2, h⟩ => absurd h (Nat.not_lt.2 (Nat.le_add_left _ _))
abbrev reads30_4 : Fin grid30.rank → Bool := ![true]

abbrev grid31 : Pipeline.Grid := ⟨1, ![400], ![false]⟩

def cc31_transform_0 (i : grid31.Coords) : Fin 2 → Nat :=
  let arg0 : BitVec 32 := BitVec.ofNat 32 (i 0).val
  let c0_i32 : BitVec 32 := 0#32
  let c0_i32_0 : BitVec 32 := 0#32
  ![arg0.toNat, c0_i32.toNat]

def cc31_transform_1 (i : grid31.Coords) : Fin 2 → Nat :=
  let arg0 : BitVec 32 := BitVec.ofNat 32 (i 0).val
  let c0_i32 : BitVec 32 := 0#32
  let c0_i32_0 : BitVec 32 := 0#32
  ![arg0.toNat, c0_i32.toNat]

def cc31_transform_2 (i : grid31.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc31_transform_3 (i : grid31.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc31_transform_4 (i : grid31.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc31_transform_5 (i : grid31.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc31_transform_6 (i : grid31.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc31_transform_7 (i : grid31.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc31_transform_8 (i : grid31.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc31_transform_9 (i : grid31.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage31_0 : Fin 2 → Memref sig .tc .vmem S2000x128 .f32 := fun | 0 => Memref.whole cc31_stg0_0 | 1 => Memref.whole cc31_stg0_1 | ⟨_ + 2, h⟩ => absurd h (Nat.not_lt.2 (Nat.le_add_left _ _))
abbrev sem31_0 : Fin 2 → DmaSem sig := fun | 0 => cc31_sem0_0 | 1 => cc31_sem0_1 | ⟨_ + 2, h⟩ => absurd h (Nat.not_lt.2 (Nat.le_add_left _ _))
abbrev reads31_0 : Fin grid31.rank → Bool := ![true]

abbrev stage31_1 : Fin 2 → Memref sig .tc .vmem S2000x128 .f32 := fun | 0 => Memref.whole cc31_stg1_0 | 1 => Memref.whole cc31_stg1_1 | ⟨_ + 2, h⟩ => absurd h (Nat.not_lt.2 (Nat.le_add_left _ _))
abbrev sem31_1 : Fin 2 → DmaSem sig := fun | 0 => cc31_sem1_0 | 1 => cc31_sem1_1 | ⟨_ + 2, h⟩ => absurd h (Nat.not_lt.2 (Nat.le_add_left _ _))
abbrev reads31_1 : Fin grid31.rank → Bool := ![true]

abbrev stage31_2 : Fin 1 → Memref sig .tc .vmem S128x128 .f32 := fun | 0 => Memref.whole cc31_stg2_0 | ⟨_ + 1, h⟩ => absurd h (Nat.not_lt.2 (Nat.le_add_left _ _))
abbrev sem31_2 : Fin 1 → DmaSem sig := fun | 0 => cc31_sem2_0 | ⟨_ + 1, h⟩ => absurd h (Nat.not_lt.2 (Nat.le_add_left _ _))
abbrev reads31_2 : Fin grid31.rank → Bool := ![false]

abbrev stage31_3 : Fin 1 → Memref sig .tc .vmem S128x128 .f32 := fun | 0 => Memref.whole cc31_stg3_0 | ⟨_ + 1, h⟩ => absurd h (Nat.not_lt.2 (Nat.le_add_left _ _))
abbrev sem31_3 : Fin 1 → DmaSem sig := fun | 0 => cc31_sem3_0 | ⟨_ + 1, h⟩ => absurd h (Nat.not_lt.2 (Nat.le_add_left _ _))
abbrev reads31_3 : Fin grid31.rank → Bool := ![false]

abbrev stage31_4 : Fin 1 → Memref sig .tc .vmem S1x128 .f32 := fun | 0 => Memref.whole cc31_stg4_0 | ⟨_ + 1, h⟩ => absurd h (Nat.not_lt.2 (Nat.le_add_left _ _))
abbrev sem31_4 : Fin 1 → DmaSem sig := fun | 0 => cc31_sem4_0 | ⟨_ + 1, h⟩ => absurd h (Nat.not_lt.2 (Nat.le_add_left _ _))
abbrev reads31_4 : Fin grid31.rank → Bool := ![false]

abbrev stage31_5 : Fin 1 → Memref sig .tc .vmem S128x128 .f32 := fun | 0 => Memref.whole cc31_stg5_0 | ⟨_ + 1, h⟩ => absurd h (Nat.not_lt.2 (Nat.le_add_left _ _))
abbrev sem31_5 : Fin 1 → DmaSem sig := fun | 0 => cc31_sem5_0 | ⟨_ + 1, h⟩ => absurd h (Nat.not_lt.2 (Nat.le_add_left _ _))
abbrev reads31_5 : Fin grid31.rank → Bool := ![false]

abbrev stage31_6 : Fin 1 → Memref sig .tc .vmem S1x128 .f32 := fun | 0 => Memref.whole cc31_stg6_0 | ⟨_ + 1, h⟩ => absurd h (Nat.not_lt.2 (Nat.le_add_left _ _))
abbrev sem31_6 : Fin 1 → DmaSem sig := fun | 0 => cc31_sem6_0 | ⟨_ + 1, h⟩ => absurd h (Nat.not_lt.2 (Nat.le_add_left _ _))
abbrev reads31_6 : Fin grid31.rank → Bool := ![false]

abbrev stage31_7 : Fin 1 → Memref sig .tc .vmem S128x128 .f32 := fun | 0 => Memref.whole cc31_stg7_0 | ⟨_ + 1, h⟩ => absurd h (Nat.not_lt.2 (Nat.le_add_left _ _))
abbrev sem31_7 : Fin 1 → DmaSem sig := fun | 0 => cc31_sem7_0 | ⟨_ + 1, h⟩ => absurd h (Nat.not_lt.2 (Nat.le_add_left _ _))
abbrev reads31_7 : Fin grid31.rank → Bool := ![false]

abbrev stage31_8 : Fin 1 → Memref sig .tc .vmem S1x1 .f32 := fun | 0 => Memref.whole cc31_stg8_0 | ⟨_ + 1, h⟩ => absurd h (Nat.not_lt.2 (Nat.le_add_left _ _))
abbrev sem31_8 : Fin 1 → DmaSem sig := fun | 0 => cc31_sem8_0 | ⟨_ + 1, h⟩ => absurd h (Nat.not_lt.2 (Nat.le_add_left _ _))
abbrev reads31_8 : Fin grid31.rank → Bool := ![false]

abbrev stage31_9 : Fin 2 → Memref sig .tc .vmem S2000x1 .f32 := fun | 0 => Memref.whole cc31_stg9_0 | 1 => Memref.whole cc31_stg9_1 | ⟨_ + 2, h⟩ => absurd h (Nat.not_lt.2 (Nat.le_add_left _ _))
abbrev sem31_9 : Fin 2 → DmaSem sig := fun | 0 => cc31_sem9_0 | 1 => cc31_sem9_1 | ⟨_ + 2, h⟩ => absurd h (Nat.not_lt.2 (Nat.le_add_left _ _))
abbrev reads31_9 : Fin grid31.rank → Bool := ![true]
-- ==== KernelIdeal.lean ====
variable {F : FTy → Type} [FloatOps F] [Named F]
def κ : String → Option EReal := fun
  | "inv_n" => some ((1 / 50000 : ℝ) : EReal)
  | _ => none
-- ==== ReferenceIdeal.lean ====
abbrev S50000x2 : Shape := ⟨2, ![50000, 2]⟩
abbrev S2x800000 : Shape := ⟨2, ![2, 800000]⟩
abbrev S2x128 : Shape := ⟨2, ![2, 128]⟩
abbrev S15x128x128 : Shape := ⟨3, ![15, 128, 128]⟩
abbrev S15x128 : Shape := ⟨2, ![15, 128]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S50000x128 : Shape := ⟨2, ![50000, 128]⟩
abbrev S_ : Shape := ⟨0, ![]⟩
abbrev S1x128x128 : Shape := ⟨3, ![1, 128, 128]⟩
abbrev S1x128 : Shape := ⟨2, ![1, 128]⟩
abbrev S800000x1 : Shape := ⟨2, ![800000, 1]⟩
abbrev S1x1 : Shape := ⟨2, ![1, 1]⟩
abbrev S800000x128 : Shape := ⟨2, ![800000, 128]⟩
abbrev S800000x256 : Shape := ⟨2, ![800000, 256]⟩

abbrev nBuf : Space → Nat
  | .hbm => 204
  | .vmem => 0
  | .smem => 0
  | _ => 0

abbrev hbmTy0_0 (i : Nat) : BufTy := match i % 128 with
  | 0 => ⟨S50000x2, .f32⟩
  | 1 => ⟨S2x800000, .i32⟩
  | 2 => ⟨S2x128, .f32⟩
  | 3 => ⟨S15x128x128, .f32⟩
  | 4 => ⟨S15x128x128, .f32⟩
  | 5 => ⟨S15x128, .f32⟩
  | 6 => ⟨S15x128, .f32⟩
  | 7 => ⟨S15x128, .f32⟩
  | 8 => ⟨S256x128, .f32⟩
  | 9 => ⟨S128, .f32⟩
  | 10 => ⟨S128x128, .f32⟩
  | 11 => ⟨S128, .f32⟩
  | 12 => ⟨S128x1, .f32⟩
  | 13 => ⟨S1, .f32⟩
  | 14 => ⟨S1x800000, .i32⟩
  | 15 => ⟨S800000, .i32⟩
  | 16 => ⟨S1x800000, .i32⟩
  | 17 => ⟨S800000, .i32⟩
  | 18 => ⟨S50000x128, .f32⟩
  | 19 => ⟨S_, .i32⟩
  | 20 => ⟨S15x128x128, .f32⟩
  | 21 => ⟨S15x128x128, .f32⟩
  | 22 => ⟨S15x128, .f32⟩
  | 23 => ⟨S15x128, .f32⟩
  | 24 => ⟨S15x128, .f32⟩
  | 25 => ⟨S800000, .i32⟩
  | 26 => ⟨S800000, .i32⟩
  | 27 => ⟨S_, .i32⟩
  | 28 => ⟨S50000x128, .f32⟩
  | 29 => ⟨S_, .i32⟩
  | 30 => ⟨S_, .i1⟩
  | 31 => ⟨S_, .i32⟩
  | 32 => ⟨S_, .i32⟩
  | 33 => ⟨S1x128x128, .f32⟩
  | 34 => ⟨S128x128, .f32⟩
  | 35 => ⟨S_, .i32⟩
  | 36 => ⟨S_, .i32⟩
  | 37 => ⟨S1x128x128, .f32⟩
  | 38 => ⟨S128x128, .f32⟩
  | 39 => ⟨S_, .i32⟩
  | 40 => ⟨S1x128, .f32⟩
  | 41 => ⟨S128, .f32⟩
  | 42 => ⟨S_, .i32⟩
  | 43 => ⟨S1x128, .f32⟩
  | 44 => ⟨S128, .f32⟩
  | 45 => ⟨S_, .i32⟩
  | 46 => ⟨S1x128, .f32⟩
  | 47 => ⟨S128, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S1, .i32⟩
  | 57 => ⟨S_, .i32⟩
  | 58 => ⟨S800000x1, .i32⟩
  | 59 => ⟨S800000x1, .i1⟩
  | 60 => ⟨S1x1, .i32⟩
  | 61 => ⟨S800000x1, .i32⟩
  | 62 => ⟨S800000x1, .i1⟩
  | 63 => ⟨S800000x1, .i1⟩
  | 64 => ⟨S_, .i1⟩
  | 65 => ⟨S800000, .i1⟩
  | 66 => ⟨S800000x128, .f32⟩
  | 67 => ⟨S800000x128, .i1⟩
  | 68 => ⟨S_, .f32⟩
  | 69 => ⟨S800000x128, .f32⟩
  | 70 => ⟨S800000x128, .f32⟩
  | 71 => ⟨S_, .f32⟩
  | 72 => ⟨S50000x128, .f32⟩
  | 73 => ⟨S800000x1, .i32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S50000x128, .f32⟩
  | 80 => ⟨S50000x128, .f32⟩
  | 81 => ⟨S_, .f32⟩
  | 82 => ⟨S128, .f32⟩
  | 83 => ⟨S1x128, .f32⟩
  | 84 => ⟨S_, .f32⟩
  | 85 => ⟨S1x128, .f32⟩
  | 86 => ⟨S1x128, .f32⟩
  | 87 => ⟨S_, .i32⟩
  | 88 => ⟨S_, .f32⟩
  | 89 => ⟨S128, .f32⟩
  | 90 => ⟨S1x128, .f32⟩
  | 91 => ⟨S_, .f32⟩
  | 92 => ⟨S1x128, .f32⟩
  | 93 => ⟨S1x128, .f32⟩
  | 94 => ⟨S50000x128, .f32⟩
  | 95 => ⟨S50000x128, .f32⟩
  | 96 => ⟨S50000x128, .f32⟩
  | 97 => ⟨S_, .f32⟩
  | 98 => ⟨S_, .f32⟩
  | 99 => ⟨S_, .f32⟩
  | 100 => ⟨S_, .f32⟩
  | 101 => ⟨S128, .f32⟩
  | 102 => ⟨S1x128, .f32⟩
  | 103 => ⟨S1x128, .f32⟩
  | 104 => ⟨S1x128, .f32⟩
  | 105 => ⟨S_, .f32⟩
  | 106 => ⟨S_, .i1⟩
  | 107 => ⟨S_, .f32⟩
  | 108 => ⟨S_, .f32⟩
  | 109 => ⟨S1x128, .f32⟩
  | 110 => ⟨S1x128, .f32⟩
  | 111 => ⟨S50000x128, .f32⟩
  | 112 => ⟨S50000x128, .f32⟩
  | 113 => ⟨S_, .f32⟩
  | 114 => ⟨S1x128, .f32⟩
  | 115 => ⟨S1x128, .f32⟩
  | 116 => ⟨S1x128, .f32⟩
  | 117 => ⟨S50000x128, .f32⟩
  | 118 => ⟨S50000x128, .f32⟩
  | 119 => ⟨S1x128, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x2, .f32⟩

abbrev hbmTy0_1 (i : Nat) : BufTy := match i % 128 with
  | 0 => ⟨S50000x128, .f32⟩
  | 1 => ⟨S_, .i32⟩
  | 2 => ⟨S_, .i32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S1, .i32⟩
  | 12 => ⟨S_, .i32⟩
  | 13 => ⟨S800000x1, .i32⟩
  | 14 => ⟨S800000x1, .i1⟩
  | 15 => ⟨S1x1, .i32⟩
  | 16 => ⟨S800000x1, .i32⟩
  | 17 => ⟨S800000x1, .i1⟩
  | 18 => ⟨S800000x1, .i1⟩
  | 19 => ⟨S_, .i1⟩
  | 20 => ⟨S800000, .i1⟩
  | 21 => ⟨S800000x128, .f32⟩
  | 22 => ⟨S800000x128, .i1⟩
  | 23 => ⟨S_, .f32⟩
  | 24 => ⟨S800000x128, .f32⟩
  | 25 => ⟨S800000x128, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S1, .i32⟩
  | 35 => ⟨S_, .i32⟩
  | 36 => ⟨S800000x1, .i32⟩
  | 37 => ⟨S800000x1, .i1⟩
  | 38 => ⟨S1x1, .i32⟩
  | 39 => ⟨S800000x1, .i32⟩
  | 40 => ⟨S800000x1, .i1⟩
  | 41 => ⟨S800000x1, .i1⟩
  | 42 => ⟨S_, .i1⟩
  | 43 => ⟨S800000, .i1⟩
  | 44 => ⟨S800000x128, .f32⟩
  | 45 => ⟨S800000x128, .i1⟩
  | 46 => ⟨S_, .f32⟩
  | 47 => ⟨S800000x128, .f32⟩
  | 48 => ⟨S800000x128, .f32⟩
  | 49 => ⟨S800000x256, .f32⟩
  | 50 => ⟨S800000x128, .f32⟩
  | 51 => ⟨S1x128, .f32⟩
  | 52 => ⟨S800000x128, .f32⟩
  | 53 => ⟨S800000x128, .f32⟩
  | 54 => ⟨S_, .f32⟩
  | 55 => ⟨S800000x128, .f32⟩
  | 56 => ⟨S800000x128, .f32⟩
  | 57 => ⟨S800000x128, .f32⟩
  | 58 => ⟨S1x128, .f32⟩
  | 59 => ⟨S800000x128, .f32⟩
  | 60 => ⟨S800000x128, .f32⟩
  | 61 => ⟨S_, .f32⟩
  | 62 => ⟨S800000x128, .f32⟩
  | 63 => ⟨S800000x128, .f32⟩
  | 64 => ⟨S800000x1, .f32⟩
  | 65 => ⟨S1x1, .f32⟩
  | 66 => ⟨S800000x1, .f32⟩
  | 67 => ⟨S800000x1, .f32⟩
  | 68 => ⟨S800000x1, .f32⟩
  | 69 => ⟨S800000x1, .f32⟩
  | 70 => ⟨S_, .f32⟩
  | 71 => ⟨S800000x1, .f32⟩
  | 72 => ⟨S800000x1, .f32⟩
  | 73 => ⟨S_, .f32⟩
  | 74 => ⟨S800000x1, .f32⟩
  | 75 => ⟨S800000x1, .f32⟩
  | _ => ⟨S50000x2, .f32⟩

abbrev hbmTy (i : Nat) : BufTy := match i / 128 with
  | 0 => hbmTy0_0 i
  | 1 => hbmTy0_1 i
  | _ => ⟨S50000x2, .f32⟩

abbrev bufTy : (tb : Table) → Fin (tcTables nBuf tb) → BufTy
  | .hbm, ⟨i, _⟩ => hbmTy i
  | _, _ => ⟨S50000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5_0 : Ref sig .tc := ⟨.hbm, 20, rfl⟩
abbrev main_v5_1 : Ref sig .tc := ⟨.hbm, 21, rfl⟩
abbrev main_v5_2 : Ref sig .tc := ⟨.hbm, 22, rfl⟩
abbrev main_v5_3 : Ref sig .tc := ⟨.hbm, 23, rfl⟩
abbrev main_v5_4 : Ref sig .tc := ⟨.hbm, 24, rfl⟩
abbrev main_v5_5 : Ref sig .tc := ⟨.hbm, 25, rfl⟩
abbrev main_v5_6 : Ref sig .tc := ⟨.hbm, 26, rfl⟩
abbrev main_v5_7 : Ref sig .tc := ⟨.hbm, 27, rfl⟩
abbrev main_v5_8 : Ref sig .tc := ⟨.hbm, 28, rfl⟩
abbrev main_while0c_c_9 : Ref sig .tc := ⟨.hbm, 29, rfl⟩
abbrev main_while0c_v29 : Ref sig .tc := ⟨.hbm, 30, rfl⟩
abbrev main_while0b_call0_c : Ref sig .tc := ⟨.hbm, 31, rfl⟩
abbrev main_while0b_call0_c_0 : Ref sig .tc := ⟨.hbm, 32, rfl⟩
abbrev main_while0b_call0_v0 : Ref sig .tc := ⟨.hbm, 33, rfl⟩
abbrev main_while0b_v29 : Ref sig .tc := ⟨.hbm, 34, rfl⟩
abbrev main_while0b_call1_c : Ref sig .tc := ⟨.hbm, 35, rfl⟩
abbrev main_while0b_call1_c_0 : Ref sig .tc := ⟨.hbm, 36, rfl⟩
abbrev main_while0b_call1_v0 : Ref sig .tc := ⟨.hbm, 37, rfl⟩
abbrev main_while0b_v30 : Ref sig .tc := ⟨.hbm, 38, rfl⟩
abbrev main_while0b_call2_c : Ref sig .tc := ⟨.hbm, 39, rfl⟩
abbrev main_while0b_call2_v0 : Ref sig .tc := ⟨.hbm, 40, rfl⟩
abbrev main_while0b_v31 : Ref sig .tc := ⟨.hbm, 41, rfl⟩
abbrev main_while0b_call3_c : Ref sig .tc := ⟨.hbm, 42, rfl⟩
abbrev main_while0b_call3_v0 : Ref sig .tc := ⟨.hbm, 43, rfl⟩
abbrev main_while0b_v32 : Ref sig .tc := ⟨.hbm, 44, rfl⟩
abbrev main_while0b_call4_c : Ref sig .tc := ⟨.hbm, 45, rfl⟩
abbrev main_while0b_call4_v0 : Ref sig .tc := ⟨.hbm, 46, rfl⟩
abbrev main_while0b_v33 : Ref sig .tc := ⟨.hbm, 47, rfl⟩
abbrev main_while0b_call5_c : Ref sig .tc := ⟨.hbm, 48, rfl⟩
abbrev main_while0b_call5_v0 : Ref sig .tc := ⟨.hbm, 49, rfl⟩
abbrev main_while0b_call5_v1 : Ref sig .tc := ⟨.hbm, 50, rfl⟩
abbrev main_while0b_call5_c_0 : Ref sig .tc := ⟨.hbm, 51, rfl⟩
abbrev main_while0b_call5_v2 : Ref sig .tc := ⟨.hbm, 52, rfl⟩
abbrev main_while0b_call5_v3 : Ref sig .tc := ⟨.hbm, 53, rfl⟩
abbrev main_while0b_call5_v4 : Ref sig .tc := ⟨.hbm, 54, rfl⟩
abbrev main_while0b_call5_v5 : Ref sig .tc := ⟨.hbm, 55, rfl⟩
abbrev main_while0b_call5_c_1 : Ref sig .tc := ⟨.hbm, 56, rfl⟩
abbrev main_while0b_call5_c_2 : Ref sig .tc := ⟨.hbm, 57, rfl⟩
abbrev main_while0b_call5_v6 : Ref sig .tc := ⟨.hbm, 58, rfl⟩
abbrev main_while0b_call5_v7 : Ref sig .tc := ⟨.hbm, 59, rfl⟩
abbrev main_while0b_call5_v8 : Ref sig .tc := ⟨.hbm, 60, rfl⟩
abbrev main_while0b_call5_v9 : Ref sig .tc := ⟨.hbm, 61, rfl⟩
abbrev main_while0b_call5_v10 : Ref sig .tc := ⟨.hbm, 62, rfl⟩
abbrev main_while0b_call5_v11 : Ref sig .tc := ⟨.hbm, 63, rfl⟩
abbrev main_while0b_call5_c_3 : Ref sig .tc := ⟨.hbm, 64, rfl⟩
abbrev main_while0b_call5_v12 : Ref sig .tc := ⟨.hbm, 65, rfl⟩
abbrev main_while0b_call5_v13 : Ref sig .tc := ⟨.hbm, 66, rfl⟩
abbrev main_while0b_call5_v14 : Ref sig .tc := ⟨.hbm, 67, rfl⟩
abbrev main_while0b_call5_cst : Ref sig .tc := ⟨.hbm, 68, rfl⟩
abbrev main_while0b_call5_v15 : Ref sig .tc := ⟨.hbm, 69, rfl⟩
abbrev main_while0b_v34 : Ref sig .tc := ⟨.hbm, 70, rfl⟩
abbrev main_while0b_cst_9 : Ref sig .tc := ⟨.hbm, 71, rfl⟩
abbrev main_while0b_v35 : Ref sig .tc := ⟨.hbm, 72, rfl⟩
abbrev main_while0b_v36 : Ref sig .tc := ⟨.hbm, 73, rfl⟩
abbrev main_while0b_v37 : Ref sig .tc := ⟨.hbm, 74, rfl⟩
abbrev main_while0b_v38 : Ref sig .tc := ⟨.hbm, 75, rfl⟩
abbrev main_while0b_v39 : Ref sig .tc := ⟨.hbm, 76, rfl⟩
abbrev main_while0b_v40 : Ref sig .tc := ⟨.hbm, 77, rfl⟩
abbrev main_while0b_v41 : Ref sig .tc := ⟨.hbm, 78, rfl⟩
abbrev main_while0b_v42 : Ref sig .tc := ⟨.hbm, 79, rfl⟩
abbrev main_while0b_v43 : Ref sig .tc := ⟨.hbm, 80, rfl⟩
abbrev main_while0b_cst_10 : Ref sig .tc := ⟨.hbm, 81, rfl⟩
abbrev main_while0b_v44 : Ref sig .tc := ⟨.hbm, 82, rfl⟩
abbrev main_while0b_v45 : Ref sig .tc := ⟨.hbm, 83, rfl⟩
abbrev main_while0b_cst_11 : Ref sig .tc := ⟨.hbm, 84, rfl⟩
abbrev main_while0b_v46 : Ref sig .tc := ⟨.hbm, 85, rfl⟩
abbrev main_while0b_v47 : Ref sig .tc := ⟨.hbm, 86, rfl⟩
abbrev main_while0b_c_12 : Ref sig .tc := ⟨.hbm, 87, rfl⟩
abbrev main_while0b_call6_cst : Ref sig .tc := ⟨.hbm, 88, rfl⟩
abbrev main_while0b_call6_v0 : Ref sig .tc := ⟨.hbm, 89, rfl⟩
abbrev main_while0b_call6_v1 : Ref sig .tc := ⟨.hbm, 90, rfl⟩
abbrev main_while0b_call6_cst_0 : Ref sig .tc := ⟨.hbm, 91, rfl⟩
abbrev main_while0b_call6_v2 : Ref sig .tc := ⟨.hbm, 92, rfl⟩
abbrev main_while0b_call6_v3 : Ref sig .tc := ⟨.hbm, 93, rfl⟩
abbrev main_while0b_call6_v4 : Ref sig .tc := ⟨.hbm, 94, rfl⟩
abbrev main_while0b_call6_v5 : Ref sig .tc := ⟨.hbm, 95, rfl⟩
abbrev main_while0b_call6_v6 : Ref sig .tc := ⟨.hbm, 96, rfl⟩
abbrev main_while0b_call6_v7 : Ref sig .tc := ⟨.hbm, 97, rfl⟩
abbrev main_while0b_call6_cst_1 : Ref sig .tc := ⟨.hbm, 98, rfl⟩
abbrev main_while0b_call6_v8 : Ref sig .tc := ⟨.hbm, 99, rfl⟩
abbrev main_while0b_call6_cst_2 : Ref sig .tc := ⟨.hbm, 100, rfl⟩
abbrev main_while0b_call6_v9 : Ref sig .tc := ⟨.hbm, 101, rfl⟩
abbrev main_while0b_call6_v10 : Ref sig .tc := ⟨.hbm, 102, rfl⟩
abbrev main_while0b_call6_v11 : Ref sig .tc := ⟨.hbm, 103, rfl⟩
abbrev main_while0b_call6_v12 : Ref sig .tc := ⟨.hbm, 104, rfl⟩
abbrev main_while0b_call6_cst_3 : Ref sig .tc := ⟨.hbm, 105, rfl⟩
abbrev main_while0b_call6_v13 : Ref sig .tc := ⟨.hbm, 106, rfl⟩
abbrev main_while0b_call6_cst_4 : Ref sig .tc := ⟨.hbm, 107, rfl⟩
abbrev main_while0b_call6_call0_v0 : Ref sig .tc := ⟨.hbm, 108, rfl⟩
abbrev main_while0b_call6_call0_v1 : Ref sig .tc := ⟨.hbm, 109, rfl⟩
abbrev main_while0b_v48 : Ref sig .tc := ⟨.hbm, 110, rfl⟩
abbrev main_while0b_v49 : Ref sig .tc := ⟨.hbm, 111, rfl⟩
abbrev main_while0b_v50 : Ref sig .tc := ⟨.hbm, 112, rfl⟩
abbrev main_while0b_cst_13 : Ref sig .tc := ⟨.hbm, 113, rfl⟩
abbrev main_while0b_v51 : Ref sig .tc := ⟨.hbm, 114, rfl⟩
abbrev main_while0b_v52 : Ref sig .tc := ⟨.hbm, 115, rfl⟩
abbrev main_while0b_v53 : Ref sig .tc := ⟨.hbm, 116, rfl⟩
abbrev main_while0b_v54 : Ref sig .tc := ⟨.hbm, 117, rfl⟩
abbrev main_while0b_v55 : Ref sig .tc := ⟨.hbm, 118, rfl⟩
abbrev main_while0b_v56 : Ref sig .tc := ⟨.hbm, 119, rfl⟩
abbrev main_while0b_v57 : Ref sig .tc := ⟨.hbm, 120, rfl⟩
abbrev main_while0b_v58 : Ref sig .tc := ⟨.hbm, 121, rfl⟩
abbrev main_while0b_v59 : Ref sig .tc := ⟨.hbm, 122, rfl⟩
abbrev main_while0b_v60 : Ref sig .tc := ⟨.hbm, 123, rfl⟩
abbrev main_while0b_v61 : Ref sig .tc := ⟨.hbm, 124, rfl⟩
abbrev main_while0b_call7_cst : Ref sig .tc := ⟨.hbm, 125, rfl⟩
abbrev main_while0b_call7_v0 : Ref sig .tc := ⟨.hbm, 126, rfl⟩
abbrev main_while0b_v62 : Ref sig .tc := ⟨.hbm, 127, rfl⟩
abbrev main_while0b_v63 : Ref sig .tc := ⟨.hbm, 128, rfl⟩
abbrev main_while0b_c_14 : Ref sig .tc := ⟨.hbm, 129, rfl⟩
abbrev main_while0b_v64 : Ref sig .tc := ⟨.hbm, 130, rfl⟩
abbrev main_call8_c : Ref sig .tc := ⟨.hbm, 131, rfl⟩
abbrev main_call8_v0 : Ref sig .tc := ⟨.hbm, 132, rfl⟩
abbrev main_call8_v1 : Ref sig .tc := ⟨.hbm, 133, rfl⟩
abbrev main_call8_c_0 : Ref sig .tc := ⟨.hbm, 134, rfl⟩
abbrev main_call8_v2 : Ref sig .tc := ⟨.hbm, 135, rfl⟩
abbrev main_call8_v3 : Ref sig .tc := ⟨.hbm, 136, rfl⟩
abbrev main_call8_v4 : Ref sig .tc := ⟨.hbm, 137, rfl⟩
abbrev main_call8_v5 : Ref sig .tc := ⟨.hbm, 138, rfl⟩
abbrev main_call8_c_1 : Ref sig .tc := ⟨.hbm, 139, rfl⟩
abbrev main_call8_c_2 : Ref sig .tc := ⟨.hbm, 140, rfl⟩
abbrev main_call8_v6 : Ref sig .tc := ⟨.hbm, 141, rfl⟩
abbrev main_call8_v7 : Ref sig .tc := ⟨.hbm, 142, rfl⟩
abbrev main_call8_v8 : Ref sig .tc := ⟨.hbm, 143, rfl⟩
abbrev main_call8_v9 : Ref sig .tc := ⟨.hbm, 144, rfl⟩
abbrev main_call8_v10 : Ref sig .tc := ⟨.hbm, 145, rfl⟩
abbrev main_call8_v11 : Ref sig .tc := ⟨.hbm, 146, rfl⟩
abbrev main_call8_c_3 : Ref sig .tc := ⟨.hbm, 147, rfl⟩
abbrev main_call8_v12 : Ref sig .tc := ⟨.hbm, 148, rfl⟩
abbrev main_call8_v13 : Ref sig .tc := ⟨.hbm, 149, rfl⟩
abbrev main_call8_v14 : Ref sig .tc := ⟨.hbm, 150, rfl⟩
abbrev main_call8_cst : Ref sig .tc := ⟨.hbm, 151, rfl⟩
abbrev main_call8_v15 : Ref sig .tc := ⟨.hbm, 152, rfl⟩
abbrev main_v6 : Ref sig .tc := ⟨.hbm, 153, rfl⟩
abbrev main_call9_c : Ref sig .tc := ⟨.hbm, 154, rfl⟩
abbrev main_call9_v0 : Ref sig .tc := ⟨.hbm, 155, rfl⟩
abbrev main_call9_v1 : Ref sig .tc := ⟨.hbm, 156, rfl⟩
abbrev main_call9_c_0 : Ref sig .tc := ⟨.hbm, 157, rfl⟩
abbrev main_call9_v2 : Ref sig .tc := ⟨.hbm, 158, rfl⟩
abbrev main_call9_v3 : Ref sig .tc := ⟨.hbm, 159, rfl⟩
abbrev main_call9_v4 : Ref sig .tc := ⟨.hbm, 160, rfl⟩
abbrev main_call9_v5 : Ref sig .tc := ⟨.hbm, 161, rfl⟩
abbrev main_call9_c_1 : Ref sig .tc := ⟨.hbm, 162, rfl⟩
abbrev main_call9_c_2 : Ref sig .tc := ⟨.hbm, 163, rfl⟩
abbrev main_call9_v6 : Ref sig .tc := ⟨.hbm, 164, rfl⟩
abbrev main_call9_v7 : Ref sig .tc := ⟨.hbm, 165, rfl⟩
abbrev main_call9_v8 : Ref sig .tc := ⟨.hbm, 166, rfl⟩
abbrev main_call9_v9 : Ref sig .tc := ⟨.hbm, 167, rfl⟩
abbrev main_call9_v10 : Ref sig .tc := ⟨.hbm, 168, rfl⟩
abbrev main_call9_v11 : Ref sig .tc := ⟨.hbm, 169, rfl⟩
abbrev main_call9_c_3 : Ref sig .tc := ⟨.hbm, 170, rfl⟩
abbrev main_call9_v12 : Ref sig .tc := ⟨.hbm, 171, rfl⟩
abbrev main_call9_v13 : Ref sig .tc := ⟨.hbm, 172, rfl⟩
abbrev main_call9_v14 : Ref sig .tc := ⟨.hbm, 173, rfl⟩
abbrev main_call9_cst : Ref sig .tc := ⟨.hbm, 174, rfl⟩
abbrev main_call9_v15 : Ref sig .tc := ⟨.hbm, 175, rfl⟩
abbrev main_v7 : Ref sig .tc := ⟨.hbm, 176, rfl⟩
abbrev main_v8 : Ref sig .tc := ⟨.hbm, 177, rfl⟩
abbrev main_v9 : Ref sig .tc := ⟨.hbm, 178, rfl⟩
abbrev main_v10 : Ref sig .tc := ⟨.hbm, 179, rfl⟩
abbrev main_v11 : Ref sig .tc := ⟨.hbm, 180, rfl⟩
abbrev main_v12 : Ref sig .tc := ⟨.hbm, 181, rfl⟩
abbrev main_call10_cst : Ref sig .tc := ⟨.hbm, 182, rfl⟩
abbrev main_call10_v0 : Ref sig .tc := ⟨.hbm, 183, rfl⟩
abbrev main_v13 : Ref sig .tc := ⟨.hbm, 184, rfl⟩
abbrev main_v14 : Ref sig .tc := ⟨.hbm, 185, rfl⟩
abbrev main_v15 : Ref sig .tc := ⟨.hbm, 186, rfl⟩
abbrev main_v16 : Ref sig .tc := ⟨.hbm, 187, rfl⟩
abbrev main_v17 : Ref sig .tc := ⟨.hbm, 188, rfl⟩
abbrev main_call11_cst : Ref sig .tc := ⟨.hbm, 189, rfl⟩
abbrev main_call11_v0 : Ref sig .tc := ⟨.hbm, 190, rfl⟩
abbrev main_v18 : Ref sig .tc := ⟨.hbm, 191, rfl⟩
abbrev main_v19 : Ref sig .tc := ⟨.hbm, 192, rfl⟩
abbrev main_v20 : Ref sig .tc := ⟨.hbm, 193, rfl⟩
abbrev main_v21 : Ref sig .tc := ⟨.hbm, 194, rfl⟩
abbrev main_v22 : Ref sig .tc := ⟨.hbm, 195, rfl⟩
abbrev main_v23 : Ref sig .tc := ⟨.hbm, 196, rfl⟩
abbrev main_v24 : Ref sig .tc := ⟨.hbm, 197, rfl⟩
abbrev main_cst : Ref sig .tc := ⟨.hbm, 198, rfl⟩
abbrev main_v25 : Ref sig .tc := ⟨.hbm, 199, rfl⟩
abbrev main_v26 : Ref sig .tc := ⟨.hbm, 200, rfl⟩
abbrev main_cst_0 : Ref sig .tc := ⟨.hbm, 201, rfl⟩
abbrev main_v27 : Ref sig .tc := ⟨.hbm, 202, rfl⟩
abbrev main_v28 : Ref sig .tc := ⟨.hbm, 203, rfl⟩

abbrev nD : Nat := 1
abbrev τ : Topo := Topo.v7x

variable {F : FTy → Type} [FloatOps F]

abbrev main_while0_count : Scf.Loop 32 := ⟨0#32, 15#32, 1#32⟩
-- ==== Proof.Spec.lean ====
module

public import proofs.«01_k».proof.Proof.Gen.KernelIdeal.Skeleton
public import Idealize.ShloMosaic.Lib.Pipeline.ValueKit
public import Idealize.ShloMosaic.Lib.ValueIdx
public import Idealize.ShloMosaic.Lib.Pointwise
public import Idealize.ShloMosaic.Lib.Tactic

/-
  What the kernel's bodies compute, in plain formulas over whole arrays, and the bodies' payloads read at an index.
-/

@[expose] public section

set_option maxRecDepth 16384

noncomputable section

namespace Cert.KernelIdeal.Value

open Cert.KernelIdeal Cert.KernelIdeal.Gen
open Idealize.ShloMosaic Idealize.ShloMosaic.TcCoe Idealize.SL.Sem

/-- The node array of the model: one row of 128 features per node. -/
abbrev Nodes := Vec Ideal S50000x128 .f32
/-- A 128×128 weight. -/
abbrev Wt := Vec Ideal S128x128 .f32
/-- A row of 128 numbers. -/
abbrev Row := Vec Ideal S1x128 .f32

/-- The input layer: the node inputs times the input weight, its two products written out. -/
def inp (x : Vec Ideal S50000x2 .f32) (w : Vec Ideal S2x128 .f32) : Nodes := fun i =>
  x (ix2 (i 0) 0) * w (ix2 0 (i 1)) + x (ix2 (i 0) 1) * w (ix2 1 (i 1))

/-- The message of a layer: aggregate times neighbour weight, plus features times root weight, plus bias. -/
def lm (h a : Nodes) (wn wr : Wt) (b : Row) : Nodes := fun i =>
  ((∑ k : Fin 128, a (ix2 (i 0) k) * wn (ix2 k (i 1))) + ∑ k : Fin 128, h (ix2 (i 0) k) * wr (ix2 k (i 1)))
    + b (ix2 0 (i 1))

/-- The mean of a node array over the nodes, as the sum times 1/50000. -/
def lmean (g : Nodes) : Row := fun j => (∑ r : Fin 50000, g (ix2 r (j 1))) * ((1 / 50000 : ℝ) : EReal)

/-- The elementwise square. -/
def sq (g : Nodes) : Nodes := fun i => g i * g i

/-- The update of a layer: the features plus the rectified scaled and shifted message. -/
def la (h m : Nodes) (sc sh : Row) : Nodes := fun i =>
  h i + max (m i * sc (ix2 0 (i 1)) + sh (ix2 0 (i 1))) 0

/-- `x` is the `t`-th block of 1000 rows of `X`. -/
def IsBlk (X : Nodes) (x : Vec Ideal S1000x128 .f32) (t : ℕ) : Prop :=
  ∀ (y : S1000x128.Idx) (i : S50000x128.Idx), (i 0).val = t * 1000 + (y 0).val → (i 1).val = (y 1).val → x y = X i

/-- The message body at an index. -/
theorem pay3_at (a wn h wr b) (j : S1000x128.Idx) : k1_pay3 (F := Ideal) a wn h wr b j =
    ((∑ k : Fin 128, a (ix2 (j 0) k) * wn (ix2 k (j 1))) + ∑ k : Fin 128, h (ix2 (j 0) k) * wr (ix2 k (j 1)))
      + b (ix2 0 (j 1)) := by
  unfold k1_pay3
  pointwise

/-- The running sum of a block's columns. -/
theorem pay6_at (a wn h wr b p) (j : S1x128.Idx) : k1_pay6 (F := Ideal) a wn h wr b p j =
    p j + ∑ r : Fin 1000, k1_pay3 (F := Ideal) a wn h wr b (ix2 r (j 1)) := by
  unfold k1_pay6
  pointwise

/-- The running sum of the squares of a block's columns. -/
theorem pay7_at (a wn h wr b p) (j : S1x128.Idx) : k1_pay7 (F := Ideal) a wn h wr b p j =
    p j + ∑ r : Fin 1000, k1_pay3 (F := Ideal) a wn h wr b (ix2 r (j 1)) * k1_pay3 (F := Ideal) a wn h wr b (ix2 r (j 1)) := by
  unfold k1_pay7
  pointwise

/-- The sums start at zero. -/
theorem pay4_at (j : S1x128.Idx) : k1_pay4 (F := Ideal) j = 0 := by
  unfold k1_pay4
  pointwise

/-- The sums of squares start at zero. -/
theorem pay5_at (j : S1x128.Idx) : k1_pay5 (F := Ideal) j = 0 := by
  unfold k1_pay5
  pointwise

/-- The final scaling of the sums by 1/50000. -/
theorem pay1_at (p : Row) (j : S1x128.Idx) : k1_pay1 (F := Ideal) p j = p j * ((1 / 50000 : ℝ) : EReal) := by
  unfold k1_pay1
  pointwise
  rfl

/-- The final scaling of the sums of squares by 1/50000. -/
theorem pay2_at (p : Row) (j : S1x128.Idx) : k1_pay2 (F := Ideal) p j = p j * ((1 / 50000 : ℝ) : EReal) := by
  unfold k1_pay2
  pointwise
  rfl

/-- The update body at an index. -/
theorem apply_at (h m s t) (j : S1000x128.Idx) : k2_pay1 (F := Ideal) h m s t j =
    h j + max (m j * s (ix2 0 (j 1)) + t (ix2 0 (j 1))) 0 := by
  unfold k2_pay1
  pointwise

/-- The input body at an index. -/
theorem inp_at (x : Vec Ideal S1000x2 .f32) (w w' : Row) (j : S1000x128.Idx) : k0_pay1 (F := Ideal) x w w' j =
    x (ix2 (j 0) 0) * w (ix2 0 (j 1)) + x (ix2 (j 0) 1) * w' (ix2 0 (j 1)) := by
  unfold k0_pay1
  pointwise

/-- A block's messages are the block of the messages. -/
theorem lm_blk {H A : Nodes} {h a : Vec Ideal S1000x128 .f32} {wn wr : Wt} {b : Row} {t : ℕ}
    (ha : IsBlk A a t) (hh : IsBlk H h t) : IsBlk (lm H A wn wr b) (k1_pay3 a wn h wr b) t := by
  intro y i h0 h1
  have e1 : i 1 = y 1 := Fin.ext h1
  rw [pay3_at, lm, e1]
  congr 2
  · exact Finset.sum_congr rfl fun k _ => by rw [ha (ix2 (y 0) k) (ix2 (i 0) k) h0 rfl]
  · exact Finset.sum_congr rfl fun k _ => by rw [hh (ix2 (y 0) k) (ix2 (i 0) k) h0 rfl]

/-- A block's updates are the block of the updates. -/
theorem la_blk {H M : Nodes} {h m : Vec Ideal S1000x128 .f32} {sc sh : Row} {t : ℕ}
    (hh : IsBlk H h t) (hm : IsBlk M m t) : IsBlk (la H M sc sh) (k2_pay1 h m sc sh) t := by
  intro y i h0 h1
  have e1 : i 1 = y 1 := Fin.ext h1
  rw [apply_at, la, e1, hh y i h0 h1, hm y i h0 h1]

/-- A row accumulated over fifty points — reset at the first, one block's column sums of `g` added at each, the total
    scaled at the last — ends as the mean of `g`. -/
theorem acc_last {N : ℕ} (hN : N = 50) (f : (n : ℕ) → n < N → Row) (g : Nodes) (p : Fin N → Vec Ideal S1000x128 .f32)
    (hp : ∀ t : Fin N, IsBlk g (p t) t.val)
    (hA : ∀ t : Fin N, t.val % 50 = 0 → ∀ j, f t.val t.isLt j = 0 + ∑ r : Fin 1000, p t (ix2 r (j 1)))
    (hB : ∀ t : Fin N, ¬t.val % 50 = 0 → ¬t.val % 50 = 49 → ∀ j, f t.val t.isLt j =
      f (t.val - 1) (Nat.lt_of_le_of_lt (Nat.sub_le _ _) t.isLt) j + ∑ r : Fin 1000, p t (ix2 r (j 1)))
    (hC : ∀ t : Fin N, ¬t.val % 50 = 0 → t.val % 50 = 49 → ∀ j, f t.val t.isLt j =
      (f (t.val - 1) (Nat.lt_of_le_of_lt (Nat.sub_le _ _) t.isLt) j + ∑ r : Fin 1000, p t (ix2 r (j 1)))
        * ((1 / 50000 : ℝ) : EReal))
    (t : Fin N) (ht : t.val = 49) : f t.val t.isLt = lmean g := by
  subst hN
  funext j
  let G : ℕ → EReal := fun n => if h : n < 50000 then g (ix2 ⟨n, h⟩ (j 1)) else 0
  have hblk : ∀ t : Fin 50, ∑ r : Fin 1000, p t (ix2 r (j 1)) = ∑ r ∈ Finset.range 1000, G (t.val * 1000 + r) := by
    intro t
    rw [Finset.sum_range]
    refine Finset.sum_congr rfl fun r _ => ?_
    have hlt : t.val * 1000 + r.val < 50000 := by omega
    simp only [G, dif_pos hlt]
    exact hp t (ix2 r (j 1)) (ix2 ⟨_, hlt⟩ (j 1)) rfl rfl
  have hpre : ∀ n (hn : n < 49), f n (by omega) j = ∑ r ∈ Finset.range (n * 1000 + 1000), G r := by
    intro n
    induction n with
    | zero =>
      intro hn
      have := hA ⟨0, by omega⟩ rfl j
      rw [hblk] at this
      simpa using this
    | succ n ih =>
      intro hn
      have := hB ⟨n + 1, by omega⟩ (by simp; omega) (by simp; omega) j
      rw [hblk] at this
      rw [Finset.sum_range_add, this]
      have h := ih (by omega)
      rw [show (n + 1) * 1000 = n * 1000 + 1000 by ring]
      exact congrArg (· + _) h
  obtain ⟨n, hn⟩ := t
  obtain rfl : n = 49 := ht
  have := hC ⟨49, hn⟩ (by simp) (by simp) j
  rw [hblk] at this
  rw [this, lmean]
  refine congrArg (· * _) ?_
  have e : ∑ r : Fin 50000, g (ix2 r (j 1)) = ∑ r ∈ Finset.range (49000 + 1000), G r := by
    rw [Finset.sum_range]
    exact Finset.sum_congr rfl fun r _ => by simp only [G, dif_pos r.isLt]
  rw [e, Finset.sum_range_add]
  exact congrArg (· + _) (hpre 48 (by omega))

/-- The block lemmas for the squares. -/
theorem sq_blk {g : Nodes} {x : Vec Ideal S1000x128 .f32} {t : ℕ} (h : IsBlk g x t) :
    IsBlk (sq g) (fun y => x y * x y) t := fun y i h0 h1 => by
  show x y * x y = g i * g i
  rw [h y i h0 h1]

/-- What the fifty points of a message launch leave. Let `fm`, `f` and `g` be its message block and its two accumulated
    rows after each point, and suppose each point's body does what the payloads say, from the blocks of its inputs. Then
    every message block is the block of the messages, and after the last point the rows are the mean of the messages and
    the mean of their squares. -/
theorem layer_acc {N : ℕ} (hN : N = 50) (fm : (n : ℕ) → n < N → Vec Ideal S1000x128 .f32) (f g : (n : ℕ) → n < N → Row)
    {H A : Nodes} {wn wr : Wt} {b : Row}
    {h a : Fin N → Vec Ideal S1000x128 .f32} {bn br : Fin N → Wt} {bb : Fin N → Row}
    (hh : ∀ t, IsBlk H (h t) t.val) (ha : ∀ t, IsBlk A (a t) t.val) (hn : ∀ t, bn t = wn) (hr : ∀ t, br t = wr)
    (hb : ∀ t, bb t = b)
    (hA : ∀ t : Fin N, t.val % 50 = 0 → fm t.val t.isLt = k1_pay3 (a t) (bn t) (h t) (br t) (bb t)
      ∧ f t.val t.isLt = k1_pay6 (a t) (bn t) (h t) (br t) (bb t) (k1_pay4 (F := Ideal))
      ∧ g t.val t.isLt = k1_pay7 (a t) (bn t) (h t) (br t) (bb t) (k1_pay5 (F := Ideal)))
    (hB : ∀ t : Fin N, ¬t.val % 50 = 0 → ¬t.val % 50 = 49 → fm t.val t.isLt = k1_pay3 (a t) (bn t) (h t) (br t) (bb t)
      ∧ f t.val t.isLt = k1_pay6 (a t) (bn t) (h t) (br t) (bb t) (f (t.val - 1) (Nat.lt_of_le_of_lt (Nat.sub_le _ _) t.isLt))
      ∧ g t.val t.isLt = k1_pay7 (a t) (bn t) (h t) (br t) (bb t) (g (t.val - 1) (Nat.lt_of_le_of_lt (Nat.sub_le _ _) t.isLt)))
    (hC : ∀ t : Fin N, ¬t.val % 50 = 0 → t.val % 50 = 49 → fm t.val t.isLt = k1_pay3 (a t) (bn t) (h t) (br t) (bb t)
      ∧ f t.val t.isLt = k1_pay1 (k1_pay6 (a t) (bn t) (h t) (br t) (bb t) (f (t.val - 1) (Nat.lt_of_le_of_lt (Nat.sub_le _ _) t.isLt)))
      ∧ g t.val t.isLt = k1_pay2 (k1_pay7 (a t) (bn t) (h t) (br t) (bb t) (g (t.val - 1) (Nat.lt_of_le_of_lt (Nat.sub_le _ _) t.isLt)))) :
    (∀ t : Fin N, IsBlk (lm H A wn wr b) (fm t.val t.isLt) t.val)
    ∧ (∀ t : Fin N, t.val = 49 → f t.val t.isLt = lmean (lm H A wn wr b))
    ∧ (∀ t : Fin N, t.val = 49 → g t.val t.isLt = lmean (sq (lm H A wn wr b))) := by
  obtain rfl : bn = fun _ => wn := funext hn
  obtain rfl : br = fun _ => wr := funext hr
  obtain rfl : bb = fun _ => b := funext hb
  have hp : ∀ t : Fin N, IsBlk (lm H A wn wr b) (k1_pay3 (a t) wn (h t) wr b) t.val := fun t => lm_blk (ha t) (hh t)
  refine ⟨fun t => ?_, ?_, ?_⟩
  · by_cases h0 : t.val % 50 = 0
    · rw [(hA t h0).1]; exact hp t
    · by_cases h1 : t.val % 50 = 49
      · rw [(hC t h0 h1).1]; exact hp t
      · rw [(hB t h0 h1).1]; exact hp t
  · refine acc_last hN f _ (fun t => k1_pay3 (a t) wn (h t) wr b) hp ?_ ?_ ?_
    · intro t h0 j; rw [(hA t h0).2.1, pay6_at, pay4_at]
    · intro t h0 h1 j; rw [(hB t h0 h1).2.1, pay6_at]
    · intro t h0 h1 j; rw [(hC t h0 h1).2.1, pay1_at, pay6_at]
  · refine acc_last hN g _ _ (fun t => sq_blk (hp t)) ?_ ?_ ?_
    · intro t h0 j; rw [(hA t h0).2.2, pay7_at, pay5_at]
    · intro t h0 h1 j; rw [(hB t h0 h1).2.2, pay7_at]
    · intro t h0 h1 j; rw [(hC t h0 h1).2.2, pay2_at, pay7_at]

/-- The edge network: two rectified layers on the features of an edge's two ends, and the sigmoid of the first column
    of a third. -/
def edgeOut (es ed : Vec Ideal S800000x128 .f32) (wa wb : Wt) (b₁ : Row) (w₂ : Wt) (b₂ : Row) (w₃ : Wt)
    (b₃ : Vec Ideal S1x1 .f32) : Vec Ideal S800000x1 .f32 := fun i =>
  Ideal.logistic ((∑ x : Fin 128, max ((∑ y : Fin 128, max ((∑ k : Fin 128, es (ix2 (i 0) k) * wa (ix2 k y))
    + (∑ k : Fin 128, ed (ix2 (i 0) k) * wb (ix2 k y)) + b₁ (ix2 0 y)) 0 * w₂ (ix2 y x)) + b₂ (ix2 0 x)) 0
      * w₃ (ix2 x 0)) + b₃ (ix2 0 0))

/-- The edge body at an index. -/
theorem edge_at (a b c d e f g h i) (j : S2000x1.Idx) : k31_pay1 (F := Ideal) a b c d e f g h i j =
    Ideal.logistic ((∑ x : Fin 128, max ((∑ y : Fin 128, max ((∑ k : Fin 128, a (ix2 (j 0) k) * b (ix2 k y))
    + (∑ k : Fin 128, c (ix2 (j 0) k) * d (ix2 k y)) + e (ix2 0 y)) 0 * f (ix2 y x)) + g (ix2 0 x)) 0
      * h (ix2 x 0)) + i (ix2 0 0)) := by
  unfold k31_pay1
  pointwise

/-- A block of edges through the network is the block of the network's results. -/
theorem edge_blk {es ed : Vec Ideal S800000x128 .f32} {x x' : Vec Ideal S2000x128 .f32} {wa wb : Wt} {b₁ : Row} {w₂ : Wt}
    {b₂ : Row} {w₃ : Wt} {b₃ : Vec Ideal S1x1 .f32} {t : ℕ}
    (h : ∀ (y : S2000x128.Idx) (i : S800000x128.Idx), (i 0).val = t * 2000 + (y 0).val → (i 1).val = (y 1).val → x y = es i)
    (h' : ∀ (y : S2000x128.Idx) (i : S800000x128.Idx), (i 0).val = t * 2000 + (y 0).val → (i 1).val = (y 1).val → x' y = ed i)
    (y : S2000x1.Idx) (i : S800000x1.Idx) (hi : (i 0).val = t * 2000 + (y 0).val) :
    k31_pay1 (F := Ideal) x wa x' wb b₁ w₂ b₂ w₃ b₃ y = edgeOut es ed wa wb b₁ w₂ b₂ w₃ b₃ i := by
  have e : ∀ k, x (ix2 (y 0) k) = es (ix2 (i 0) k) := fun k => h _ _ hi rfl
  have e' : ∀ k, x' (ix2 (y 0) k) = ed (ix2 (i 0) k) := fun k => h' _ _ hi rfl
  simp only [edge_at, edgeOut, e, e']

/-- A block of nodes through the input layer is the block of the layer's results. -/
theorem inp_blk {X : Vec Ideal S50000x2 .f32} {x : Vec Ideal S1000x2 .f32} {w : Vec Ideal S2x128 .f32} {w₀ w₁ : Row} {t : ℕ}
    (h : ∀ (y : S1000x2.Idx) (i : S50000x2.Idx), (i 0).val = t * 1000 + (y 0).val → (i 1).val = (y 1).val → x y = X i)
    (h₀ : ∀ j, w₀ j = w (ix2 0 (j 1))) (h₁ : ∀ j, w₁ j = w (ix2 1 (j 1))) :
    IsBlk (inp X w) (k0_pay1 (F := Ideal) x w₀ w₁) t := by
  intro y i h0 h1
  have e1 : i 1 = y 1 := Fin.ext h1
  rw [inp_at, inp, h₀, h₁, e1, h (ix2 (y 0) 0) (ix2 (i 0) 0) h0 rfl, h (ix2 (y 0) 1) (ix2 (i 0) 1) h0 rfl]
  rfl

end Cert.KernelIdeal.Value
-- ==== Proof.Host.lean ====
module

public import proofs.«01_k».proof.Proof.Gen.KernelIdeal.Launch
public import proofs.«01_k».proof.Proof.Spec
public import Idealize.ShloMosaic.Lib.StableHlo.RunRead

/-
  What the host operations between the launches compute, as functions of whole arrays.
-/

@[expose] public section

set_option maxRecDepth 16384

noncomputable section

namespace Cert.KernelIdeal.Value

open Cert.KernelIdeal Cert.KernelIdeal.Gen
open Idealize.ShloMosaic Idealize.ShloMosaic.TcCoe Idealize.SL.Sem

/-- The edge indices of one end. -/
abbrev Ends := Vec Ideal S800000 .i32
/-- One row of 128 features per edge. -/
abbrev Edges := Vec Ideal S800000x128 .f32

/-- The sources (first row) of the edge list. -/
def rowOf (e : Vec Ideal S2x800000 .i32) : Ends :=
  shapeCast S800000 (extractStridedSlice S1x800000 ![0, 0] e slices_S2x800000_S1x800000_0_0) shapeCasts_S1x800000_S800000

/-- The targets (second row) of the edge list. -/
def colOf (e : Vec Ideal S2x800000 .i32) : Ends :=
  shapeCast S800000 (extractStridedSlice S1x800000 ![1, 0] e slices_S2x800000_S1x800000_1_0) shapeCasts_S1x800000_S800000

/-- An index list with its negative entries counted from the end, as a column. -/
def wrapIdx (idx : Ends) : Vec Ideal S800000x1 .i32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- Which entries of an index column lie in range. -/
def inRange (w : Vec Ideal S800000x1 .i32) : Vec Ideal S800000 .i1 :=
  Host.reduce IntOp.andi
    (andi (cmpi .sge w (broadcastInDim S800000x1 ![] bcast_S_S800000x1 (constantI S_ 32 0#32)))
      (cmpi .sle w (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The rows of a node array at an index list; a row at an index out of range is not a number. -/
def takeRows (idx : Ends) (h : Nodes) : Edges :=
  select (broadcastInDim S800000x128 ![0] bcast_S800000_S800000x128_0 (inRange (wrapIdx idx)))
    (Host.gather gather_S50000x128_S800000x1_S800000x128_1_0_n_n_0_1_1128 h (wrapIdx idx))
    (broadcastInDim S800000x128 ![] bcast_S_S800000x128 (constant (F := Ideal) S_ .f32 0x7FC00000#32))

/-- Each node's sum of the features at the sources of the edges that end in it. -/
def aggOf (row col : Ends) (h : Nodes) : Nodes :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 col) (takeRows row h)

/-- Layer `i`'s matrix of a stack of fifteen. -/
def matOf (A : Vec Ideal S15x128x128 .f32) (i : Fin 15) : Wt := fun j => A (ix3 i (j 0) (j 1))

/-- Layer `i`'s row of a stack of fifteen. -/
def vecOf (A : Vec Ideal S15x128 .f32) (i : Fin 15) : Row := fun j => A (ix2 i (j 1))

/-- The scale of a layer from its message's mean `s`, mean square `q` and the layer's `g`. -/
def scaleOf (s q g : Row) : Row :=
  mulf (F := Ideal) g (Host.rsqrt (addf (subf q (mulf s s))
    (broadcastInDim S1x128 ![] bcast_S_S1x128 (constant (F := Ideal) S_ .f32 0x3727C5AC#32))))

/-- The shift of a layer: the layer's `b` minus the mean times the scale. -/
def shiftOf (s q g b : Row) : Row := subf (F := Ideal) (φ := .f32) b (mulf s (scaleOf s q g))

/-- One layer of the kernel, from the edge list and the stacks of weights. -/
def layerK (row col : Ends) (wr wn : Vec Ideal S15x128x128 .f32) (b g be : Vec Ideal S15x128 .f32) (i : Fin 15)
    (h : Nodes) : Nodes :=
  let M := lm h (aggOf row col h) (matOf wn i) (matOf wr i) (vecOf b i)
  la h M (scaleOf (lmean M) (lmean (sq M)) (vecOf g i)) (shiftOf (lmean M) (lmean (sq M)) (vecOf g i) (vecOf be i))

/-- A matrix cut out of a stack at an offset and reshaped is the layer's matrix. -/
theorem mat_slice (A : Vec Ideal S15x128x128 .f32) (i : Fin 15) (h : S15x128x128.Slices ![i.val, 0, 0] S1x128x128)
    (h' : S1x128x128.ShapeCasts S128x128) :
    shapeCast S128x128 (extractStridedSlice S1x128x128 ![i.val, 0, 0] A h) h' = matOf A i := by
  funext j
  unfold matOf
  pointwise

/-- A row cut out of a stack at an offset and reshaped is the layer's row. -/
theorem vec_slice (A : Vec Ideal S15x128 .f32) (i : Fin 15) (h : S15x128.Slices ![i.val, 0] S1x128)
    (h' : S1x128.ShapeCasts S128) (h'' : S128.ShapeCasts S1x128) :
    shapeCast S1x128 (shapeCast S128 (extractStridedSlice S1x128 ![i.val, 0] A h) h') h'' = vecOf A i := by
  funext j
  unfold vecOf
  pointwise

/-- One layer put together: messages from the features, their statistics, the scale and shift, the update. -/
theorem layer_step {R C : Ends} {H H₃ H₅ A M M₅ O : Nodes} {Wn Wr : Wt} {B s q sc sh : Row}
    (wr wn : Vec Ideal S15x128x128 .f32) (b g be : Vec Ideal S15x128 .f32) (i : Fin 15)
    (h₃ : H₃ = H) (hA : A = aggOf R C H) (hn : Wn = matOf wn i) (hr : Wr = matOf wr i) (hb : B = vecOf b i)
    (hM : M = lm H₃ A Wn Wr B) (hs : s = lmean (lm H₃ A Wn Wr B)) (hq : q = lmean (sq (lm H₃ A Wn Wr B)))
    (hsc : sc = scaleOf s q (vecOf g i)) (hsh : sh = shiftOf s q (vecOf g i) (vecOf be i))
    (h₅ : H₅ = H) (hM₅ : M₅ = M) (hO : O = la H₅ M₅ sc sh) : O = layerK R C wr wn b g be i H := by
  subst h₃ hA hn hr hb hM hs hq hsc hsh h₅ hM₅ hO
  rfl

end Cert.KernelIdeal.Value
-- ==== Proof.Launches.lean ====
module

public import proofs.«01_k».proof.Proof.Gen.KernelIdeal.Frame
public import proofs.«01_k».proof.Proof.Host

/-
  What the two launches of a layer leave, stated once for all layers. A launch of a later layer runs the same body over
  other buffers: its contents are put where the first layer's launch would find them, and the first layer's fact applies.
-/

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- `X n` is the array of window `w` after the first `n` points: it starts as the array was found, and a point that writes
    its block back overwrites that block. -/
def Writes {Λ : Labels} {cfg : Pipeline.Cfg sig Λ} (D : Dat τ (Elt Ideal) Unit ℕ (UR sig nD τ) ℕ cfg c) (w : Fin cfg.W)
    (X : ℕ → Buf (Elt Ideal) ((cfg.win w).arr.view.loc (c.tc : Thread nD τ))) : Prop :=
  X 0 = D.A w ∧ ∀ n, X (n + 1) = if h : n < cfg.N then
    if (cfg.win w).flush ⟨n, h⟩ then
      ((cfg.win w).blk ⟨n, h⟩).view.write (Elt Ideal) (X n) (D.flushed w ⟨n, h⟩) Finset.univ
    else X n
  else X n

/-- Such a sequence of arrays is determined. -/
theorem Writes.eq {Λ : Labels} {cfg : Pipeline.Cfg sig Λ} {D : Dat τ (Elt Ideal) Unit ℕ (UR sig nD τ) ℕ cfg c} {w : Fin cfg.W}
    {X : ℕ → Buf (Elt Ideal) ((cfg.win w).arr.view.loc (c.tc : Thread nD τ))} (h : Writes c D w X) (n : ℕ) :
    X n = D.arrAt w n := by
  induction n with
  | zero => exact h.1
  | succ n ih => rw [h.2 n, ih]; rfl

/-- A launch's own arrays are such a sequence. -/
theorem writes_arrAt {Λ : Labels} {cfg : Pipeline.Cfg sig Λ} (D : Dat τ (Elt Ideal) Unit ℕ (UR sig nD τ) ℕ cfg c)
    (w : Fin cfg.W) : Writes c D w (D.arrAt w) := ⟨rfl, fun _ => rfl⟩

/-! ## The message launch -/

/-- Contents with the given arrays in the buffers of launch 1. -/
abbrev msgIn (h a m : Nodes) (wn wr : Wt) (b s q : Row) :
    (c : Dev nD) → (r : Ref sig .tc) → Buf (Elt Ideal) ((c : Thread nD τ).loc r) := fun c =>
  Function.update (Function.update (Function.update (Function.update (Function.update (Function.update (Function.update
    (Function.update (V c) main_call0_v4 h) main_call0_v8 a) main_call0_v10 wn) main_call0_v12 wr) main_call0_v15 b)
    main_call0_v16_0 m) main_call0_v16_1 s) main_call0_v16_2 q

/-- What a message launch leaves after each point: a block of messages, and the two accumulated rows. -/
abbrev MsgRun := (n : ℕ) → n < cfg1.N → Vec Ideal S1000x128 .f32 × Row × Row

/-- A message launch whose points leave `o`. -/
def msgDat (o : MsgRun) : Dat τ (Elt Ideal) Unit ℕ (UR sig nD τ) ℕ cfg1 c :=
  { dat1 V c with
    after := fun w t => match w with
      | ⟨0, _⟩ => iblk1 V c 0 t
      | ⟨1, _⟩ => iblk1 V c 1 t
      | ⟨2, _⟩ => iblk1 V c 2 t
      | ⟨3, _⟩ => iblk1 V c 3 t
      | ⟨4, _⟩ => iblk1 V c 4 t
      | ⟨5, _⟩ => (o t.val t.isLt).1
      | ⟨6, _⟩ => (o t.val t.isLt).2.1
      | ⟨7, _⟩ => (o t.val t.isLt).2.2 }

/-- A point's messages. -/
def msgAt (t : Fin cfg1.N) : Vec Ideal S1000x128 .f32 :=
  k1_pay3 (iblk1 V c 1 t) (iblk1 V c 2 t) (iblk1 V c 0 t) (iblk1 V c 3 t) (iblk1 V c 4 t)

/-- A point's sums, over those before it. -/
def sumAt (t : Fin cfg1.N) (r : Row) : Row :=
  k1_pay6 (iblk1 V c 1 t) (iblk1 V c 2 t) (iblk1 V c 0 t) (iblk1 V c 3 t) (iblk1 V c 4 t) r

/-- A point's sums of squares, over those before it. -/
def sqAt (t : Fin cfg1.N) (r : Row) : Row :=
  k1_pay7 (iblk1 V c 1 t) (iblk1 V c 2 t) (iblk1 V c 0 t) (iblk1 V c 3 t) (iblk1 V c 4 t) r

/-- What the point before left. -/
def before (o : MsgRun) (t : Fin cfg1.N) : Vec Ideal S1000x128 .f32 × Row × Row :=
  o (t.val - 1) (Nat.lt_of_le_of_lt (Nat.sub_le _ _) t.isLt)

set_option maxHeartbeats 1000000 in
/-- A message launch leaves the messages, their mean and their mean square, if its first point starts the two rows at
    zero, every point adds to them, and the last scales them. -/
theorem messages (o : MsgRun)
    (hA : ∀ t : Fin cfg1.N, t.val % 50 = 0 → o t.val t.isLt
      = (msgAt V c t, sumAt V c t (k1_pay4 (F := Ideal)), sqAt V c t (k1_pay5 (F := Ideal))))
    (hB : ∀ t : Fin cfg1.N, ¬t.val % 50 = 0 → ¬t.val % 50 = 49 → o t.val t.isLt
      = (msgAt V c t, sumAt V c t (before o t).2.1, sqAt V c t (before o t).2.2))
    (hC : ∀ t : Fin cfg1.N, ¬t.val % 50 = 0 → t.val % 50 = 49 → o t.val t.isLt
      = (msgAt V c t, k1_pay1 (sumAt V c t (before o t).2.1), k1_pay2 (sqAt V c t (before o t).2.2)))
    {X : ℕ → Nodes} {Y Z : ℕ → Row} (h5 : Writes c (msgDat V c o) 5 X) (h6 : Writes c (msgDat V c o) 6 Y)
    (h7 : Writes c (msgDat V c o) 7 Z) {n : ℕ} (hn : n = 50) :
    let M := lm (V c main_call0_v4) (V c main_call0_v8) (V c main_call0_v10) (V c main_call0_v12) (V c main_call0_v15)
    X n = M ∧ Y n = lmean M ∧ Z n = lmean (sq M) := by
  intro M
  obtain rfl : n = cfg1.N := hn.trans N_1.symm
  have ix : ∀ t : Fin cfg1.N, win1_0.index t = ![t.val, 0] ∧ win1_1.index t = ![t.val, 0] ∧ win1_2.index t = ![0, 0]
      ∧ win1_3.index t = ![0, 0] ∧ win1_4.index t = ![0, 0] ∧ win1_5.index t = ![t.val, 0] ∧ win1_6.index t = ![0, 0]
      ∧ win1_7.index t = ![0, 0] := by decide +kernel
  obtain ⟨am, a6, a7⟩ := layer_acc N_1 (fun n hn => (o n hn).1) (fun n hn => (o n hn).2.1)
    (fun n hn => (o n hn).2.2) (H := V c main_call0_v4) (A := V c main_call0_v8)
    (wn := V c main_call0_v10) (wr := V c main_call0_v12) (b := V c main_call0_v15)
    (h := iblk1 V c 0) (a := iblk1 V c 1) (bn := iblk1 V c 2) (br := iblk1 V c 3) (bb := iblk1 V c 4)
    (fun t y i h0 h1 => by blk_ext [iblk1, (ix t).1, h0, h1])
    (fun t y i h0 h1 => by blk_ext [iblk1, (ix t).2.1, h0, h1])
    (fun t => funext fun y => by blk_ext [iblk1, (ix t).2.2.1])
    (fun t => funext fun y => by blk_ext [iblk1, (ix t).2.2.2.1])
    (fun t => funext fun y => by blk_ext [iblk1, (ix t).2.2.2.2.1])
    (fun t h0 => by simp only [hA t h0, msgAt, sumAt, sqAt, and_self])
    (fun t h0 h1 => by simp only [hB t h0 h1, msgAt, sumAt, sqAt, before, and_self])
    (fun t h0 h1 => by simp only [hC t h0 h1, msgAt, sumAt, sqAt, before, and_self])
  have w : ∀ t : Fin cfg1.N, t.val = 49 → (cfg1.win 6).WholeAt t ∧ (cfg1.win 7).WholeAt t := by decide +kernel
  obtain ⟨t, ht⟩ : ∃ t : Fin cfg1.N, t.val = 49 := ⟨⟨49, by decide⟩, rfl⟩
  refine ⟨(h5.eq c _).trans ((msgDat V c o).arrAt_eq_of_covers 5 _ (by decide +kernel) fun t hf y => ?_),
    (h6.eq c _).trans ((msgDat V c o).arrAt_eq_of_after_last 6 t (w t ht).1 _ fun j => ?_),
    (h7.eq c _).trans ((msgDat V c o).arrAt_eq_of_after_last 7 t (w t ht).2 _ fun j => ?_)⟩
  · rw [show (msgDat V c o).after 5 t = (o t.val t.isLt).1 from rfl]
    refine am t y _ ?_ ?_ <;> blk_simp [(ix t).2.2.2.2.2.1]
  · rw [show (msgDat V c o).after 6 t = lmean M from a6 t ht]
    generalize lmean M = G
    blk_ext [(ix t).2.2.2.2.2.2.1]
  · rw [show (msgDat V c o).after 7 t = lmean (sq M) from a7 t ht]
    generalize lmean (sq M) = G
    blk_ext [(ix t).2.2.2.2.2.2.2]

/-! ## The update launch -/

/-- Contents with the given arrays in the buffers of launch 2. -/
abbrev updIn (h m o : Nodes) (s t : Row) :
    (c : Dev nD) → (r : Ref sig .tc) → Buf (Elt Ideal) ((c : Thread nD τ).loc r) := fun c =>
  Function.update (Function.update (Function.update (Function.update (Function.update (V c) main_call0_v4 h)
    main_call0_v16_0 m) main_call0_v25 s) main_call0_v30 t) main_call0_v31 o

set_option maxHeartbeats 1000000 in
/-- An update launch leaves the updated features. -/
theorem updates {X : ℕ → Nodes} (h : Writes c (dat2 V c) 4 X) {n : ℕ} (hn : n = 50) :
    X n = la (V c main_call0_v4) (V c main_call0_v16_0) (V c main_call0_v25) (V c main_call0_v30) := by
  obtain rfl : n = cfg2.N := hn.trans N_2.symm
  have ix : ∀ t : Fin cfg2.N, win2_0.index t = ![t.val, 0] ∧ win2_1.index t = ![t.val, 0] ∧ win2_2.index t = ![0, 0]
      ∧ win2_3.index t = ![0, 0] ∧ win2_4.index t = ![t.val, 0] := by decide +kernel
  refine (h.eq c _).trans ((dat2 V c).arrAt_eq_of_covers 4 _ (by decide +kernel) fun t hf y => ?_)
  have b0 : IsBlk (V c main_call0_v4) (iblk2 V c 0 t) t.val := fun y i h0 h1 => by blk_ext [iblk2, (ix t).1, h0, h1]
  have b1 : IsBlk (V c main_call0_v16_0) (iblk2 V c 1 t) t.val := fun y i h0 h1 => by
    blk_ext [iblk2, (ix t).2.1, h0, h1]
  have b2 : iblk2 V c 2 t = V c main_call0_v25 := funext fun y => by blk_ext [iblk2, (ix t).2.2.1]
  have b3 : iblk2 V c 3 t = V c main_call0_v30 := funext fun y => by blk_ext [iblk2, (ix t).2.2.2.1]
  have e : out2_4 (iblk2 V c 0 t) (iblk2 V c 1 t) (iblk2 V c 2 t) (iblk2 V c 3 t)
      = k2_pay1 (iblk2 V c 0 t) (iblk2 V c 1 t) (iblk2 V c 2 t) (iblk2 V c 3 t) := by frame_out <;> rfl
  rw [after2_4, e, b2, b3]
  refine la_blk b0 b1 y _ ?_ ?_ <;> blk_simp [(ix t).2.2.2.2]

/-! ## The host's part -/

variable (W : Valuation τ sig (Elt Ideal))

/-- Before the messages of layer `i`: the aggregate of the features `h` and the layer's weights. -/
def MsgHost (i : Fin 15) (h a : Nodes) (wn wr : Wt) (b : Row) : Prop :=
  a = aggOf (W (Proc.devRef .tc main_call0_v1)) (W (Proc.devRef .tc main_call0_v3)) h
    ∧ wn = matOf (W (Proc.devRef .tc main_arg4)) i ∧ wr = matOf (W (Proc.devRef .tc main_arg3)) i
    ∧ b = vecOf (W (Proc.devRef .tc main_arg5)) i

/-- Before the update of layer `i`: the scale and the shift, from the mean `s` and the mean square `q`. -/
def UpdHost (i : Fin 15) (s q sc sh : Row) : Prop :=
  sc = scaleOf s q (vecOf (W (Proc.devRef .tc main_arg6)) i)
    ∧ sh = shiftOf s q (vecOf (W (Proc.devRef .tc main_arg6)) i) (vecOf (W (Proc.devRef .tc main_arg7)) i)

/-- Layer `i` of the kernel, over the weights that the program was given. -/
abbrev layerAt (m : (ℓ : Loc nD τ sig) → Buf (Elt Ideal) ℓ) (i : Fin 15) (R C : Ends) (H : Nodes) : Nodes :=
  layerK R C (m ((c : Thread nD τ).loc main_arg3)) (m ((c : Thread nD τ).loc main_arg4))
    (m ((c : Thread nD τ).loc main_arg5)) (m ((c : Thread nD τ).loc main_arg6)) (m ((c : Thread nD τ).loc main_arg7)) i H

end Cert.KernelIdeal.Value

end
-- ==== Proof.Layers0.lean ====
module

public import proofs.«01_k».proof.Proof.Launches

/-
  Layers 0 to 2 of the kernel: the facts about a layer's launches and host operations, applied to each layer's buffers,
  and the layer from its entry to its exit.
-/

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)

variable (W : Valuation τ sig (Elt Ideal))
variable (V : (c : Dev nD) → (b : Ref sig .tc) → Buf (Elt Ideal) ((c : Thread nD τ).loc b)) (c : Dev nD)
variable (m : (ℓ : Loc nD τ sig) → Buf (Elt Ideal) ℓ) (ρ : Dev nD → PrngReg)

/-! ## Layer 0 -/

/-- The host operations before launch 1: the aggregate and the layer's weights. -/
theorem host1 : MsgHost W 0 (W (Proc.devRef .tc main_call0_v4)) (StableHlo.after hostOps1 W (Proc.devRef .tc main_call0_v8))
    (StableHlo.after hostOps1 W (Proc.devRef .tc main_call0_v10)) (StableHlo.after hostOps1 W (Proc.devRef .tc main_call0_v12))
    (StableHlo.after hostOps1 W (Proc.devRef .tc main_call0_v15)) := by
  refine ⟨?_, ?_, ?_, ?_⟩ <;> after_reads_simp
  · simp only [StableHlo.TRef.ofBuf_toBuf]; rfl
  · exact mat_slice _ 0 slices_S15x128x128_S1x128x128_0_0_0 _
  · exact mat_slice _ 0 slices_S15x128x128_S1x128x128_0_0_0 _
  · exact vec_slice _ 0 slices_S15x128_S1x128_0_0 _ _

/-- The host operations before launch 2: the scale and the shift. -/
theorem host2 : UpdHost W 0 (W (Proc.devRef .tc main_call0_v16_1)) (W (Proc.devRef .tc main_call0_v16_2))
    (StableHlo.after hostOps2 W (Proc.devRef .tc main_call0_v25)) (StableHlo.after hostOps2 W (Proc.devRef .tc main_call0_v30)) := by
  have e := fun A => vec_slice A 0 slices_S15x128_S1x128_0_0 shapeCasts_S1x128_S128 shapeCasts_S128_S1x128
  unfold UpdHost
  rw [← e, ← e]
  constructor <;> (after_reads_simp; rfl)

set_option maxHeartbeats 1000000 in
/-- Launch 1 leaves the messages, their mean and their mean square. -/
theorem region1 :
    let M := lm (V c main_call0_v4) (V c main_call0_v8) (V c main_call0_v10) (V c main_call0_v12) (V c main_call0_v15)
    (dat1 V c).arrAt 5 cfg1.N = M ∧ (dat1 V c).arrAt 6 cfg1.N = lmean M ∧ (dat1 V c).arrAt 7 cfg1.N = lmean (sq M) :=
  messages V c (outsAt1 V c)
    (fun t h0 => (outsAt1_A V c t h0 (by omega)).trans (by refine Prod.ext ?_ (Prod.ext ?_ ?_) <;> frame_out <;> rfl))
    (fun t h0 h1 => (outsAt1_B V c t h0 h1).trans (by refine Prod.ext ?_ (Prod.ext ?_ ?_) <;> frame_out <;> rfl))
    (fun t h0 h1 => (outsAt1_C V c t h0 h1).trans (by refine Prod.ext ?_ (Prod.ext ?_ ?_) <;> frame_out <;> rfl))
    (X := (dat1 V c).arrAt 5) (Y := (dat1 V c).arrAt 6) (Z := (dat1 V c).arrAt 7)
    ⟨rfl, fun n => ((writes_arrAt c (dat1 V c) 5).2 n).trans (by rfl)⟩
    ⟨rfl, fun n => ((writes_arrAt c (dat1 V c) 6).2 n).trans (by rfl)⟩
    ⟨rfl, fun n => ((writes_arrAt c (dat1 V c) 7).2 n).trans (by rfl)⟩ N_1

/-- Launch 2 leaves the updated features. -/
theorem region2 : (dat2 V c).arrAt 4 cfg2.N
    = la (V c main_call0_v4) (V c main_call0_v16_0) (V c main_call0_v25) (V c main_call0_v30) :=
  updates V c
    (X := (dat2 V c).arrAt 4)
    ⟨rfl, fun n => ((writes_arrAt c (dat2 V c) 4).2 n).trans (by rfl)⟩ N_2

/-- Layer 0, from the contents before it to those after it. -/
theorem layer0 {R C : Ends} {H : Nodes} (hr : W2 m ρ c (Proc.devRef .tc main_call0_v1) = R)
    (hc : W2 m ρ c (Proc.devRef .tc main_call0_v3) = C) (hh : W2 m ρ c (Proc.devRef .tc main_call0_v4) = H) :
    W6 m ρ c (Proc.devRef .tc main_call0_v1) = R ∧ W6 m ρ c (Proc.devRef .tc main_call0_v3) = C
    ∧ W6 m ρ c (Proc.devRef .tc main_call0_v31) = layerAt c m 0 R C H := by
  obtain ⟨ha, hn, hw, hb⟩ := host1 (W2 m ρ c)
  obtain ⟨hs, ht⟩ := host2 (W4 m ρ c)
  obtain ⟨e5, e6, e7⟩ := region1 (V3 m ρ) c
  rw [W2_args m ρ c _ (by decide)] at hn hw hb
  rw [W4_args m ρ c main_arg6 (by decide)] at hs ht
  rw [W4_args m ρ c main_arg7 (by decide)] at ht
  rw [hr, hc, hh] at ha
  have h3 := (W3_of m ρ c main_call0_v4 (by decide)).trans hh
  refine ⟨?_, ?_, layer_step _ _ _ _ _ 0 h3 ha hn hw hb ((W4_arr m ρ c 5).trans e5) ((W4_arr m ρ c 6).trans e6)
    ((W4_arr m ρ c 7).trans e7) hs ht ((W5_of m ρ c main_call0_v4 (by decide)).trans ((W4_of m ρ c _ (by decide)).trans h3))
    (W5_of m ρ c main_call0_v16_0 (by decide)) ((W6_arr m ρ c 4).trans (region2 (V5 m ρ) c))⟩
  · rw [W6_of m ρ c _ (by decide), W5_of m ρ c _ (by decide), W4_of m ρ c _ (by decide), W3_of m ρ c _ (by decide), hr]
  · rw [W6_of m ρ c _ (by decide), W5_of m ρ c _ (by decide), W4_of m ρ c _ (by decide), W3_of m ρ c _ (by decide), hc]

/-! ## Layer 1 -/

/-- The host operations before launch 3: the aggregate and the layer's weights. -/
theorem host3 : MsgHost W 1 (W (Proc.devRef .tc main_call0_v31)) (StableHlo.after hostOps3 W (Proc.devRef .tc main_call0_v35))
    (StableHlo.after hostOps3 W (Proc.devRef .tc main_call0_v37)) (StableHlo.after hostOps3 W (Proc.devRef .tc main_call0_v39))
    (StableHlo.after hostOps3 W (Proc.devRef .tc main_call0_v42)) := by
  refine ⟨?_, ?_, ?_, ?_⟩ <;> after_reads_simp
  · simp only [StableHlo.TRef.ofBuf_toBuf]; rfl
  · exact mat_slice _ 1 slices_S15x128x128_S1x128x128_1_0_0 _
  · exact mat_slice _ 1 slices_S15x128x128_S1x128x128_1_0_0 _
  · exact vec_slice _ 1 slices_S15x128_S1x128_1_0 _ _

/-- The host operations before launch 4: the scale and the shift. -/
theorem host4 : UpdHost W 1 (W (Proc.devRef .tc main_call0_v43_1)) (W (Proc.devRef .tc main_call0_v43_2))
    (StableHlo.after hostOps4 W (Proc.devRef .tc main_call0_v52)) (StableHlo.after hostOps4 W (Proc.devRef .tc main_call0_v57)) := by
  have e := fun A => vec_slice A 1 slices_S15x128_S1x128_1_0 shapeCasts_S1x128_S128 shapeCasts_S128_S1x128
  unfold UpdHost
  rw [← e, ← e]
  constructor <;> (after_reads_simp; rfl)

set_option maxHeartbeats 1000000 in
/-- Launch 3 leaves the messages, their mean and their mean square. -/
theorem region3 :
    let M := lm (V c main_call0_v31) (V c main_call0_v35) (V c main_call0_v37) (V c main_call0_v39) (V c main_call0_v42)
    (dat3 V c).arrAt 5 cfg3.N = M ∧ (dat3 V c).arrAt 6 cfg3.N = lmean M ∧ (dat3 V c).arrAt 7 cfg3.N = lmean (sq M) :=
  messages (msgIn V (V c main_call0_v31) (V c main_call0_v35) (V c main_call0_v43_0) (V c main_call0_v37)
    (V c main_call0_v39) (V c main_call0_v42) (V c main_call0_v43_1) (V c main_call0_v43_2)) c (outsAt3 V c)
    (fun t h0 => (outsAt3_A V c t h0 (by omega)).trans (by refine Prod.ext ?_ (Prod.ext ?_ ?_) <;> frame_out <;> rfl))
    (fun t h0 h1 => (outsAt3_B V c t h0 h1).trans (by refine Prod.ext ?_ (Prod.ext ?_ ?_) <;> frame_out <;> rfl))
    (fun t h0 h1 => (outsAt3_C V c t h0 h1).trans (by refine Prod.ext ?_ (Prod.ext ?_ ?_) <;> frame_out <;> rfl))
    (X := (dat3 V c).arrAt 5) (Y := (dat3 V c).arrAt 6) (Z := (dat3 V c).arrAt 7)
    ⟨rfl, fun n => ((writes_arrAt c (dat3 V c) 5).2 n).trans (by rfl)⟩
    ⟨rfl, fun n => ((writes_arrAt c (dat3 V c) 6).2 n).trans (by rfl)⟩
    ⟨rfl, fun n => ((writes_arrAt c (dat3 V c) 7).2 n).trans (by rfl)⟩ N_3

/-- Launch 4 leaves the updated features. -/
theorem region4 : (dat4 V c).arrAt 4 cfg4.N
    = la (V c main_call0_v31) (V c main_call0_v43_0) (V c main_call0_v52) (V c main_call0_v57) :=
  updates (updIn V (V c main_call0_v31) (V c main_call0_v43_0) (V c main_call0_v58) (V c main_call0_v52) (V c main_call0_v57)) c
    (X := (dat4 V c).arrAt 4)
    ⟨rfl, fun n => ((writes_arrAt c (dat4 V c) 4).2 n).trans (by rfl)⟩ N_4

/-- Layer 1, from the contents before it to those after it. -/
theorem layer1 {R C : Ends} {H : Nodes} (hr : W6 m ρ c (Proc.devRef .tc main_call0_v1) = R)
    (hc : W6 m ρ c (Proc.devRef .tc main_call0_v3) = C) (hh : W6 m ρ c (Proc.devRef .tc main_call0_v31) = H) :
    W10 m ρ c (Proc.devRef .tc main_call0_v1) = R ∧ W10 m ρ c (Proc.devRef .tc main_call0_v3) = C
    ∧ W10 m ρ c (Proc.devRef .tc main_call0_v58) = layerAt c m 1 R C H := by
  obtain ⟨ha, hn, hw, hb⟩ := host3 (W6 m ρ c)
  obtain ⟨hs, ht⟩ := host4 (W8 m ρ c)
  obtain ⟨e5, e6, e7⟩ := region3 (V7 m ρ) c
  rw [W6_args m ρ c _ (by decide)] at hn hw hb
  rw [W8_args m ρ c main_arg6 (by decide)] at hs ht
  rw [W8_args m ρ c main_arg7 (by decide)] at ht
  rw [hr, hc, hh] at ha
  have h3 := (W7_of m ρ c main_call0_v31 (by decide)).trans hh
  refine ⟨?_, ?_, layer_step _ _ _ _ _ 1 h3 ha hn hw hb ((W8_arr m ρ c 5).trans e5) ((W8_arr m ρ c 6).trans e6)
    ((W8_arr m ρ c 7).trans e7) hs ht ((W9_of m ρ c main_call0_v31 (by decide)).trans ((W8_of m ρ c _ (by decide)).trans h3))
    (W9_of m ρ c main_call0_v43_0 (by decide)) ((W10_arr m ρ c 4).trans (region4 (V9 m ρ) c))⟩
  · rw [W10_of m ρ c _ (by decide), W9_of m ρ c _ (by decide), W8_of m ρ c _ (by decide), W7_of m ρ c _ (by decide), hr]
  · rw [W10_of m ρ c _ (by decide), W9_of m ρ c _ (by decide), W8_of m ρ c _ (by decide), W7_of m ρ c _ (by decide), hc]

/-! ## Layer 2 -/

/-- The host operations before launch 5: the aggregate and the layer's weights. -/
theorem host5 : MsgHost W 2 (W (Proc.devRef .tc main_call0_v58)) (StableHlo.after hostOps5 W (Proc.devRef .tc main_call0_v62))
    (StableHlo.after hostOps5 W (Proc.devRef .tc main_call0_v64)) (StableHlo.after hostOps5 W (Proc.devRef .tc main_call0_v66))
    (StableHlo.after hostOps5 W (Proc.devRef .tc main_call0_v69)) := by
  refine ⟨?_, ?_, ?_, ?_⟩ <;> after_reads_simp
  · simp only [StableHlo.TRef.ofBuf_toBuf]; rfl
  · exact mat_slice _ 2 slices_S15x128x128_S1x128x128_2_0_0 _
  · exact mat_slice _ 2 slices_S15x128x128_S1x128x128_2_0_0 _
  · exact vec_slice _ 2 slices_S15x128_S1x128_2_0 _ _

/-- The host operations before launch 6: the scale and the shift. -/
theorem host6 : UpdHost W 2 (W (Proc.devRef .tc main_call0_v70_1)) (W (Proc.devRef .tc main_call0_v70_2))
    (StableHlo.after hostOps6 W (Proc.devRef .tc main_call0_v79)) (StableHlo.after hostOps6 W (Proc.devRef .tc main_call0_v84)) := by
  have e := fun A => vec_slice A 2 slices_S15x128_S1x128_2_0 shapeCasts_S1x128_S128 shapeCasts_S128_S1x128
  unfold UpdHost
  rw [← e, ← e]
  constructor <;> (after_reads_simp; rfl)

set_option maxHeartbeats 1000000 in
/-- Launch 5 leaves the messages, their mean and their mean square. -/
theorem region5 :
    let M := lm (V c main_call0_v58) (V c main_call0_v62) (V c main_call0_v64) (V c main_call0_v66) (V c main_call0_v69)
    (dat5 V c).arrAt 5 cfg5.N = M ∧ (dat5 V c).arrAt 6 cfg5.N = lmean M ∧ (dat5 V c).arrAt 7 cfg5.N = lmean (sq M) :=
  messages (msgIn V (V c main_call0_v58) (V c main_call0_v62) (V c main_call0_v70_0) (V c main_call0_v64)
    (V c main_call0_v66) (V c main_call0_v69) (V c main_call0_v70_1) (V c main_call0_v70_2)) c (outsAt5 V c)
    (fun t h0 => (outsAt5_A V c t h0 (by omega)).trans (by refine Prod.ext ?_ (Prod.ext ?_ ?_) <;> frame_out <;> rfl))
    (fun t h0 h1 => (outsAt5_B V c t h0 h1).trans (by refine Prod.ext ?_ (Prod.ext ?_ ?_) <;> frame_out <;> rfl))
    (fun t h0 h1 => (outsAt5_C V c t h0 h1).trans (by refine Prod.ext ?_ (Prod.ext ?_ ?_) <;> frame_out <;> rfl))
    (X := (dat5 V c).arrAt 5) (Y := (dat5 V c).arrAt 6) (Z := (dat5 V c).arrAt 7)
    ⟨rfl, fun n => ((writes_arrAt c (dat5 V c) 5).2 n).trans (by rfl)⟩
    ⟨rfl, fun n => ((writes_arrAt c (dat5 V c) 6).2 n).trans (by rfl)⟩
    ⟨rfl, fun n => ((writes_arrAt c (dat5 V c) 7).2 n).trans (by rfl)⟩ N_5

/-- Launch 6 leaves the updated features. -/
theorem region6 : (dat6 V c).arrAt 4 cfg6.N
    = la (V c main_call0_v58) (V c main_call0_v70_0) (V c main_call0_v79) (V c main_call0_v84) :=
  updates (updIn V (V c main_call0_v58) (V c main_call0_v70_0) (V c main_call0_v85) (V c main_call0_v79) (V c main_call0_v84)) c
    (X := (dat6 V c).arrAt 4)
    ⟨rfl, fun n => ((writes_arrAt c (dat6 V c) 4).2 n).trans (by rfl)⟩ N_6

/-- Layer 2, from the contents before it to those after it. -/
theorem layer2 {R C : Ends} {H : Nodes} (hr : W10 m ρ c (Proc.devRef .tc main_call0_v1) = R)
    (hc : W10 m ρ c (Proc.devRef .tc main_call0_v3) = C) (hh : W10 m ρ c (Proc.devRef .tc main_call0_v58) = H) :
    W14 m ρ c (Proc.devRef .tc main_call0_v1) = R ∧ W14 m ρ c (Proc.devRef .tc main_call0_v3) = C
    ∧ W14 m ρ c (Proc.devRef .tc main_call0_v85) = layerAt c m 2 R C H := by
  obtain ⟨ha, hn, hw, hb⟩ := host5 (W10 m ρ c)
  obtain ⟨hs, ht⟩ := host6 (W12 m ρ c)
  obtain ⟨e5, e6, e7⟩ := region5 (V11 m ρ) c
  rw [W10_args m ρ c _ (by decide)] at hn hw hb
  rw [W12_args m ρ c main_arg6 (by decide)] at hs ht
  rw [W12_args m ρ c main_arg7 (by decide)] at ht
  rw [hr, hc, hh] at ha
  have h3 := (W11_of m ρ c main_call0_v58 (by decide)).trans hh
  refine ⟨?_, ?_, layer_step _ _ _ _ _ 2 h3 ha hn hw hb ((W12_arr m ρ c 5).trans e5) ((W12_arr m ρ c 6).trans e6)
    ((W12_arr m ρ c 7).trans e7) hs ht ((W13_of m ρ c main_call0_v58 (by decide)).trans ((W12_of m ρ c _ (by decide)).trans h3))
    (W13_of m ρ c main_call0_v70_0 (by decide)) ((W14_arr m ρ c 4).trans (region6 (V13 m ρ) c))⟩
  · rw [W14_of m ρ c _ (by decide), W13_of m ρ c _ (by decide), W12_of m ρ c _ (by decide), W11_of m ρ c _ (by decide), hr]
  · rw [W14_of m ρ c _ (by decide), W13_of m ρ c _ (by decide), W12_of m ρ c _ (by decide), W11_of m ρ c _ (by decide), hc]

end Cert.KernelIdeal.Value

end
-- ==== Proof.Layers1.lean ====
module

public import proofs.«01_k».proof.Proof.Launches

/-
  Layers 3 to 5 of the kernel: the facts about a layer's launches and host operations, applied to each layer's buffers,
  and the layer from its entry to its exit.
-/

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)

variable (W : Valuation τ sig (Elt Ideal))
variable (V : (c : Dev nD) → (b : Ref sig .tc) → Buf (Elt Ideal) ((c : Thread nD τ).loc b)) (c : Dev nD)
variable (m : (ℓ : Loc nD τ sig) → Buf (Elt Ideal) ℓ) (ρ : Dev nD → PrngReg)

/-! ## Layer 3 -/

/-- The host operations before launch 7: the aggregate and the layer's weights. -/
theorem host7 : MsgHost W 3 (W (Proc.devRef .tc main_call0_v85)) (StableHlo.after hostOps7 W (Proc.devRef .tc main_call0_v89))
    (StableHlo.after hostOps7 W (Proc.devRef .tc main_call0_v91)) (StableHlo.after hostOps7 W (Proc.devRef .tc main_call0_v93))
    (StableHlo.after hostOps7 W (Proc.devRef .tc main_call0_v96)) := by
  refine ⟨?_, ?_, ?_, ?_⟩ <;> after_reads_simp
  · simp only [StableHlo.TRef.ofBuf_toBuf]; rfl
  · exact mat_slice _ 3 slices_S15x128x128_S1x128x128_3_0_0 _
  · exact mat_slice _ 3 slices_S15x128x128_S1x128x128_3_0_0 _
  · exact vec_slice _ 3 slices_S15x128_S1x128_3_0 _ _

/-- The host operations before launch 8: the scale and the shift. -/
theorem host8 : UpdHost W 3 (W (Proc.devRef .tc main_call0_v97_1)) (W (Proc.devRef .tc main_call0_v97_2))
    (StableHlo.after hostOps8 W (Proc.devRef .tc main_call0_v106)) (StableHlo.after hostOps8 W (Proc.devRef .tc main_call0_v111)) := by
  have e := fun A => vec_slice A 3 slices_S15x128_S1x128_3_0 shapeCasts_S1x128_S128 shapeCasts_S128_S1x128
  unfold UpdHost
  rw [← e, ← e]
  constructor <;> (after_reads_simp; rfl)

set_option maxHeartbeats 1000000 in
/-- Launch 7 leaves the messages, their mean and their mean square. -/
theorem region7 :
    let M := lm (V c main_call0_v85) (V c main_call0_v89) (V c main_call0_v91) (V c main_call0_v93) (V c main_call0_v96)
    (dat7 V c).arrAt 5 cfg7.N = M ∧ (dat7 V c).arrAt 6 cfg7.N = lmean M ∧ (dat7 V c).arrAt 7 cfg7.N = lmean (sq M) :=
  messages (msgIn V (V c main_call0_v85) (V c main_call0_v89) (V c main_call0_v97_0) (V c main_call0_v91)
    (V c main_call0_v93) (V c main_call0_v96) (V c main_call0_v97_1) (V c main_call0_v97_2)) c (outsAt7 V c)
    (fun t h0 => (outsAt7_A V c t h0 (by omega)).trans (by refine Prod.ext ?_ (Prod.ext ?_ ?_) <;> frame_out <;> rfl))
    (fun t h0 h1 => (outsAt7_B V c t h0 h1).trans (by refine Prod.ext ?_ (Prod.ext ?_ ?_) <;> frame_out <;> rfl))
    (fun t h0 h1 => (outsAt7_C V c t h0 h1).trans (by refine Prod.ext ?_ (Prod.ext ?_ ?_) <;> frame_out <;> rfl))
    (X := (dat7 V c).arrAt 5) (Y := (dat7 V c).arrAt 6) (Z := (dat7 V c).arrAt 7)
    ⟨rfl, fun n => ((writes_arrAt c (dat7 V c) 5).2 n).trans (by rfl)⟩
    ⟨rfl, fun n => ((writes_arrAt c (dat7 V c) 6).2 n).trans (by rfl)⟩
    ⟨rfl, fun n => ((writes_arrAt c (dat7 V c) 7).2 n).trans (by rfl)⟩ N_7

/-- Launch 8 leaves the updated features. -/
theorem region8 : (dat8 V c).arrAt 4 cfg8.N
    = la (V c main_call0_v85) (V c main_call0_v97_0) (V c main_call0_v106) (V c main_call0_v111) :=
  updates (updIn V (V c main_call0_v85) (V c main_call0_v97_0) (V c main_call0_v112) (V c main_call0_v106) (V c main_call0_v111)) c
    (X := (dat8 V c).arrAt 4)
    ⟨rfl, fun n => ((writes_arrAt c (dat8 V c) 4).2 n).trans (by rfl)⟩ N_8

/-- Layer 3, from the contents before it to those after it. -/
theorem layer3 {R C : Ends} {H : Nodes} (hr : W14 m ρ c (Proc.devRef .tc main_call0_v1) = R)
    (hc : W14 m ρ c (Proc.devRef .tc main_call0_v3) = C) (hh : W14 m ρ c (Proc.devRef .tc main_call0_v85) = H) :
    W18 m ρ c (Proc.devRef .tc main_call0_v1) = R ∧ W18 m ρ c (Proc.devRef .tc main_call0_v3) = C
    ∧ W18 m ρ c (Proc.devRef .tc main_call0_v112) = layerAt c m 3 R C H := by
  obtain ⟨ha, hn, hw, hb⟩ := host7 (W14 m ρ c)
  obtain ⟨hs, ht⟩ := host8 (W16 m ρ c)
  obtain ⟨e5, e6, e7⟩ := region7 (V15 m ρ) c
  rw [W14_args m ρ c _ (by decide)] at hn hw hb
  rw [W16_args m ρ c main_arg6 (by decide)] at hs ht
  rw [W16_args m ρ c main_arg7 (by decide)] at ht
  rw [hr, hc, hh] at ha
  have h3 := (W15_of m ρ c main_call0_v85 (by decide)).trans hh
  refine ⟨?_, ?_, layer_step _ _ _ _ _ 3 h3 ha hn hw hb ((W16_arr m ρ c 5).trans e5) ((W16_arr m ρ c 6).trans e6)
    ((W16_arr m ρ c 7).trans e7) hs ht ((W17_of m ρ c main_call0_v85 (by decide)).trans ((W16_of m ρ c _ (by decide)).trans h3))
    (W17_of m ρ c main_call0_v97_0 (by decide)) ((W18_arr m ρ c 4).trans (region8 (V17 m ρ) c))⟩
  · rw [W18_of m ρ c _ (by decide), W17_of m ρ c _ (by decide), W16_of m ρ c _ (by decide), W15_of m ρ c _ (by decide), hr]
  · rw [W18_of m ρ c _ (by decide), W17_of m ρ c _ (by decide), W16_of m ρ c _ (by decide), W15_of m ρ c _ (by decide), hc]

/-! ## Layer 4 -/

/-- The host operations before launch 9: the aggregate and the layer's weights. -/
theorem host9 : MsgHost W 4 (W (Proc.devRef .tc main_call0_v112)) (StableHlo.after hostOps9 W (Proc.devRef .tc main_call0_v116))
    (StableHlo.after hostOps9 W (Proc.devRef .tc main_call0_v118)) (StableHlo.after hostOps9 W (Proc.devRef .tc main_call0_v120))
    (StableHlo.after hostOps9 W (Proc.devRef .tc main_call0_v123)) := by
  refine ⟨?_, ?_, ?_, ?_⟩ <;> after_reads_simp
  · simp only [StableHlo.TRef.ofBuf_toBuf]; rfl
  · exact mat_slice _ 4 slices_S15x128x128_S1x128x128_4_0_0 _
  · exact mat_slice _ 4 slices_S15x128x128_S1x128x128_4_0_0 _
  · exact vec_slice _ 4 slices_S15x128_S1x128_4_0 _ _

/-- The host operations before launch 10: the scale and the shift. -/
theorem host10 : UpdHost W 4 (W (Proc.devRef .tc main_call0_v124_1)) (W (Proc.devRef .tc main_call0_v124_2))
    (StableHlo.after hostOps10 W (Proc.devRef .tc main_call0_v133)) (StableHlo.after hostOps10 W (Proc.devRef .tc main_call0_v138)) := by
  have e := fun A => vec_slice A 4 slices_S15x128_S1x128_4_0 shapeCasts_S1x128_S128 shapeCasts_S128_S1x128
  unfold UpdHost
  rw [← e, ← e]
  constructor <;> (after_reads_simp; rfl)

set_option maxHeartbeats 1000000 in
/-- Launch 9 leaves the messages, their mean and their mean square. -/
theorem region9 :
    let M := lm (V c main_call0_v112) (V c main_call0_v116) (V c main_call0_v118) (V c main_call0_v120) (V c main_call0_v123)
    (dat9 V c).arrAt 5 cfg9.N = M ∧ (dat9 V c).arrAt 6 cfg9.N = lmean M ∧ (dat9 V c).arrAt 7 cfg9.N = lmean (sq M) :=
  messages (msgIn V (V c main_call0_v112) (V c main_call0_v116) (V c main_call0_v124_0) (V c main_call0_v118)
    (V c main_call0_v120) (V c main_call0_v123) (V c main_call0_v124_1) (V c main_call0_v124_2)) c (outsAt9 V c)
    (fun t h0 => (outsAt9_A V c t h0 (by omega)).trans (by refine Prod.ext ?_ (Prod.ext ?_ ?_) <;> frame_out <;> rfl))
    (fun t h0 h1 => (outsAt9_B V c t h0 h1).trans (by refine Prod.ext ?_ (Prod.ext ?_ ?_) <;> frame_out <;> rfl))
    (fun t h0 h1 => (outsAt9_C V c t h0 h1).trans (by refine Prod.ext ?_ (Prod.ext ?_ ?_) <;> frame_out <;> rfl))
    (X := (dat9 V c).arrAt 5) (Y := (dat9 V c).arrAt 6) (Z := (dat9 V c).arrAt 7)
    ⟨rfl, fun n => ((writes_arrAt c (dat9 V c) 5).2 n).trans (by rfl)⟩
    ⟨rfl, fun n => ((writes_arrAt c (dat9 V c) 6).2 n).trans (by rfl)⟩
    ⟨rfl, fun n => ((writes_arrAt c (dat9 V c) 7).2 n).trans (by rfl)⟩ N_9

/-- Launch 10 leaves the updated features. -/
theorem region10 : (dat10 V c).arrAt 4 cfg10.N
    = la (V c main_call0_v112) (V c main_call0_v124_0) (V c main_call0_v133) (V c main_call0_v138) :=
  updates (updIn V (V c main_call0_v112) (V c main_call0_v124_0) (V c main_call0_v139) (V c main_call0_v133) (V c main_call0_v138)) c
    (X := (dat10 V c).arrAt 4)
    ⟨rfl, fun n => ((writes_arrAt c (dat10 V c) 4).2 n).trans (by rfl)⟩ N_10

/-- Layer 4, from the contents before it to those after it. -/
theorem layer4 {R C : Ends} {H : Nodes} (hr : W18 m ρ c (Proc.devRef .tc main_call0_v1) = R)
    (hc : W18 m ρ c (Proc.devRef .tc main_call0_v3) = C) (hh : W18 m ρ c (Proc.devRef .tc main_call0_v112) = H) :
    W22 m ρ c (Proc.devRef .tc main_call0_v1) = R ∧ W22 m ρ c (Proc.devRef .tc main_call0_v3) = C
    ∧ W22 m ρ c (Proc.devRef .tc main_call0_v139) = layerAt c m 4 R C H := by
  obtain ⟨ha, hn, hw, hb⟩ := host9 (W18 m ρ c)
  obtain ⟨hs, ht⟩ := host10 (W20 m ρ c)
  obtain ⟨e5, e6, e7⟩ := region9 (V19 m ρ) c
  rw [W18_args m ρ c _ (by decide)] at hn hw hb
  rw [W20_args m ρ c main_arg6 (by decide)] at hs ht
  rw [W20_args m ρ c main_arg7 (by decide)] at ht
  rw [hr, hc, hh] at ha
  have h3 := (W19_of m ρ c main_call0_v112 (by decide)).trans hh
  refine ⟨?_, ?_, layer_step _ _ _ _ _ 4 h3 ha hn hw hb ((W20_arr m ρ c 5).trans e5) ((W20_arr m ρ c 6).trans e6)
    ((W20_arr m ρ c 7).trans e7) hs ht ((W21_of m ρ c main_call0_v112 (by decide)).trans ((W20_of m ρ c _ (by decide)).trans h3))
    (W21_of m ρ c main_call0_v124_0 (by decide)) ((W22_arr m ρ c 4).trans (region10 (V21 m ρ) c))⟩
  · rw [W22_of m ρ c _ (by decide), W21_of m ρ c _ (by decide), W20_of m ρ c _ (by decide), W19_of m ρ c _ (by decide), hr]
  · rw [W22_of m ρ c _ (by decide), W21_of m ρ c _ (by decide), W20_of m ρ c _ (by decide), W19_of m ρ c _ (by decide), hc]

/-! ## Layer 5 -/

/-- The host operations before launch 11: the aggregate and the layer's weights. -/
theorem host11 : MsgHost W 5 (W (Proc.devRef .tc main_call0_v139)) (StableHlo.after hostOps11 W (Proc.devRef .tc main_call0_v143))
    (StableHlo.after hostOps11 W (Proc.devRef .tc main_call0_v145)) (StableHlo.after hostOps11 W (Proc.devRef .tc main_call0_v147))
    (StableHlo.after hostOps11 W (Proc.devRef .tc main_call0_v150)) := by
  refine ⟨?_, ?_, ?_, ?_⟩ <;> after_reads_simp
  · simp only [StableHlo.TRef.ofBuf_toBuf]; rfl
  · exact mat_slice _ 5 slices_S15x128x128_S1x128x128_5_0_0 _
  · exact mat_slice _ 5 slices_S15x128x128_S1x128x128_5_0_0 _
  · exact vec_slice _ 5 slices_S15x128_S1x128_5_0 _ _

/-- The host operations before launch 12: the scale and the shift. -/
theorem host12 : UpdHost W 5 (W (Proc.devRef .tc main_call0_v151_1)) (W (Proc.devRef .tc main_call0_v151_2))
    (StableHlo.after hostOps12 W (Proc.devRef .tc main_call0_v160)) (StableHlo.after hostOps12 W (Proc.devRef .tc main_call0_v165)) := by
  have e := fun A => vec_slice A 5 slices_S15x128_S1x128_5_0 shapeCasts_S1x128_S128 shapeCasts_S128_S1x128
  unfold UpdHost
  rw [← e, ← e]
  constructor <;> (after_reads_simp; rfl)

set_option maxHeartbeats 1000000 in
/-- Launch 11 leaves the messages, their mean and their mean square. -/
theorem region11 :
    let M := lm (V c main_call0_v139) (V c main_call0_v143) (V c main_call0_v145) (V c main_call0_v147) (V c main_call0_v150)
    (dat11 V c).arrAt 5 cfg11.N = M ∧ (dat11 V c).arrAt 6 cfg11.N = lmean M ∧ (dat11 V c).arrAt 7 cfg11.N = lmean (sq M) :=
  messages (msgIn V (V c main_call0_v139) (V c main_call0_v143) (V c main_call0_v151_0) (V c main_call0_v145)
    (V c main_call0_v147) (V c main_call0_v150) (V c main_call0_v151_1) (V c main_call0_v151_2)) c (outsAt11 V c)
    (fun t h0 => (outsAt11_A V c t h0 (by omega)).trans (by refine Prod.ext ?_ (Prod.ext ?_ ?_) <;> frame_out <;> rfl))
    (fun t h0 h1 => (outsAt11_B V c t h0 h1).trans (by refine Prod.ext ?_ (Prod.ext ?_ ?_) <;> frame_out <;> rfl))
    (fun t h0 h1 => (outsAt11_C V c t h0 h1).trans (by refine Prod.ext ?_ (Prod.ext ?_ ?_) <;> frame_out <;> rfl))
    (X := (dat11 V c).arrAt 5) (Y := (dat11 V c).arrAt 6) (Z := (dat11 V c).arrAt 7)
    ⟨rfl, fun n => ((writes_arrAt c (dat11 V c) 5).2 n).trans (by rfl)⟩
    ⟨rfl, fun n => ((writes_arrAt c (dat11 V c) 6).2 n).trans (by rfl)⟩
    ⟨rfl, fun n => ((writes_arrAt c (dat11 V c) 7).2 n).trans (by rfl)⟩ N_11

/-- Launch 12 leaves the updated features. -/
theorem region12 : (dat12 V c).arrAt 4 cfg12.N
    = la (V c main_call0_v139) (V c main_call0_v151_0) (V c main_call0_v160) (V c main_call0_v165) :=
  updates (updIn V (V c main_call0_v139) (V c main_call0_v151_0) (V c main_call0_v166) (V c main_call0_v160) (V c main_call0_v165)) c
    (X := (dat12 V c).arrAt 4)
    ⟨rfl, fun n => ((writes_arrAt c (dat12 V c) 4).2 n).trans (by rfl)⟩ N_12

/-- Layer 5, from the contents before it to those after it. -/
theorem layer5 {R C : Ends} {H : Nodes} (hr : W22 m ρ c (Proc.devRef .tc main_call0_v1) = R)
    (hc : W22 m ρ c (Proc.devRef .tc main_call0_v3) = C) (hh : W22 m ρ c (Proc.devRef .tc main_call0_v139) = H) :
    W26 m ρ c (Proc.devRef .tc main_call0_v1) = R ∧ W26 m ρ c (Proc.devRef .tc main_call0_v3) = C
    ∧ W26 m ρ c (Proc.devRef .tc main_call0_v166) = layerAt c m 5 R C H := by
  obtain ⟨ha, hn, hw, hb⟩ := host11 (W22 m ρ c)
  obtain ⟨hs, ht⟩ := host12 (W24 m ρ c)
  obtain ⟨e5, e6, e7⟩ := region11 (V23 m ρ) c
  rw [W22_args m ρ c _ (by decide)] at hn hw hb
  rw [W24_args m ρ c main_arg6 (by decide)] at hs ht
  rw [W24_args m ρ c main_arg7 (by decide)] at ht
  rw [hr, hc, hh] at ha
  have h3 := (W23_of m ρ c main_call0_v139 (by decide)).trans hh
  refine ⟨?_, ?_, layer_step _ _ _ _ _ 5 h3 ha hn hw hb ((W24_arr m ρ c 5).trans e5) ((W24_arr m ρ c 6).trans e6)
    ((W24_arr m ρ c 7).trans e7) hs ht ((W25_of m ρ c main_call0_v139 (by decide)).trans ((W24_of m ρ c _ (by decide)).trans h3))
    (W25_of m ρ c main_call0_v151_0 (by decide)) ((W26_arr m ρ c 4).trans (region12 (V25 m ρ) c))⟩
  · rw [W26_of m ρ c _ (by decide), W25_of m ρ c _ (by decide), W24_of m ρ c _ (by decide), W23_of m ρ c _ (by decide), hr]
  · rw [W26_of m ρ c _ (by decide), W25_of m ρ c _ (by decide), W24_of m ρ c _ (by decide), W23_of m ρ c _ (by decide), hc]

end Cert.KernelIdeal.Value

end
-- ==== Proof.Layers2.lean ====
module

public import proofs.«01_k».proof.Proof.Launches

/-
  Layers 6 to 8 of the kernel: the facts about a layer's launches and host operations, applied to each layer's buffers,
  and the layer from its entry to its exit.
-/

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)

variable (W : Valuation τ sig (Elt Ideal))
variable (V : (c : Dev nD) → (b : Ref sig .tc) → Buf (Elt Ideal) ((c : Thread nD τ).loc b)) (c : Dev nD)
variable (m : (ℓ : Loc nD τ sig) → Buf (Elt Ideal) ℓ) (ρ : Dev nD → PrngReg)

/-! ## Layer 6 -/

/-- The host operations before launch 13: the aggregate and the layer's weights. -/
theorem host13 : MsgHost W 6 (W (Proc.devRef .tc main_call0_v166)) (StableHlo.after hostOps13 W (Proc.devRef .tc main_call0_v170))
    (StableHlo.after hostOps13 W (Proc.devRef .tc main_call0_v172)) (StableHlo.after hostOps13 W (Proc.devRef .tc main_call0_v174))
    (StableHlo.after hostOps13 W (Proc.devRef .tc main_call0_v177)) := by
  refine ⟨?_, ?_, ?_, ?_⟩ <;> after_reads_simp
  · simp only [StableHlo.TRef.ofBuf_toBuf]; rfl
  · exact mat_slice _ 6 slices_S15x128x128_S1x128x128_6_0_0 _
  · exact mat_slice _ 6 slices_S15x128x128_S1x128x128_6_0_0 _
  · exact vec_slice _ 6 slices_S15x128_S1x128_6_0 _ _

/-- The host operations before launch 14: the scale and the shift. -/
theorem host14 : UpdHost W 6 (W (Proc.devRef .tc main_call0_v178_1)) (W (Proc.devRef .tc main_call0_v178_2))
    (StableHlo.after hostOps14 W (Proc.devRef .tc main_call0_v187)) (StableHlo.after hostOps14 W (Proc.devRef .tc main_call0_v192)) := by
  have e := fun A => vec_slice A 6 slices_S15x128_S1x128_6_0 shapeCasts_S1x128_S128 shapeCasts_S128_S1x128
  unfold UpdHost
  rw [← e, ← e]
  constructor <;> (after_reads_simp; rfl)

set_option maxHeartbeats 1000000 in
/-- Launch 13 leaves the messages, their mean and their mean square. -/
theorem region13 :
    let M := lm (V c main_call0_v166) (V c main_call0_v170) (V c main_call0_v172) (V c main_call0_v174) (V c main_call0_v177)
    (dat13 V c).arrAt 5 cfg13.N = M ∧ (dat13 V c).arrAt 6 cfg13.N = lmean M ∧ (dat13 V c).arrAt 7 cfg13.N = lmean (sq M) :=
  messages (msgIn V (V c main_call0_v166) (V c main_call0_v170) (V c main_call0_v178_0) (V c main_call0_v172)
    (V c main_call0_v174) (V c main_call0_v177) (V c main_call0_v178_1) (V c main_call0_v178_2)) c (outsAt13 V c)
    (fun t h0 => (outsAt13_A V c t h0 (by omega)).trans (by refine Prod.ext ?_ (Prod.ext ?_ ?_) <;> frame_out <;> rfl))
    (fun t h0 h1 => (outsAt13_B V c t h0 h1).trans (by refine Prod.ext ?_ (Prod.ext ?_ ?_) <;> frame_out <;> rfl))
    (fun t h0 h1 => (outsAt13_C V c t h0 h1).trans (by refine Prod.ext ?_ (Prod.ext ?_ ?_) <;> frame_out <;> rfl))
    (X := (dat13 V c).arrAt 5) (Y := (dat13 V c).arrAt 6) (Z := (dat13 V c).arrAt 7)
    ⟨rfl, fun n => ((writes_arrAt c (dat13 V c) 5).2 n).trans (by rfl)⟩
    ⟨rfl, fun n => ((writes_arrAt c (dat13 V c) 6).2 n).trans (by rfl)⟩
    ⟨rfl, fun n => ((writes_arrAt c (dat13 V c) 7).2 n).trans (by rfl)⟩ N_13

/-- Launch 14 leaves the updated features. -/
theorem region14 : (dat14 V c).arrAt 4 cfg14.N
    = la (V c main_call0_v166) (V c main_call0_v178_0) (V c main_call0_v187) (V c main_call0_v192) :=
  updates (updIn V (V c main_call0_v166) (V c main_call0_v178_0) (V c main_call0_v193) (V c main_call0_v187) (V c main_call0_v192)) c
    (X := (dat14 V c).arrAt 4)
    ⟨rfl, fun n => ((writes_arrAt c (dat14 V c) 4).2 n).trans (by rfl)⟩ N_14

/-- Layer 6, from the contents before it to those after it. -/
theorem layer6 {R C : Ends} {H : Nodes} (hr : W26 m ρ c (Proc.devRef .tc main_call0_v1) = R)
    (hc : W26 m ρ c (Proc.devRef .tc main_call0_v3) = C) (hh : W26 m ρ c (Proc.devRef .tc main_call0_v166) = H) :
    W30 m ρ c (Proc.devRef .tc main_call0_v1) = R ∧ W30 m ρ c (Proc.devRef .tc main_call0_v3) = C
    ∧ W30 m ρ c (Proc.devRef .tc main_call0_v193) = layerAt c m 6 R C H := by
  obtain ⟨ha, hn, hw, hb⟩ := host13 (W26 m ρ c)
  obtain ⟨hs, ht⟩ := host14 (W28 m ρ c)
  obtain ⟨e5, e6, e7⟩ := region13 (V27 m ρ) c
  rw [W26_args m ρ c _ (by decide)] at hn hw hb
  rw [W28_args m ρ c main_arg6 (by decide)] at hs ht
  rw [W28_args m ρ c main_arg7 (by decide)] at ht
  rw [hr, hc, hh] at ha
  have h3 := (W27_of m ρ c main_call0_v166 (by decide)).trans hh
  refine ⟨?_, ?_, layer_step _ _ _ _ _ 6 h3 ha hn hw hb ((W28_arr m ρ c 5).trans e5) ((W28_arr m ρ c 6).trans e6)
    ((W28_arr m ρ c 7).trans e7) hs ht ((W29_of m ρ c main_call0_v166 (by decide)).trans ((W28_of m ρ c _ (by decide)).trans h3))
    (W29_of m ρ c main_call0_v178_0 (by decide)) ((W30_arr m ρ c 4).trans (region14 (V29 m ρ) c))⟩
  · rw [W30_of m ρ c _ (by decide), W29_of m ρ c _ (by decide), W28_of m ρ c _ (by decide), W27_of m ρ c _ (by decide), hr]
  · rw [W30_of m ρ c _ (by decide), W29_of m ρ c _ (by decide), W28_of m ρ c _ (by decide), W27_of m ρ c _ (by decide), hc]

/-! ## Layer 7 -/

/-- The host operations before launch 15: the aggregate and the layer's weights. -/
theorem host15 : MsgHost W 7 (W (Proc.devRef .tc main_call0_v193)) (StableHlo.after hostOps15 W (Proc.devRef .tc main_call0_v197))
    (StableHlo.after hostOps15 W (Proc.devRef .tc main_call0_v199)) (StableHlo.after hostOps15 W (Proc.devRef .tc main_call0_v201))
    (StableHlo.after hostOps15 W (Proc.devRef .tc main_call0_v204)) := by
  refine ⟨?_, ?_, ?_, ?_⟩ <;> after_reads_simp
  · simp only [StableHlo.TRef.ofBuf_toBuf]; rfl
  · exact mat_slice _ 7 slices_S15x128x128_S1x128x128_7_0_0 _
  · exact mat_slice _ 7 slices_S15x128x128_S1x128x128_7_0_0 _
  · exact vec_slice _ 7 slices_S15x128_S1x128_7_0 _ _

/-- The host operations before launch 16: the scale and the shift. -/
theorem host16 : UpdHost W 7 (W (Proc.devRef .tc main_call0_v205_1)) (W (Proc.devRef .tc main_call0_v205_2))
    (StableHlo.after hostOps16 W (Proc.devRef .tc main_call0_v214)) (StableHlo.after hostOps16 W (Proc.devRef .tc main_call0_v219)) := by
  have e := fun A => vec_slice A 7 slices_S15x128_S1x128_7_0 shapeCasts_S1x128_S128 shapeCasts_S128_S1x128
  unfold UpdHost
  rw [← e, ← e]
  constructor <;> (after_reads_simp; rfl)

set_option maxHeartbeats 1000000 in
/-- Launch 15 leaves the messages, their mean and their mean square. -/
theorem region15 :
    let M := lm (V c main_call0_v193) (V c main_call0_v197) (V c main_call0_v199) (V c main_call0_v201) (V c main_call0_v204)
    (dat15 V c).arrAt 5 cfg15.N = M ∧ (dat15 V c).arrAt 6 cfg15.N = lmean M ∧ (dat15 V c).arrAt 7 cfg15.N = lmean (sq M) :=
  messages (msgIn V (V c main_call0_v193) (V c main_call0_v197) (V c main_call0_v205_0) (V c main_call0_v199)
    (V c main_call0_v201) (V c main_call0_v204) (V c main_call0_v205_1) (V c main_call0_v205_2)) c (outsAt15 V c)
    (fun t h0 => (outsAt15_A V c t h0 (by omega)).trans (by refine Prod.ext ?_ (Prod.ext ?_ ?_) <;> frame_out <;> rfl))
    (fun t h0 h1 => (outsAt15_B V c t h0 h1).trans (by refine Prod.ext ?_ (Prod.ext ?_ ?_) <;> frame_out <;> rfl))
    (fun t h0 h1 => (outsAt15_C V c t h0 h1).trans (by refine Prod.ext ?_ (Prod.ext ?_ ?_) <;> frame_out <;> rfl))
    (X := (dat15 V c).arrAt 5) (Y := (dat15 V c).arrAt 6) (Z := (dat15 V c).arrAt 7)
    ⟨rfl, fun n => ((writes_arrAt c (dat15 V c) 5).2 n).trans (by rfl)⟩
    ⟨rfl, fun n => ((writes_arrAt c (dat15 V c) 6).2 n).trans (by rfl)⟩
    ⟨rfl, fun n => ((writes_arrAt c (dat15 V c) 7).2 n).trans (by rfl)⟩ N_15

/-- Launch 16 leaves the updated features. -/
theorem region16 : (dat16 V c).arrAt 4 cfg16.N
    = la (V c main_call0_v193) (V c main_call0_v205_0) (V c main_call0_v214) (V c main_call0_v219) :=
  updates (updIn V (V c main_call0_v193) (V c main_call0_v205_0) (V c main_call0_v220) (V c main_call0_v214) (V c main_call0_v219)) c
    (X := (dat16 V c).arrAt 4)
    ⟨rfl, fun n => ((writes_arrAt c (dat16 V c) 4).2 n).trans (by rfl)⟩ N_16

/-- Layer 7, from the contents before it to those after it. -/
theorem layer7 {R C : Ends} {H : Nodes} (hr : W30 m ρ c (Proc.devRef .tc main_call0_v1) = R)
    (hc : W30 m ρ c (Proc.devRef .tc main_call0_v3) = C) (hh : W30 m ρ c (Proc.devRef .tc main_call0_v193) = H) :
    W34 m ρ c (Proc.devRef .tc main_call0_v1) = R ∧ W34 m ρ c (Proc.devRef .tc main_call0_v3) = C
    ∧ W34 m ρ c (Proc.devRef .tc main_call0_v220) = layerAt c m 7 R C H := by
  obtain ⟨ha, hn, hw, hb⟩ := host15 (W30 m ρ c)
  obtain ⟨hs, ht⟩ := host16 (W32 m ρ c)
  obtain ⟨e5, e6, e7⟩ := region15 (V31 m ρ) c
  rw [W30_args m ρ c _ (by decide)] at hn hw hb
  rw [W32_args m ρ c main_arg6 (by decide)] at hs ht
  rw [W32_args m ρ c main_arg7 (by decide)] at ht
  rw [hr, hc, hh] at ha
  have h3 := (W31_of m ρ c main_call0_v193 (by decide)).trans hh
  refine ⟨?_, ?_, layer_step _ _ _ _ _ 7 h3 ha hn hw hb ((W32_arr m ρ c 5).trans e5) ((W32_arr m ρ c 6).trans e6)
    ((W32_arr m ρ c 7).trans e7) hs ht ((W33_of m ρ c main_call0_v193 (by decide)).trans ((W32_of m ρ c _ (by decide)).trans h3))
    (W33_of m ρ c main_call0_v205_0 (by decide)) ((W34_arr m ρ c 4).trans (region16 (V33 m ρ) c))⟩
  · rw [W34_of m ρ c _ (by decide), W33_of m ρ c _ (by decide), W32_of m ρ c _ (by decide), W31_of m ρ c _ (by decide), hr]
  · rw [W34_of m ρ c _ (by decide), W33_of m ρ c _ (by decide), W32_of m ρ c _ (by decide), W31_of m ρ c _ (by decide), hc]

/-! ## Layer 8 -/

/-- The host operations before launch 17: the aggregate and the layer's weights. -/
theorem host17 : MsgHost W 8 (W (Proc.devRef .tc main_call0_v220)) (StableHlo.after hostOps17 W (Proc.devRef .tc main_call0_v224))
    (StableHlo.after hostOps17 W (Proc.devRef .tc main_call0_v226)) (StableHlo.after hostOps17 W (Proc.devRef .tc main_call0_v228))
    (StableHlo.after hostOps17 W (Proc.devRef .tc main_call0_v231)) := by
  refine ⟨?_, ?_, ?_, ?_⟩ <;> after_reads_simp
  · simp only [StableHlo.TRef.ofBuf_toBuf]; rfl
  · exact mat_slice _ 8 slices_S15x128x128_S1x128x128_8_0_0 _
  · exact mat_slice _ 8 slices_S15x128x128_S1x128x128_8_0_0 _
  · exact vec_slice _ 8 slices_S15x128_S1x128_8_0 _ _

/-- The host operations before launch 18: the scale and the shift. -/
theorem host18 : UpdHost W 8 (W (Proc.devRef .tc main_call0_v232_1)) (W (Proc.devRef .tc main_call0_v232_2))
    (StableHlo.after hostOps18 W (Proc.devRef .tc main_call0_v241)) (StableHlo.after hostOps18 W (Proc.devRef .tc main_call0_v246)) := by
  have e := fun A => vec_slice A 8 slices_S15x128_S1x128_8_0 shapeCasts_S1x128_S128 shapeCasts_S128_S1x128
  unfold UpdHost
  rw [← e, ← e]
  constructor <;> (after_reads_simp; rfl)

set_option maxHeartbeats 1000000 in
/-- Launch 17 leaves the messages, their mean and their mean square. -/
theorem region17 :
    let M := lm (V c main_call0_v220) (V c main_call0_v224) (V c main_call0_v226) (V c main_call0_v228) (V c main_call0_v231)
    (dat17 V c).arrAt 5 cfg17.N = M ∧ (dat17 V c).arrAt 6 cfg17.N = lmean M ∧ (dat17 V c).arrAt 7 cfg17.N = lmean (sq M) :=
  messages (msgIn V (V c main_call0_v220) (V c main_call0_v224) (V c main_call0_v232_0) (V c main_call0_v226)
    (V c main_call0_v228) (V c main_call0_v231) (V c main_call0_v232_1) (V c main_call0_v232_2)) c (outsAt17 V c)
    (fun t h0 => (outsAt17_A V c t h0 (by omega)).trans (by refine Prod.ext ?_ (Prod.ext ?_ ?_) <;> frame_out <;> rfl))
    (fun t h0 h1 => (outsAt17_B V c t h0 h1).trans (by refine Prod.ext ?_ (Prod.ext ?_ ?_) <;> frame_out <;> rfl))
    (fun t h0 h1 => (outsAt17_C V c t h0 h1).trans (by refine Prod.ext ?_ (Prod.ext ?_ ?_) <;> frame_out <;> rfl))
    (X := (dat17 V c).arrAt 5) (Y := (dat17 V c).arrAt 6) (Z := (dat17 V c).arrAt 7)
    ⟨rfl, fun n => ((writes_arrAt c (dat17 V c) 5).2 n).trans (by rfl)⟩
    ⟨rfl, fun n => ((writes_arrAt c (dat17 V c) 6).2 n).trans (by rfl)⟩
    ⟨rfl, fun n => ((writes_arrAt c (dat17 V c) 7).2 n).trans (by rfl)⟩ N_17

/-- Launch 18 leaves the updated features. -/
theorem region18 : (dat18 V c).arrAt 4 cfg18.N
    = la (V c main_call0_v220) (V c main_call0_v232_0) (V c main_call0_v241) (V c main_call0_v246) :=
  updates (updIn V (V c main_call0_v220) (V c main_call0_v232_0) (V c main_call0_v247) (V c main_call0_v241) (V c main_call0_v246)) c
    (X := (dat18 V c).arrAt 4)
    ⟨rfl, fun n => ((writes_arrAt c (dat18 V c) 4).2 n).trans (by rfl)⟩ N_18

/-- Layer 8, from the contents before it to those after it. -/
theorem layer8 {R C : Ends} {H : Nodes} (hr : W34 m ρ c (Proc.devRef .tc main_call0_v1) = R)
    (hc : W34 m ρ c (Proc.devRef .tc main_call0_v3) = C) (hh : W34 m ρ c (Proc.devRef .tc main_call0_v220) = H) :
    W38 m ρ c (Proc.devRef .tc main_call0_v1) = R ∧ W38 m ρ c (Proc.devRef .tc main_call0_v3) = C
    ∧ W38 m ρ c (Proc.devRef .tc main_call0_v247) = layerAt c m 8 R C H := by
  obtain ⟨ha, hn, hw, hb⟩ := host17 (W34 m ρ c)
  obtain ⟨hs, ht⟩ := host18 (W36 m ρ c)
  obtain ⟨e5, e6, e7⟩ := region17 (V35 m ρ) c
  rw [W34_args m ρ c _ (by decide)] at hn hw hb
  rw [W36_args m ρ c main_arg6 (by decide)] at hs ht
  rw [W36_args m ρ c main_arg7 (by decide)] at ht
  rw [hr, hc, hh] at ha
  have h3 := (W35_of m ρ c main_call0_v220 (by decide)).trans hh
  refine ⟨?_, ?_, layer_step _ _ _ _ _ 8 h3 ha hn hw hb ((W36_arr m ρ c 5).trans e5) ((W36_arr m ρ c 6).trans e6)
    ((W36_arr m ρ c 7).trans e7) hs ht ((W37_of m ρ c main_call0_v220 (by decide)).trans ((W36_of m ρ c _ (by decide)).trans h3))
    (W37_of m ρ c main_call0_v232_0 (by decide)) ((W38_arr m ρ c 4).trans (region18 (V37 m ρ) c))⟩
  · rw [W38_of m ρ c _ (by decide), W37_of m ρ c _ (by decide), W36_of m ρ c _ (by decide), W35_of m ρ c _ (by decide), hr]
  · rw [W38_of m ρ c _ (by decide), W37_of m ρ c _ (by decide), W36_of m ρ c _ (by decide), W35_of m ρ c _ (by decide), hc]

end Cert.KernelIdeal.Value

end
-- ==== Proof.Layers3.lean ====
module

public import proofs.«01_k».proof.Proof.Launches

/-
  Layers 9 to 11 of the kernel: the facts about a layer's launches and host operations, applied to each layer's buffers,
  and the layer from its entry to its exit.
-/

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)

variable (W : Valuation τ sig (Elt Ideal))
variable (V : (c : Dev nD) → (b : Ref sig .tc) → Buf (Elt Ideal) ((c : Thread nD τ).loc b)) (c : Dev nD)
variable (m : (ℓ : Loc nD τ sig) → Buf (Elt Ideal) ℓ) (ρ : Dev nD → PrngReg)

/-! ## Layer 9 -/

/-- The host operations before launch 19: the aggregate and the layer's weights. -/
theorem host19 : MsgHost W 9 (W (Proc.devRef .tc main_call0_v247)) (StableHlo.after hostOps19 W (Proc.devRef .tc main_call0_v251))
    (StableHlo.after hostOps19 W (Proc.devRef .tc main_call0_v253)) (StableHlo.after hostOps19 W (Proc.devRef .tc main_call0_v255))
    (StableHlo.after hostOps19 W (Proc.devRef .tc main_call0_v258)) := by
  refine ⟨?_, ?_, ?_, ?_⟩ <;> after_reads_simp
  · simp only [StableHlo.TRef.ofBuf_toBuf]; rfl
  · exact mat_slice _ 9 slices_S15x128x128_S1x128x128_9_0_0 _
  · exact mat_slice _ 9 slices_S15x128x128_S1x128x128_9_0_0 _
  · exact vec_slice _ 9 slices_S15x128_S1x128_9_0 _ _

/-- The host operations before launch 20: the scale and the shift. -/
theorem host20 : UpdHost W 9 (W (Proc.devRef .tc main_call0_v259_1)) (W (Proc.devRef .tc main_call0_v259_2))
    (StableHlo.after hostOps20 W (Proc.devRef .tc main_call0_v268)) (StableHlo.after hostOps20 W (Proc.devRef .tc main_call0_v273)) := by
  have e := fun A => vec_slice A 9 slices_S15x128_S1x128_9_0 shapeCasts_S1x128_S128 shapeCasts_S128_S1x128
  unfold UpdHost
  rw [← e, ← e]
  constructor <;> (after_reads_simp; rfl)

set_option maxHeartbeats 1000000 in
/-- Launch 19 leaves the messages, their mean and their mean square. -/
theorem region19 :
    let M := lm (V c main_call0_v247) (V c main_call0_v251) (V c main_call0_v253) (V c main_call0_v255) (V c main_call0_v258)
    (dat19 V c).arrAt 5 cfg19.N = M ∧ (dat19 V c).arrAt 6 cfg19.N = lmean M ∧ (dat19 V c).arrAt 7 cfg19.N = lmean (sq M) :=
  messages (msgIn V (V c main_call0_v247) (V c main_call0_v251) (V c main_call0_v259_0) (V c main_call0_v253)
    (V c main_call0_v255) (V c main_call0_v258) (V c main_call0_v259_1) (V c main_call0_v259_2)) c (outsAt19 V c)
    (fun t h0 => (outsAt19_A V c t h0 (by omega)).trans (by refine Prod.ext ?_ (Prod.ext ?_ ?_) <;> frame_out <;> rfl))
    (fun t h0 h1 => (outsAt19_B V c t h0 h1).trans (by refine Prod.ext ?_ (Prod.ext ?_ ?_) <;> frame_out <;> rfl))
    (fun t h0 h1 => (outsAt19_C V c t h0 h1).trans (by refine Prod.ext ?_ (Prod.ext ?_ ?_) <;> frame_out <;> rfl))
    (X := (dat19 V c).arrAt 5) (Y := (dat19 V c).arrAt 6) (Z := (dat19 V c).arrAt 7)
    ⟨rfl, fun n => ((writes_arrAt c (dat19 V c) 5).2 n).trans (by rfl)⟩
    ⟨rfl, fun n => ((writes_arrAt c (dat19 V c) 6).2 n).trans (by rfl)⟩
    ⟨rfl, fun n => ((writes_arrAt c (dat19 V c) 7).2 n).trans (by rfl)⟩ N_19

/-- Launch 20 leaves the updated features. -/
theorem region20 : (dat20 V c).arrAt 4 cfg20.N
    = la (V c main_call0_v247) (V c main_call0_v259_0) (V c main_call0_v268) (V c main_call0_v273) :=
  updates (updIn V (V c main_call0_v247) (V c main_call0_v259_0) (V c main_call0_v274) (V c main_call0_v268) (V c main_call0_v273)) c
    (X := (dat20 V c).arrAt 4)
    ⟨rfl, fun n => ((writes_arrAt c (dat20 V c) 4).2 n).trans (by rfl)⟩ N_20

/-- Layer 9, from the contents before it to those after it. -/
theorem layer9 {R C : Ends} {H : Nodes} (hr : W38 m ρ c (Proc.devRef .tc main_call0_v1) = R)
    (hc : W38 m ρ c (Proc.devRef .tc main_call0_v3) = C) (hh : W38 m ρ c (Proc.devRef .tc main_call0_v247) = H) :
    W42 m ρ c (Proc.devRef .tc main_call0_v1) = R ∧ W42 m ρ c (Proc.devRef .tc main_call0_v3) = C
    ∧ W42 m ρ c (Proc.devRef .tc main_call0_v274) = layerAt c m 9 R C H := by
  obtain ⟨ha, hn, hw, hb⟩ := host19 (W38 m ρ c)
  obtain ⟨hs, ht⟩ := host20 (W40 m ρ c)
  obtain ⟨e5, e6, e7⟩ := region19 (V39 m ρ) c
  rw [W38_args m ρ c _ (by decide)] at hn hw hb
  rw [W40_args m ρ c main_arg6 (by decide)] at hs ht
  rw [W40_args m ρ c main_arg7 (by decide)] at ht
  rw [hr, hc, hh] at ha
  have h3 := (W39_of m ρ c main_call0_v247 (by decide)).trans hh
  refine ⟨?_, ?_, layer_step _ _ _ _ _ 9 h3 ha hn hw hb ((W40_arr m ρ c 5).trans e5) ((W40_arr m ρ c 6).trans e6)
    ((W40_arr m ρ c 7).trans e7) hs ht ((W41_of m ρ c main_call0_v247 (by decide)).trans ((W40_of m ρ c _ (by decide)).trans h3))
    (W41_of m ρ c main_call0_v259_0 (by decide)) ((W42_arr m ρ c 4).trans (region20 (V41 m ρ) c))⟩
  · rw [W42_of m ρ c _ (by decide), W41_of m ρ c _ (by decide), W40_of m ρ c _ (by decide), W39_of m ρ c _ (by decide), hr]
  · rw [W42_of m ρ c _ (by decide), W41_of m ρ c _ (by decide), W40_of m ρ c _ (by decide), W39_of m ρ c _ (by decide), hc]

/-! ## Layer 10 -/

/-- The host operations before launch 21: the aggregate and the layer's weights. -/
theorem host21 : MsgHost W 10 (W (Proc.devRef .tc main_call0_v274)) (StableHlo.after hostOps21 W (Proc.devRef .tc main_call0_v278))
    (StableHlo.after hostOps21 W (Proc.devRef .tc main_call0_v280)) (StableHlo.after hostOps21 W (Proc.devRef .tc main_call0_v282))
    (StableHlo.after hostOps21 W (Proc.devRef .tc main_call0_v285)) := by
  refine ⟨?_, ?_, ?_, ?_⟩ <;> after_reads_simp
  · simp only [StableHlo.TRef.ofBuf_toBuf]; rfl
  · exact mat_slice _ 10 slices_S15x128x128_S1x128x128_10_0_0 _
  · exact mat_slice _ 10 slices_S15x128x128_S1x128x128_10_0_0 _
  · exact vec_slice _ 10 slices_S15x128_S1x128_10_0 _ _

/-- The host operations before launch 22: the scale and the shift. -/
theorem host22 : UpdHost W 10 (W (Proc.devRef .tc main_call0_v286_1)) (W (Proc.devRef .tc main_call0_v286_2))
    (StableHlo.after hostOps22 W (Proc.devRef .tc main_call0_v295)) (StableHlo.after hostOps22 W (Proc.devRef .tc main_call0_v300)) := by
  have e := fun A => vec_slice A 10 slices_S15x128_S1x128_10_0 shapeCasts_S1x128_S128 shapeCasts_S128_S1x128
  unfold UpdHost
  rw [← e, ← e]
  constructor <;> (after_reads_simp; rfl)

set_option maxHeartbeats 1000000 in
/-- Launch 21 leaves the messages, their mean and their mean square. -/
theorem region21 :
    let M := lm (V c main_call0_v274) (V c main_call0_v278) (V c main_call0_v280) (V c main_call0_v282) (V c main_call0_v285)
    (dat21 V c).arrAt 5 cfg21.N = M ∧ (dat21 V c).arrAt 6 cfg21.N = lmean M ∧ (dat21 V c).arrAt 7 cfg21.N = lmean (sq M) :=
  messages (msgIn V (V c main_call0_v274) (V c main_call0_v278) (V c main_call0_v286_0) (V c main_call0_v280)
    (V c main_call0_v282) (V c main_call0_v285) (V c main_call0_v286_1) (V c main_call0_v286_2)) c (outsAt21 V c)
    (fun t h0 => (outsAt21_A V c t h0 (by omega)).trans (by refine Prod.ext ?_ (Prod.ext ?_ ?_) <;> frame_out <;> rfl))
    (fun t h0 h1 => (outsAt21_B V c t h0 h1).trans (by refine Prod.ext ?_ (Prod.ext ?_ ?_) <;> frame_out <;> rfl))
    (fun t h0 h1 => (outsAt21_C V c t h0 h1).trans (by refine Prod.ext ?_ (Prod.ext ?_ ?_) <;> frame_out <;> rfl))
    (X := (dat21 V c).arrAt 5) (Y := (dat21 V c).arrAt 6) (Z := (dat21 V c).arrAt 7)
    ⟨rfl, fun n => ((writes_arrAt c (dat21 V c) 5).2 n).trans (by rfl)⟩
    ⟨rfl, fun n => ((writes_arrAt c (dat21 V c) 6).2 n).trans (by rfl)⟩
    ⟨rfl, fun n => ((writes_arrAt c (dat21 V c) 7).2 n).trans (by rfl)⟩ N_21

/-- Launch 22 leaves the updated features. -/
theorem region22 : (dat22 V c).arrAt 4 cfg22.N
    = la (V c main_call0_v274) (V c main_call0_v286_0) (V c main_call0_v295) (V c main_call0_v300) :=
  updates (updIn V (V c main_call0_v274) (V c main_call0_v286_0) (V c main_call0_v301) (V c main_call0_v295) (V c main_call0_v300)) c
    (X := (dat22 V c).arrAt 4)
    ⟨rfl, fun n => ((writes_arrAt c (dat22 V c) 4).2 n).trans (by rfl)⟩ N_22

/-- Layer 10, from the contents before it to those after it. -/
theorem layer10 {R C : Ends} {H : Nodes} (hr : W42 m ρ c (Proc.devRef .tc main_call0_v1) = R)
    (hc : W42 m ρ c (Proc.devRef .tc main_call0_v3) = C) (hh : W42 m ρ c (Proc.devRef .tc main_call0_v274) = H) :
    W46 m ρ c (Proc.devRef .tc main_call0_v1) = R ∧ W46 m ρ c (Proc.devRef .tc main_call0_v3) = C
    ∧ W46 m ρ c (Proc.devRef .tc main_call0_v301) = layerAt c m 10 R C H := by
  obtain ⟨ha, hn, hw, hb⟩ := host21 (W42 m ρ c)
  obtain ⟨hs, ht⟩ := host22 (W44 m ρ c)
  obtain ⟨e5, e6, e7⟩ := region21 (V43 m ρ) c
  rw [W42_args m ρ c _ (by decide)] at hn hw hb
  rw [W44_args m ρ c main_arg6 (by decide)] at hs ht
  rw [W44_args m ρ c main_arg7 (by decide)] at ht
  rw [hr, hc, hh] at ha
  have h3 := (W43_of m ρ c main_call0_v274 (by decide)).trans hh
  refine ⟨?_, ?_, layer_step _ _ _ _ _ 10 h3 ha hn hw hb ((W44_arr m ρ c 5).trans e5) ((W44_arr m ρ c 6).trans e6)
    ((W44_arr m ρ c 7).trans e7) hs ht ((W45_of m ρ c main_call0_v274 (by decide)).trans ((W44_of m ρ c _ (by decide)).trans h3))
    (W45_of m ρ c main_call0_v286_0 (by decide)) ((W46_arr m ρ c 4).trans (region22 (V45 m ρ) c))⟩
  · rw [W46_of m ρ c _ (by decide), W45_of m ρ c _ (by decide), W44_of m ρ c _ (by decide), W43_of m ρ c _ (by decide), hr]
  · rw [W46_of m ρ c _ (by decide), W45_of m ρ c _ (by decide), W44_of m ρ c _ (by decide), W43_of m ρ c _ (by decide), hc]

/-! ## Layer 11 -/

/-- The host operations before launch 23: the aggregate and the layer's weights. -/
theorem host23 : MsgHost W 11 (W (Proc.devRef .tc main_call0_v301)) (StableHlo.after hostOps23 W (Proc.devRef .tc main_call0_v305))
    (StableHlo.after hostOps23 W (Proc.devRef .tc main_call0_v307)) (StableHlo.after hostOps23 W (Proc.devRef .tc main_call0_v309))
    (StableHlo.after hostOps23 W (Proc.devRef .tc main_call0_v312)) := by
  refine ⟨?_, ?_, ?_, ?_⟩ <;> after_reads_simp
  · simp only [StableHlo.TRef.ofBuf_toBuf]; rfl
  · exact mat_slice _ 11 slices_S15x128x128_S1x128x128_11_0_0 _
  · exact mat_slice _ 11 slices_S15x128x128_S1x128x128_11_0_0 _
  · exact vec_slice _ 11 slices_S15x128_S1x128_11_0 _ _

/-- The host operations before launch 24: the scale and the shift. -/
theorem host24 : UpdHost W 11 (W (Proc.devRef .tc main_call0_v313_1)) (W (Proc.devRef .tc main_call0_v313_2))
    (StableHlo.after hostOps24 W (Proc.devRef .tc main_call0_v322)) (StableHlo.after hostOps24 W (Proc.devRef .tc main_call0_v327)) := by
  have e := fun A => vec_slice A 11 slices_S15x128_S1x128_11_0 shapeCasts_S1x128_S128 shapeCasts_S128_S1x128
  unfold UpdHost
  rw [← e, ← e]
  constructor <;> (after_reads_simp; rfl)

set_option maxHeartbeats 1000000 in
/-- Launch 23 leaves the messages, their mean and their mean square. -/
theorem region23 :
    let M := lm (V c main_call0_v301) (V c main_call0_v305) (V c main_call0_v307) (V c main_call0_v309) (V c main_call0_v312)
    (dat23 V c).arrAt 5 cfg23.N = M ∧ (dat23 V c).arrAt 6 cfg23.N = lmean M ∧ (dat23 V c).arrAt 7 cfg23.N = lmean (sq M) :=
  messages (msgIn V (V c main_call0_v301) (V c main_call0_v305) (V c main_call0_v313_0) (V c main_call0_v307)
    (V c main_call0_v309) (V c main_call0_v312) (V c main_call0_v313_1) (V c main_call0_v313_2)) c (outsAt23 V c)
    (fun t h0 => (outsAt23_A V c t h0 (by omega)).trans (by refine Prod.ext ?_ (Prod.ext ?_ ?_) <;> frame_out <;> rfl))
    (fun t h0 h1 => (outsAt23_B V c t h0 h1).trans (by refine Prod.ext ?_ (Prod.ext ?_ ?_) <;> frame_out <;> rfl))
    (fun t h0 h1 => (outsAt23_C V c t h0 h1).trans (by refine Prod.ext ?_ (Prod.ext ?_ ?_) <;> frame_out <;> rfl))
    (X := (dat23 V c).arrAt 5) (Y := (dat23 V c).arrAt 6) (Z := (dat23 V c).arrAt 7)
    ⟨rfl, fun n => ((writes_arrAt c (dat23 V c) 5).2 n).trans (by rfl)⟩
    ⟨rfl, fun n => ((writes_arrAt c (dat23 V c) 6).2 n).trans (by rfl)⟩
    ⟨rfl, fun n => ((writes_arrAt c (dat23 V c) 7).2 n).trans (by rfl)⟩ N_23

/-- Launch 24 leaves the updated features. -/
theorem region24 : (dat24 V c).arrAt 4 cfg24.N
    = la (V c main_call0_v301) (V c main_call0_v313_0) (V c main_call0_v322) (V c main_call0_v327) :=
  updates (updIn V (V c main_call0_v301) (V c main_call0_v313_0) (V c main_call0_v328) (V c main_call0_v322) (V c main_call0_v327)) c
    (X := (dat24 V c).arrAt 4)
    ⟨rfl, fun n => ((writes_arrAt c (dat24 V c) 4).2 n).trans (by rfl)⟩ N_24

/-- Layer 11, from the contents before it to those after it. -/
theorem layer11 {R C : Ends} {H : Nodes} (hr : W46 m ρ c (Proc.devRef .tc main_call0_v1) = R)
    (hc : W46 m ρ c (Proc.devRef .tc main_call0_v3) = C) (hh : W46 m ρ c (Proc.devRef .tc main_call0_v301) = H) :
    W50 m ρ c (Proc.devRef .tc main_call0_v1) = R ∧ W50 m ρ c (Proc.devRef .tc main_call0_v3) = C
    ∧ W50 m ρ c (Proc.devRef .tc main_call0_v328) = layerAt c m 11 R C H := by
  obtain ⟨ha, hn, hw, hb⟩ := host23 (W46 m ρ c)
  obtain ⟨hs, ht⟩ := host24 (W48 m ρ c)
  obtain ⟨e5, e6, e7⟩ := region23 (V47 m ρ) c
  rw [W46_args m ρ c _ (by decide)] at hn hw hb
  rw [W48_args m ρ c main_arg6 (by decide)] at hs ht
  rw [W48_args m ρ c main_arg7 (by decide)] at ht
  rw [hr, hc, hh] at ha
  have h3 := (W47_of m ρ c main_call0_v301 (by decide)).trans hh
  refine ⟨?_, ?_, layer_step _ _ _ _ _ 11 h3 ha hn hw hb ((W48_arr m ρ c 5).trans e5) ((W48_arr m ρ c 6).trans e6)
    ((W48_arr m ρ c 7).trans e7) hs ht ((W49_of m ρ c main_call0_v301 (by decide)).trans ((W48_of m ρ c _ (by decide)).trans h3))
    (W49_of m ρ c main_call0_v313_0 (by decide)) ((W50_arr m ρ c 4).trans (region24 (V49 m ρ) c))⟩
  · rw [W50_of m ρ c _ (by decide), W49_of m ρ c _ (by decide), W48_of m ρ c _ (by decide), W47_of m ρ c _ (by decide), hr]
  · rw [W50_of m ρ c _ (by decide), W49_of m ρ c _ (by decide), W48_of m ρ c _ (by decide), W47_of m ρ c _ (by decide), hc]

end Cert.KernelIdeal.Value

end
-- ==== Proof.Layers4.lean ====
module

public import proofs.«01_k».proof.Proof.Launches

/-
  Layers 12 to 14 of the kernel: the facts about a layer's launches and host operations, applied to each layer's buffers,
  and the layer from its entry to its exit.
-/

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)

variable (W : Valuation τ sig (Elt Ideal))
variable (V : (c : Dev nD) → (b : Ref sig .tc) → Buf (Elt Ideal) ((c : Thread nD τ).loc b)) (c : Dev nD)
variable (m : (ℓ : Loc nD τ sig) → Buf (Elt Ideal) ℓ) (ρ : Dev nD → PrngReg)

/-! ## Layer 12 -/

/-- The host operations before launch 25: the aggregate and the layer's weights. -/
theorem host25 : MsgHost W 12 (W (Proc.devRef .tc main_call0_v328)) (StableHlo.after hostOps25 W (Proc.devRef .tc main_call0_v332))
    (StableHlo.after hostOps25 W (Proc.devRef .tc main_call0_v334)) (StableHlo.after hostOps25 W (Proc.devRef .tc main_call0_v336))
    (StableHlo.after hostOps25 W (Proc.devRef .tc main_call0_v339)) := by
  refine ⟨?_, ?_, ?_, ?_⟩ <;> after_reads_simp
  · simp only [StableHlo.TRef.ofBuf_toBuf]; rfl
  · exact mat_slice _ 12 slices_S15x128x128_S1x128x128_12_0_0 _
  · exact mat_slice _ 12 slices_S15x128x128_S1x128x128_12_0_0 _
  · exact vec_slice _ 12 slices_S15x128_S1x128_12_0 _ _

/-- The host operations before launch 26: the scale and the shift. -/
theorem host26 : UpdHost W 12 (W (Proc.devRef .tc main_call0_v340_1)) (W (Proc.devRef .tc main_call0_v340_2))
    (StableHlo.after hostOps26 W (Proc.devRef .tc main_call0_v349)) (StableHlo.after hostOps26 W (Proc.devRef .tc main_call0_v354)) := by
  have e := fun A => vec_slice A 12 slices_S15x128_S1x128_12_0 shapeCasts_S1x128_S128 shapeCasts_S128_S1x128
  unfold UpdHost
  rw [← e, ← e]
  constructor <;> (after_reads_simp; rfl)

set_option maxHeartbeats 1000000 in
/-- Launch 25 leaves the messages, their mean and their mean square. -/
theorem region25 :
    let M := lm (V c main_call0_v328) (V c main_call0_v332) (V c main_call0_v334) (V c main_call0_v336) (V c main_call0_v339)
    (dat25 V c).arrAt 5 cfg25.N = M ∧ (dat25 V c).arrAt 6 cfg25.N = lmean M ∧ (dat25 V c).arrAt 7 cfg25.N = lmean (sq M) :=
  messages (msgIn V (V c main_call0_v328) (V c main_call0_v332) (V c main_call0_v340_0) (V c main_call0_v334)
    (V c main_call0_v336) (V c main_call0_v339) (V c main_call0_v340_1) (V c main_call0_v340_2)) c (outsAt25 V c)
    (fun t h0 => (outsAt25_A V c t h0 (by omega)).trans (by refine Prod.ext ?_ (Prod.ext ?_ ?_) <;> frame_out <;> rfl))
    (fun t h0 h1 => (outsAt25_B V c t h0 h1).trans (by refine Prod.ext ?_ (Prod.ext ?_ ?_) <;> frame_out <;> rfl))
    (fun t h0 h1 => (outsAt25_C V c t h0 h1).trans (by refine Prod.ext ?_ (Prod.ext ?_ ?_) <;> frame_out <;> rfl))
    (X := (dat25 V c).arrAt 5) (Y := (dat25 V c).arrAt 6) (Z := (dat25 V c).arrAt 7)
    ⟨rfl, fun n => ((writes_arrAt c (dat25 V c) 5).2 n).trans (by rfl)⟩
    ⟨rfl, fun n => ((writes_arrAt c (dat25 V c) 6).2 n).trans (by rfl)⟩
    ⟨rfl, fun n => ((writes_arrAt c (dat25 V c) 7).2 n).trans (by rfl)⟩ N_25

/-- Launch 26 leaves the updated features. -/
theorem region26 : (dat26 V c).arrAt 4 cfg26.N
    = la (V c main_call0_v328) (V c main_call0_v340_0) (V c main_call0_v349) (V c main_call0_v354) :=
  updates (updIn V (V c main_call0_v328) (V c main_call0_v340_0) (V c main_call0_v355) (V c main_call0_v349) (V c main_call0_v354)) c
    (X := (dat26 V c).arrAt 4)
    ⟨rfl, fun n => ((writes_arrAt c (dat26 V c) 4).2 n).trans (by rfl)⟩ N_26

/-- Layer 12, from the contents before it to those after it. -/
theorem layer12 {R C : Ends} {H : Nodes} (hr : W50 m ρ c (Proc.devRef .tc main_call0_v1) = R)
    (hc : W50 m ρ c (Proc.devRef .tc main_call0_v3) = C) (hh : W50 m ρ c (Proc.devRef .tc main_call0_v328) = H) :
    W54 m ρ c (Proc.devRef .tc main_call0_v1) = R ∧ W54 m ρ c (Proc.devRef .tc main_call0_v3) = C
    ∧ W54 m ρ c (Proc.devRef .tc main_call0_v355) = layerAt c m 12 R C H := by
  obtain ⟨ha, hn, hw, hb⟩ := host25 (W50 m ρ c)
  obtain ⟨hs, ht⟩ := host26 (W52 m ρ c)
  obtain ⟨e5, e6, e7⟩ := region25 (V51 m ρ) c
  rw [W50_args m ρ c _ (by decide)] at hn hw hb
  rw [W52_args m ρ c main_arg6 (by decide)] at hs ht
  rw [W52_args m ρ c main_arg7 (by decide)] at ht
  rw [hr, hc, hh] at ha
  have h3 := (W51_of m ρ c main_call0_v328 (by decide)).trans hh
  refine ⟨?_, ?_, layer_step _ _ _ _ _ 12 h3 ha hn hw hb ((W52_arr m ρ c 5).trans e5) ((W52_arr m ρ c 6).trans e6)
    ((W52_arr m ρ c 7).trans e7) hs ht ((W53_of m ρ c main_call0_v328 (by decide)).trans ((W52_of m ρ c _ (by decide)).trans h3))
    (W53_of m ρ c main_call0_v340_0 (by decide)) ((W54_arr m ρ c 4).trans (region26 (V53 m ρ) c))⟩
  · rw [W54_of m ρ c _ (by decide), W53_of m ρ c _ (by decide), W52_of m ρ c _ (by decide), W51_of m ρ c _ (by decide), hr]
  · rw [W54_of m ρ c _ (by decide), W53_of m ρ c _ (by decide), W52_of m ρ c _ (by decide), W51_of m ρ c _ (by decide), hc]

/-! ## Layer 13 -/

/-- The host operations before launch 27: the aggregate and the layer's weights. -/
theorem host27 : MsgHost W 13 (W (Proc.devRef .tc main_call0_v355)) (StableHlo.after hostOps27 W (Proc.devRef .tc main_call0_v359))
    (StableHlo.after hostOps27 W (Proc.devRef .tc main_call0_v361)) (StableHlo.after hostOps27 W (Proc.devRef .tc main_call0_v363))
    (StableHlo.after hostOps27 W (Proc.devRef .tc main_call0_v366)) := by
  refine ⟨?_, ?_, ?_, ?_⟩ <;> after_reads_simp
  · simp only [StableHlo.TRef.ofBuf_toBuf]; rfl
  · exact mat_slice _ 13 slices_S15x128x128_S1x128x128_13_0_0 _
  · exact mat_slice _ 13 slices_S15x128x128_S1x128x128_13_0_0 _
  · exact vec_slice _ 13 slices_S15x128_S1x128_13_0 _ _

/-- The host operations before launch 28: the scale and the shift. -/
theorem host28 : UpdHost W 13 (W (Proc.devRef .tc main_call0_v367_1)) (W (Proc.devRef .tc main_call0_v367_2))
    (StableHlo.after hostOps28 W (Proc.devRef .tc main_call0_v376)) (StableHlo.after hostOps28 W (Proc.devRef .tc main_call0_v381)) := by
  have e := fun A => vec_slice A 13 slices_S15x128_S1x128_13_0 shapeCasts_S1x128_S128 shapeCasts_S128_S1x128
  unfold UpdHost
  rw [← e, ← e]
  constructor <;> (after_reads_simp; rfl)

set_option maxHeartbeats 1000000 in
/-- Launch 27 leaves the messages, their mean and their mean square. -/
theorem region27 :
    let M := lm (V c main_call0_v355) (V c main_call0_v359) (V c main_call0_v361) (V c main_call0_v363) (V c main_call0_v366)
    (dat27 V c).arrAt 5 cfg27.N = M ∧ (dat27 V c).arrAt 6 cfg27.N = lmean M ∧ (dat27 V c).arrAt 7 cfg27.N = lmean (sq M) :=
  messages (msgIn V (V c main_call0_v355) (V c main_call0_v359) (V c main_call0_v367_0) (V c main_call0_v361)
    (V c main_call0_v363) (V c main_call0_v366) (V c main_call0_v367_1) (V c main_call0_v367_2)) c (outsAt27 V c)
    (fun t h0 => (outsAt27_A V c t h0 (by omega)).trans (by refine Prod.ext ?_ (Prod.ext ?_ ?_) <;> frame_out <;> rfl))
    (fun t h0 h1 => (outsAt27_B V c t h0 h1).trans (by refine Prod.ext ?_ (Prod.ext ?_ ?_) <;> frame_out <;> rfl))
    (fun t h0 h1 => (outsAt27_C V c t h0 h1).trans (by refine Prod.ext ?_ (Prod.ext ?_ ?_) <;> frame_out <;> rfl))
    (X := (dat27 V c).arrAt 5) (Y := (dat27 V c).arrAt 6) (Z := (dat27 V c).arrAt 7)
    ⟨rfl, fun n => ((writes_arrAt c (dat27 V c) 5).2 n).trans (by rfl)⟩
    ⟨rfl, fun n => ((writes_arrAt c (dat27 V c) 6).2 n).trans (by rfl)⟩
    ⟨rfl, fun n => ((writes_arrAt c (dat27 V c) 7).2 n).trans (by rfl)⟩ N_27

/-- Launch 28 leaves the updated features. -/
theorem region28 : (dat28 V c).arrAt 4 cfg28.N
    = la (V c main_call0_v355) (V c main_call0_v367_0) (V c main_call0_v376) (V c main_call0_v381) :=
  updates (updIn V (V c main_call0_v355) (V c main_call0_v367_0) (V c main_call0_v382) (V c main_call0_v376) (V c main_call0_v381)) c
    (X := (dat28 V c).arrAt 4)
    ⟨rfl, fun n => ((writes_arrAt c (dat28 V c) 4).2 n).trans (by rfl)⟩ N_28

/-- Layer 13, from the contents before it to those after it. -/
theorem layer13 {R C : Ends} {H : Nodes} (hr : W54 m ρ c (Proc.devRef .tc main_call0_v1) = R)
    (hc : W54 m ρ c (Proc.devRef .tc main_call0_v3) = C) (hh : W54 m ρ c (Proc.devRef .tc main_call0_v355) = H) :
    W58 m ρ c (Proc.devRef .tc main_call0_v1) = R ∧ W58 m ρ c (Proc.devRef .tc main_call0_v3) = C
    ∧ W58 m ρ c (Proc.devRef .tc main_call0_v382) = layerAt c m 13 R C H := by
  obtain ⟨ha, hn, hw, hb⟩ := host27 (W54 m ρ c)
  obtain ⟨hs, ht⟩ := host28 (W56 m ρ c)
  obtain ⟨e5, e6, e7⟩ := region27 (V55 m ρ) c
  rw [W54_args m ρ c _ (by decide)] at hn hw hb
  rw [W56_args m ρ c main_arg6 (by decide)] at hs ht
  rw [W56_args m ρ c main_arg7 (by decide)] at ht
  rw [hr, hc, hh] at ha
  have h3 := (W55_of m ρ c main_call0_v355 (by decide)).trans hh
  refine ⟨?_, ?_, layer_step _ _ _ _ _ 13 h3 ha hn hw hb ((W56_arr m ρ c 5).trans e5) ((W56_arr m ρ c 6).trans e6)
    ((W56_arr m ρ c 7).trans e7) hs ht ((W57_of m ρ c main_call0_v355 (by decide)).trans ((W56_of m ρ c _ (by decide)).trans h3))
    (W57_of m ρ c main_call0_v367_0 (by decide)) ((W58_arr m ρ c 4).trans (region28 (V57 m ρ) c))⟩
  · rw [W58_of m ρ c _ (by decide), W57_of m ρ c _ (by decide), W56_of m ρ c _ (by decide), W55_of m ρ c _ (by decide), hr]
  · rw [W58_of m ρ c _ (by decide), W57_of m ρ c _ (by decide), W56_of m ρ c _ (by decide), W55_of m ρ c _ (by decide), hc]

/-! ## Layer 14 -/

/-- The host operations before launch 29: the aggregate and the layer's weights. -/
theorem host29 : MsgHost W 14 (W (Proc.devRef .tc main_call0_v382)) (StableHlo.after hostOps29 W (Proc.devRef .tc main_call0_v386))
    (StableHlo.after hostOps29 W (Proc.devRef .tc main_call0_v388)) (StableHlo.after hostOps29 W (Proc.devRef .tc main_call0_v390))
    (StableHlo.after hostOps29 W (Proc.devRef .tc main_call0_v393)) := by
  refine ⟨?_, ?_, ?_, ?_⟩ <;> after_reads_simp
  · simp only [StableHlo.TRef.ofBuf_toBuf]; rfl
  · exact mat_slice _ 14 slices_S15x128x128_S1x128x128_14_0_0 _
  · exact mat_slice _ 14 slices_S15x128x128_S1x128x128_14_0_0 _
  · exact vec_slice _ 14 slices_S15x128_S1x128_14_0 _ _

/-- The host operations before launch 30: the scale and the shift. -/
theorem host30 : UpdHost W 14 (W (Proc.devRef .tc main_call0_v394_1)) (W (Proc.devRef .tc main_call0_v394_2))
    (StableHlo.after hostOps30 W (Proc.devRef .tc main_call0_v403)) (StableHlo.after hostOps30 W (Proc.devRef .tc main_call0_v408)) := by
  have e := fun A => vec_slice A 14 slices_S15x128_S1x128_14_0 shapeCasts_S1x128_S128 shapeCasts_S128_S1x128
  unfold UpdHost
  rw [← e, ← e]
  constructor <;> (after_reads_simp; rfl)

set_option maxHeartbeats 1000000 in
/-- Launch 29 leaves the messages, their mean and their mean square. -/
theorem region29 :
    let M := lm (V c main_call0_v382) (V c main_call0_v386) (V c main_call0_v388) (V c main_call0_v390) (V c main_call0_v393)
    (dat29 V c).arrAt 5 cfg29.N = M ∧ (dat29 V c).arrAt 6 cfg29.N = lmean M ∧ (dat29 V c).arrAt 7 cfg29.N = lmean (sq M) :=
  messages (msgIn V (V c main_call0_v382) (V c main_call0_v386) (V c main_call0_v394_0) (V c main_call0_v388)
    (V c main_call0_v390) (V c main_call0_v393) (V c main_call0_v394_1) (V c main_call0_v394_2)) c (outsAt29 V c)
    (fun t h0 => (outsAt29_A V c t h0 (by omega)).trans (by refine Prod.ext ?_ (Prod.ext ?_ ?_) <;> frame_out <;> rfl))
    (fun t h0 h1 => (outsAt29_B V c t h0 h1).trans (by refine Prod.ext ?_ (Prod.ext ?_ ?_) <;> frame_out <;> rfl))
    (fun t h0 h1 => (outsAt29_C V c t h0 h1).trans (by refine Prod.ext ?_ (Prod.ext ?_ ?_) <;> frame_out <;> rfl))
    (X := (dat29 V c).arrAt 5) (Y := (dat29 V c).arrAt 6) (Z := (dat29 V c).arrAt 7)
    ⟨rfl, fun n => ((writes_arrAt c (dat29 V c) 5).2 n).trans (by rfl)⟩
    ⟨rfl, fun n => ((writes_arrAt c (dat29 V c) 6).2 n).trans (by rfl)⟩
    ⟨rfl, fun n => ((writes_arrAt c (dat29 V c) 7).2 n).trans (by rfl)⟩ N_29

/-- Launch 30 leaves the updated features. -/
theorem region30 : (dat30 V c).arrAt 4 cfg30.N
    = la (V c main_call0_v382) (V c main_call0_v394_0) (V c main_call0_v403) (V c main_call0_v408) :=
  updates (updIn V (V c main_call0_v382) (V c main_call0_v394_0) (V c main_call0_v409) (V c main_call0_v403) (V c main_call0_v408)) c
    (X := (dat30 V c).arrAt 4)
    ⟨rfl, fun n => ((writes_arrAt c (dat30 V c) 4).2 n).trans (by rfl)⟩ N_30

/-- Layer 14, from the contents before it to those after it. -/
theorem layer14 {R C : Ends} {H : Nodes} (hr : W58 m ρ c (Proc.devRef .tc main_call0_v1) = R)
    (hc : W58 m ρ c (Proc.devRef .tc main_call0_v3) = C) (hh : W58 m ρ c (Proc.devRef .tc main_call0_v382) = H) :
    W62 m ρ c (Proc.devRef .tc main_call0_v1) = R ∧ W62 m ρ c (Proc.devRef .tc main_call0_v3) = C
    ∧ W62 m ρ c (Proc.devRef .tc main_call0_v409) = layerAt c m 14 R C H := by
  obtain ⟨ha, hn, hw, hb⟩ := host29 (W58 m ρ c)
  obtain ⟨hs, ht⟩ := host30 (W60 m ρ c)
  obtain ⟨e5, e6, e7⟩ := region29 (V59 m ρ) c
  rw [W58_args m ρ c _ (by decide)] at hn hw hb
  rw [W60_args m ρ c main_arg6 (by decide)] at hs ht
  rw [W60_args m ρ c main_arg7 (by decide)] at ht
  rw [hr, hc, hh] at ha
  have h3 := (W59_of m ρ c main_call0_v382 (by decide)).trans hh
  refine ⟨?_, ?_, layer_step _ _ _ _ _ 14 h3 ha hn hw hb ((W60_arr m ρ c 5).trans e5) ((W60_arr m ρ c 6).trans e6)
    ((W60_arr m ρ c 7).trans e7) hs ht ((W61_of m ρ c main_call0_v382 (by decide)).trans ((W60_of m ρ c _ (by decide)).trans h3))
    (W61_of m ρ c main_call0_v394_0 (by decide)) ((W62_arr m ρ c 4).trans (region30 (V61 m ρ) c))⟩
  · rw [W62_of m ρ c _ (by decide), W61_of m ρ c _ (by decide), W60_of m ρ c _ (by decide), W59_of m ρ c _ (by decide), hr]
  · rw [W62_of m ρ c _ (by decide), W61_of m ρ c _ (by decide), W60_of m ρ c _ (by decide), W59_of m ρ c _ (by decide), hc]

end Cert.KernelIdeal.Value

end
-- ==== Proof.Ends.lean ====
module

public import proofs.«01_k».proof.Proof.Gen.KernelIdeal.Frame
public import proofs.«01_k».proof.Proof.Host

/-
  The first and the last launch of the kernel, and the host operations before them.
-/

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)

variable (W : Valuation τ sig (Elt Ideal))
variable (V : (c : Dev nD) → (b : Ref sig .tc) → Buf (Elt Ideal) ((c : Thread nD τ).loc b)) (c : Dev nD)
variable (m : (ℓ : Loc nD τ sig) → Buf (Elt Ideal) ℓ) (ρ : Dev nD → PrngReg)

/-- Before the input layer: the sources and the targets cut out of the edge list. -/
theorem host0 : StableHlo.after hostOps0 W (Proc.devRef .tc main_call0_v1) = rowOf (W (Proc.devRef .tc main_arg1))
    ∧ StableHlo.after hostOps0 W (Proc.devRef .tc main_call0_v3) = colOf (W (Proc.devRef .tc main_arg1)) := by
  constructor <;> (after_reads_simp; rfl)

/-- Region 0: the input layer. -/
theorem region0 : (dat0 V c).arrAt 2 cfg0.N = inp (V c main_arg0) (V c main_arg2) := by
  have ix : ∀ t : Fin cfg0.N, win0_0.index t = ![t.val, 0] ∧ win0_1.index t = ![0, 0] ∧ win0_2.index t = ![t.val, 0] := by
    decide +kernel
  refine (dat0 V c).arrAt_eq_of_covers 2 _ (by decide +kernel) fun t hf y => ?_
  have b0 : ∀ (y : S1000x2.Idx) (i : S50000x2.Idx), (i 0).val = t.val * 1000 + (y 0).val → (i 1).val = (y 1).val →
      iblk0 V c 0 t y = V c main_arg0 i := fun y i h0 h1 => by blk_ext [iblk0, (ix t).1, h0, h1]
  have b1 : iblk0 V c 1 t = V c main_arg2 := funext fun y => by blk_ext [iblk0, (ix t).2.1]
  have e : out0_2 (iblk0 V c 0 t) (iblk0 V c 1 t)
      = k0_pay1 (iblk0 V c 0 t) (View.ld (iblk0 V c 1 t) r0_1) (View.ld (iblk0 V c 1 t) r0_2) := by unfold out0_2; frame_out; rfl
  rw [after0_2, e, b1]
  refine inp_blk b0 (fun j => ?_) (fun j => ?_) y _ ?_ ?_
  · pointwise
  · pointwise
  · blk_simp [(ix t).2.2]
  · blk_simp [(ix t).2.2]

set_option maxHeartbeats 1000000 in
/-- Region 31: the edge network. -/
theorem region31 : (dat31 V c).arrAt 9 cfg31.N = edgeOut (V c main_call0_v410) (V c main_call0_v411) (V c main_call0_v415)
    (V c main_call0_v416) (V c main_call0_v417) (V c main_arg10) (V c main_call0_v418) (V c main_call0_v414)
    (V c main_call0_v419) := by
  have ix : ∀ t : Fin cfg31.N, win31_0.index t = ![t.val, 0] ∧ win31_1.index t = ![t.val, 0] ∧ win31_2.index t = ![0, 0]
      ∧ win31_3.index t = ![0, 0] ∧ win31_4.index t = ![0, 0] ∧ win31_5.index t = ![0, 0] ∧ win31_6.index t = ![0, 0]
      ∧ win31_7.index t = ![0, 0] ∧ win31_8.index t = ![0, 0] ∧ win31_9.index t = ![t.val, 0] := by decide +kernel
  refine (dat31 V c).arrAt_eq_of_covers 9 _ (by decide +kernel) fun t hf y => ?_
  have b2 : iblk31 V c 2 t = V c main_call0_v415 := funext fun y => by blk_ext [iblk31, (ix t).2.2.1]
  have b3 : iblk31 V c 3 t = V c main_call0_v416 := funext fun y => by blk_ext [iblk31, (ix t).2.2.2.1]
  have b4 : iblk31 V c 4 t = V c main_call0_v417 := funext fun y => by blk_ext [iblk31, (ix t).2.2.2.2.1]
  have b5 : iblk31 V c 5 t = V c main_arg10 := funext fun y => by blk_ext [iblk31, (ix t).2.2.2.2.2.1]
  have b6 : iblk31 V c 6 t = V c main_call0_v418 := funext fun y => by blk_ext [iblk31, (ix t).2.2.2.2.2.2.1]
  have b7 : iblk31 V c 7 t = V c main_call0_v414 := funext fun y => by blk_ext [iblk31, (ix t).2.2.2.2.2.2.2.1]
  have b8 : iblk31 V c 8 t = V c main_call0_v419 := funext fun y => by blk_ext [iblk31, (ix t).2.2.2.2.2.2.2.2.1]
  have b0 : ∀ (y : S2000x128.Idx) (i : S800000x128.Idx), (i 0).val = t.val * 2000 + (y 0).val → (i 1).val = (y 1).val →
      iblk31 V c 0 t y = V c main_call0_v410 i := fun y i h0 h1 => by blk_ext [iblk31, (ix t).1, h0, h1]
  have b1 : ∀ (y : S2000x128.Idx) (i : S800000x128.Idx), (i 0).val = t.val * 2000 + (y 0).val → (i 1).val = (y 1).val →
      iblk31 V c 1 t y = V c main_call0_v411 i := fun y i h0 h1 => by blk_ext [iblk31, (ix t).2.1, h0, h1]
  have e : out31_9 (iblk31 V c 0 t) (iblk31 V c 1 t) (iblk31 V c 2 t) (iblk31 V c 3 t) (iblk31 V c 4 t) (iblk31 V c 5 t)
      (iblk31 V c 6 t) (iblk31 V c 7 t) (iblk31 V c 8 t) = k31_pay1 (iblk31 V c 0 t) (iblk31 V c 2 t) (iblk31 V c 1 t)
        (iblk31 V c 3 t) (iblk31 V c 4 t) (iblk31 V c 5 t) (iblk31 V c 6 t) (iblk31 V c 7 t) (iblk31 V c 8 t) := by
    frame_out
  rw [after31_9, e, b2, b3, b4, b5, b6, b7, b8]
  refine edge_blk b0 b1 y _ ?_ ; blk_simp [(ix t).2.2.2.2.2.2.2.2.2]

end Cert.KernelIdeal.Value
-- ==== Proof.Edge.lean ====
module

public import proofs.«01_k».proof.Proof.Ends
public import Idealize.ShloMosaic.Lib.Routing.OpsPair
public import Idealize.ShloMosaic.Lib.Routing.OpsSet

/-
  The host operations before the edge network's launch: the features at the two ends of each edge, and the network's weights.
-/

@[expose] public section

set_option maxRecDepth 16384

noncomputable section

namespace Cert.KernelIdeal.Value

open Cert.KernelIdeal Cert.KernelIdeal.Gen
open Idealize.ShloMosaic Idealize.ShloMosaic.TcCoe Idealize.SL.Sem

/-- The third weight of the edge network, written into the first column of a square of zeros. -/
def padOf (w : Vec Ideal S128x1 .f32) : Wt :=
  Host.scatter scatter_S128x128_S1_S128x1_01_n_1_0 (fun _ b => b)
    (broadcastInDim S128x128 ![] bcast_S_S128x128 (constant (F := Ideal) S_ .f32 0x00000000#32))
    (broadcastInDim S1 ![] bcast_S_S1 (constantI S_ 32 0#32)) w

/-- The first column of the padded weight is the weight. -/
theorem padOf_col (w : Vec Ideal S128x1 .f32) (x : Fin 128) : padOf w (ix2 x 0) = w (ix2 x 0) := by
  have hk : ∀ k : S128x1.Idx, scatter_S128x128_S1_S128x1_01_n_1_0.resultIdx? k
      (broadcastInDim S1 ![] bcast_S_S1 (constantI S_ 32 0#32)) = some (ix2 x 0) ↔ ((k 0).val = x.val ∧ (k 1).val = 0) := by
    intro k
    refine (Routing.resultIdx?_ix2 (R := 128) (C := 128) scatter_S128x128_S1_S128x1_01_n_1_0 k _ x 0).trans ?_
    have h0 : scatter_S128x128_S1_S128x1_01_n_1_0.start k (broadcastInDim S1 ![] bcast_S_S1 (constantI S_ 32 0#32)) 0 = 0 := rfl
    have h1 : scatter_S128x128_S1_S128x1_01_n_1_0.start k (broadcastInDim S1 ![] bcast_S_S1 (constantI S_ 32 0#32)) 1 = 0 := rfl
    have w0 : scatter_S128x128_S1_S128x1_01_n_1_0.window k 0 = (k 0).val := rfl
    have w1 : scatter_S128x128_S1_S128x1_01_n_1_0.window k 1 = (k 1).val := rfl
    rw [h0, h1, w0, w1]
    simp
  refine Routing.scatter_set_hit _ _ _ _ _ _ (fun k h => ?_) (ix2 x 0) ((hk _).2 ⟨rfl, rfl⟩)
  obtain ⟨h0, h1⟩ := (hk k).1 h
  congr 1
  funext a
  fin_cases a
  · exact Fin.ext h0
  · exact Fin.ext h1

variable (W : Valuation τ sig (Elt Ideal))

/-- Before the edge network: the features of the edges' sources. -/
theorem host31_row : StableHlo.after hostOps31 W (Proc.devRef .tc main_call0_v410)
    = takeRows (W (Proc.devRef .tc main_call0_v1)) (W (Proc.devRef .tc main_call0_v409)) := by
  after_reads_simp
  simp only [StableHlo.TRef.ofBuf_toBuf]
  unfold takeRows inRange wrapIdx
  congr 1

/-- Before the edge network: the features of the edges' targets. -/
theorem host31_col : StableHlo.after hostOps31 W (Proc.devRef .tc main_call0_v411)
    = takeRows (W (Proc.devRef .tc main_call0_v3)) (W (Proc.devRef .tc main_call0_v409)) := by
  after_reads_simp
  simp only [StableHlo.TRef.ofBuf_toBuf]
  unfold takeRows inRange wrapIdx
  congr 1

/-- Before the edge network: its last weight, padded to 128 columns. -/
theorem host31_pad : StableHlo.after hostOps31 W (Proc.devRef .tc main_call0_v414) = padOf (W (Proc.devRef .tc main_arg12)) := by
  after_reads_simp
  simp only [StableHlo.TRef.ofBuf_toBuf]
  rfl

/-- The upper half of the first weight. -/
def topOf (w : Vec Ideal S256x128 .f32) : Wt := extractStridedSlice S128x128 ![0, 0] w slices_S256x128_S128x128_0_0
/-- The lower half of the first weight. -/
def botOf (w : Vec Ideal S256x128 .f32) : Wt := extractStridedSlice S128x128 ![128, 0] w slices_S256x128_S128x128_128_0
/-- A bias as one row. -/
def rowB (b : Vec Ideal S128 .f32) : Row := shapeCast S1x128 b shapeCasts_S128_S1x128
/-- The last bias as a square of one. -/
def oneB (b : Vec Ideal S1 .f32) : Vec Ideal S1x1 .f32 := shapeCast S1x1 b shapeCasts_S1_S1x1

/-- Before the edge network: the halves of its first weight and its biases as rows. -/
theorem host31_w : StableHlo.after hostOps31 W (Proc.devRef .tc main_call0_v415) = topOf (W (Proc.devRef .tc main_arg8))
    ∧ StableHlo.after hostOps31 W (Proc.devRef .tc main_call0_v416) = botOf (W (Proc.devRef .tc main_arg8))
    ∧ StableHlo.after hostOps31 W (Proc.devRef .tc main_call0_v417) = rowB (W (Proc.devRef .tc main_arg9))
    ∧ StableHlo.after hostOps31 W (Proc.devRef .tc main_call0_v418) = rowB (W (Proc.devRef .tc main_arg11))
    ∧ StableHlo.after hostOps31 W (Proc.devRef .tc main_call0_v419) = oneB (W (Proc.devRef .tc main_arg13)) := by
  refine ⟨?_, ?_, ?_, ?_, ?_⟩ <;> (after_reads_simp; rfl)

end Cert.KernelIdeal.Value
-- ==== Proof.Iter.lean ====
module

public import proofs.«01_k».proof.Proof.Host

/-
  Fifteen layers in a row, for any layer function.
-/

@[expose] public section

noncomputable section

namespace Cert.KernelIdeal.Value

open Cert.KernelIdeal
open Idealize.ShloMosaic

/-- The node features after the first `k` layers. -/
def layersOf (f : Fin 15 → Nodes → Nodes) (h : Nodes) : ℕ → Nodes
  | 0 => h
  | k + 1 => f (Fin.ofNat 15 k) (layersOf f h k)

/-- No layer at all. -/
theorem layersOf_zero (f : Fin 15 → Nodes → Nodes) (h : Nodes) : layersOf f h 0 = h := rfl

/-- One more layer. -/
theorem layersOf_succ (f : Fin 15 → Nodes → Nodes) (h : Nodes) (k : ℕ) :
    layersOf f h (k + 1) = f (Fin.ofNat 15 k) (layersOf f h k) := rfl

/-- All fifteen layers, written out. -/
theorem layersOf_all (f : Fin 15 → Nodes → Nodes) (h : Nodes) : layersOf f h 15
    = f 14 (f 13 (f 12 (f 11 (f 10 (f 9 (f 8 (f 7 (f 6 (f 5 (f 4 (f 3 (f 2 (f 1 (f 0 h)))))))))))))) := rfl

end Cert.KernelIdeal.Value

end
-- ==== Proof.Chain.lean ====
module

public import proofs.«01_k».proof.Proof.Layers0
public import proofs.«01_k».proof.Proof.Layers1
public import proofs.«01_k».proof.Proof.Layers2
public import proofs.«01_k».proof.Proof.Layers3
public import proofs.«01_k».proof.Proof.Layers4
public import proofs.«01_k».proof.Proof.Ends
public import proofs.«01_k».proof.Proof.Edge
public import proofs.«01_k».proof.Proof.Iter

/-
  The kernel from its launch to its result: the input layer, the fifteen layers, the edge network.
-/

@[expose] public section

set_option maxRecDepth 16384

noncomputable section

namespace Cert.KernelIdeal.Value

open Cert.KernelIdeal Cert.KernelIdeal.Gen
open Idealize.ShloMosaic Idealize.ShloMosaic.TcCoe Idealize.SL.Sem

/-- The kernel's result as a function of its arguments. -/
def resultK (x : Vec Ideal S50000x2 .f32) (e : Vec Ideal S2x800000 .i32) (w : Vec Ideal S2x128 .f32)
    (wr wn : Vec Ideal S15x128x128 .f32) (b g be : Vec Ideal S15x128 .f32) (w₁ : Vec Ideal S256x128 .f32)
    (b₁ : Vec Ideal S128 .f32) (w₂ : Wt) (b₂ : Vec Ideal S128 .f32) (w₃ : Vec Ideal S128x1 .f32) (b₃ : Vec Ideal S1 .f32) :
    Vec Ideal S800000x1 .f32 :=
  let h := layersOf (layerK (rowOf e) (colOf e) wr wn b g be) (inp x w) 15
  edgeOut (takeRows (rowOf e) h) (takeRows (colOf e) h) (topOf w₁) (botOf w₁) (rowB b₁) w₂ (rowB b₂) (padOf w₃) (oneB b₃)

variable (m : (ℓ : Loc nD τ sig) → Buf (Elt Ideal) ℓ) (ρ : Dev nD → PrngReg) (c : Dev nD)

/-- After the input layer: the two columns of edge ends and the first node features. -/
theorem start : W2 m ρ c (Proc.devRef .tc main_call0_v1) = rowOf (m ((c : Thread nD τ).loc main_arg1))
    ∧ W2 m ρ c (Proc.devRef .tc main_call0_v3) = colOf (m ((c : Thread nD τ).loc main_arg1))
    ∧ W2 m ρ c (Proc.devRef .tc main_call0_v4)
      = inp (m ((c : Thread nD τ).loc main_arg0)) (m ((c : Thread nD τ).loc main_arg2)) := by
  refine ⟨(W2_of m ρ c main_call0_v1 (by decide)).trans (host0 (W0 m ρ c)).1,
    (W2_of m ρ c main_call0_v3 (by decide)).trans (host0 (W0 m ρ c)).2,
    ((W2_arr m ρ c 2).trans (region0 (V1 m ρ) c)).trans ?_⟩
  rw [show V1 m ρ c main_arg0 = _ from W1_args m ρ c main_arg0 (by decide),
    show V1 m ρ c main_arg2 = _ from W1_args m ρ c main_arg2 (by decide)]

/-- After the fifteen layers. -/
theorem layers : W62 m ρ c (Proc.devRef .tc main_call0_v1) = rowOf (m ((c : Thread nD τ).loc main_arg1))
    ∧ W62 m ρ c (Proc.devRef .tc main_call0_v3) = colOf (m ((c : Thread nD τ).loc main_arg1))
    ∧ W62 m ρ c (Proc.devRef .tc main_call0_v409)
      = layersOf (layerK (rowOf (m ((c : Thread nD τ).loc main_arg1))) (colOf (m ((c : Thread nD τ).loc main_arg1)))
          (m ((c : Thread nD τ).loc main_arg3)) (m ((c : Thread nD τ).loc main_arg4)) (m ((c : Thread nD τ).loc main_arg5))
          (m ((c : Thread nD τ).loc main_arg6)) (m ((c : Thread nD τ).loc main_arg7)))
          (inp (m ((c : Thread nD τ).loc main_arg0)) (m ((c : Thread nD τ).loc main_arg2))) 15 := by
  obtain ⟨r, k, h⟩ := start m ρ c
  obtain ⟨r, k, h⟩ := layer0 c m ρ r k h
  obtain ⟨r, k, h⟩ := layer1 c m ρ r k h
  obtain ⟨r, k, h⟩ := layer2 c m ρ r k h
  obtain ⟨r, k, h⟩ := layer3 c m ρ r k h
  obtain ⟨r, k, h⟩ := layer4 c m ρ r k h
  obtain ⟨r, k, h⟩ := layer5 c m ρ r k h
  obtain ⟨r, k, h⟩ := layer6 c m ρ r k h
  obtain ⟨r, k, h⟩ := layer7 c m ρ r k h
  obtain ⟨r, k, h⟩ := layer8 c m ρ r k h
  obtain ⟨r, k, h⟩ := layer9 c m ρ r k h
  obtain ⟨r, k, h⟩ := layer10 c m ρ r k h
  obtain ⟨r, k, h⟩ := layer11 c m ρ r k h
  obtain ⟨r, k, h⟩ := layer12 c m ρ r k h
  obtain ⟨r, k, h⟩ := layer13 c m ρ r k h
  obtain ⟨r, k, h⟩ := layer14 c m ρ r k h
  rw [layersOf_all]
  exact ⟨r, k, h⟩

/-- The kernel's result buffer after its last launch. -/
theorem result : W64 m ρ c (Proc.devRef .tc main_v0)
    = resultK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) := by
  obtain ⟨r, k, h⟩ := layers m ρ c
  obtain ⟨w1, w2, w3, w4, w5⟩ := host31_w (W62 m ρ c)
  refine ((W64_arr m ρ c 9).trans (region31 (V63 m ρ) c)).trans ?_
  rw [show V63 m ρ c main_call0_v410 = _ from host31_row (W62 m ρ c), show V63 m ρ c main_call0_v411 = _ from host31_col (W62 m ρ c),
    show V63 m ρ c main_call0_v414 = _ from host31_pad (W62 m ρ c), show V63 m ρ c main_call0_v415 = _ from w1,
    show V63 m ρ c main_call0_v416 = _ from w2, show V63 m ρ c main_call0_v417 = _ from w3,
    show V63 m ρ c main_call0_v418 = _ from w4, show V63 m ρ c main_call0_v419 = _ from w5,
    show V63 m ρ c main_arg10 = _ from W63_args m ρ c main_arg10 (by decide), r, k, h,
    W62_args m ρ c main_arg8 (by decide), W62_args m ρ c main_arg9 (by decide), W62_args m ρ c main_arg11 (by decide),
    W62_args m ρ c main_arg12 (by decide), W62_args m ρ c main_arg13 (by decide)]
  rfl

end Cert.KernelIdeal.Value

end
-- ==== Proof.KernelRun.lean ====
module

public import proofs.«01_k».proof.Proof.Chain

/-
  Every run of the kernel ends with the result `resultK` and the arguments as launched.
-/

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every fair run of the kernel ends, with every buffer of every core at its contents after the last launch. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W64 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W64 m ρ c b)
    (hfin := fun c s' => by
      iintro ⟨⟨Hh, -⟩, HSI⟩
      unfold StableHlo.held
      imodintro
      iapply (pointsTo_read_all (Pipeline.ucRefs τ sig) (fun b => (((c : Thread nD τ)).1, b)) (W64 m ρ c) s')
      isplitl [Hh] <;> iassumption)
    (hQ := fun _ h _ => h)

end Cert.KernelIdeal.Value

end
-- ==== Proof.Ref.lean ====
module

public import proofs.«01_k».proof.Proof.Gen.ReferenceIdeal.Run
public import proofs.«01_k».proof.Proof.Host

/-
  What the reference computes, as functions of whole arrays: the loop's entry, one trip of its body, the operations after it.
-/

@[expose] public section

set_option maxRecDepth 16384

noncomputable section

namespace Cert.ReferenceIdeal.Value

open Cert.ReferenceIdeal Cert.ReferenceIdeal.Gen
open Cert.KernelIdeal.Value (Nodes Wt Row Ends Edges rowOf colOf takeRows aggOf matOf vecOf)
open Idealize.ShloMosaic Idealize.ShloMosaic.TcCoe Idealize.SL.Sem

/-- One row of 128 numbers, as the reference holds a bias. -/
abbrev Vect := Vec Ideal S128 .f32

/-- A bias as a row that is added to every node. -/
def spread (b : Vect) : Nodes :=
  broadcastInDim S50000x128 ![0, 1] bcast_S1x128_S50000x128_0_1 (broadcastInDim S1x128 ![1] bcast_S128_S1x128_1 b)

/-- A row repeated for every node. -/
def rows (b : Row) : Nodes := broadcastInDim S50000x128 ![0, 1] bcast_S1x128_S50000x128_0_1 b

/-- The sums of the columns, divided by `n`. -/
def colMean (M : Nodes) (n : Row) : Row :=
  Host.divf (F := Ideal) (broadcastInDim S1x128 ![1] bcast_S128_S1x128_1
    (Host.reduceAdd (F := Ideal) M (constant (F := Ideal) S_ .f32 0x00000000#32) reducesTo_S50000x128_S128_d0 h_S_)) n

/-- The number of nodes, in every column. -/
def count : Row := broadcastInDim S1x128 ![] bcast_S_S1x128 (constant (F := Ideal) S_ .f32 0x47435000#32)

/-- The number of nodes less zero degrees of freedom. -/
def count0 : Vec Ideal S_ .f32 :=
  subf (F := Ideal) (φ := .f32) (constant (F := Ideal) S_ .f32 0x47435000#32) (sitofp (F := Ideal) .f32 (constantI S_ 32 0#32))

/-- The message of a layer: aggregate times `wn`, plus the bias, plus the features times `wr`. -/
def msgOps (h a : Nodes) (wn wr : Wt) (b : Vect) : Nodes :=
  addf (F := Ideal) (φ := .f32) (addf (F := Ideal) (φ := .f32)
      (Host.dotGeneral (F := Ideal) (φ₁ := .f32) (φ₂ := .f32) dot_S50000x128_S128x128_S50000x128_1_0_0_1_n_n none a wn) (spread b))
    (Host.dotGeneral (F := Ideal) (φ₁ := .f32) (φ₂ := .f32) dot_S50000x128_S128x128_S50000x128_1_0_0_1_n_n none h wr)

/-- The variance of the columns: the mean of the squared distances from the mean. -/
def varOps (M : Nodes) : Row :=
  let D : Nodes := subf (F := Ideal) (φ := .f32) M (rows (colMean M count))
  select (broadcastInDim S1x128 ![] bcast_S_S1x128
      (cmpf (F := Ideal) (φ := .f32) .ogt count0 (constant (F := Ideal) S_ .f32 0x00000000#32)))
    (colMean (mulf (F := Ideal) (φ := .f32) D D) (broadcastInDim S1x128 ![] bcast_S_S1x128 count0))
    (broadcastInDim S1x128 ![] bcast_S_S1x128 (constant (F := Ideal) S_ .f32 0x7FC00000#32))

/-- The normalised message, scaled by `g`, shifted by `be`, its positive part added to the features. -/
def normOps (h M : Nodes) (g be : Vect) : Nodes :=
  addf (F := Ideal) (φ := .f32) h (maximumf (F := Ideal) (φ := .f32)
    (addf (F := Ideal) (φ := .f32) (mulf (F := Ideal) (φ := .f32)
      (Host.divf (F := Ideal) (φ := .f32) (subf (F := Ideal) (φ := .f32) M (rows (colMean M count)))
        (rows (Host.sqrt (F := Ideal) (φ := .f32) (addf (F := Ideal) (φ := .f32) (varOps M)
          (broadcastInDim S1x128 ![] bcast_S_S1x128 (constant (F := Ideal) S_ .f32 0x3727C5AC#32))))))
      (spread g)) (spread be))
    (broadcastInDim S50000x128 ![] bcast_S_S50000x128 (constant (F := Ideal) S_ .f32 0x00000000#32)))

/-- The matrix of a stack at the loop's counter. -/
def matAt (A : Vec Ideal S15x128x128 .f32) (k : Vec Ideal S_ .i32) : Wt :=
  shapeCast S128x128 (Host.dynamicSlice S1x128x128 A
    (fun d => ((![k, constantI S_ 32 0#32, constantI S_ 32 0#32] : Fin 3 → Vec Ideal S_ .i32) d (Shape.Idx.first h_S_)).toInt)
    sliceFits_S15x128x128_S1x128x128) shapeCasts_S1x128x128_S128x128

/-- The row of a stack at the loop's counter. -/
def vecAt (A : Vec Ideal S15x128 .f32) (k : Vec Ideal S_ .i32) : Vect :=
  shapeCast S128 (Host.dynamicSlice S1x128 A
    (fun d => ((![k, constantI S_ 32 0#32] : Fin 2 → Vec Ideal S_ .i32) d (Shape.Idx.first h_S_)).toInt)
    sliceFits_S15x128_S1x128) shapeCasts_S1x128_S128

variable (V : Valuation τ sig (Elt Ideal))

/-- A trip's first stretch cuts the layer's first weight out of its stack. -/
theorem body_0 : StableHlo.after while0Ops0 V (Proc.devRef .tc main_while0b_v29)
    = matAt (V (Proc.devRef .tc main_v5_0)) (V (Proc.devRef .tc main_v5_7)) := by
  after_reads_simp [StableHlo.unaryIndexed_result_read, StableHlo.indexContents_tref_cons, StableHlo.indexContents_tref_empty]
  simp only [StableHlo.TRef.ofBuf_toBuf]
  rfl

/-- The second stretch cuts out the layer's second weight. -/
theorem body_1 : StableHlo.after while0Ops0_1 V (Proc.devRef .tc main_while0b_v30)
    = matAt (V (Proc.devRef .tc main_v5_1)) (V (Proc.devRef .tc main_v5_7)) := by
  after_reads_simp [StableHlo.unaryIndexed_result_read, StableHlo.indexContents_tref_cons, StableHlo.indexContents_tref_empty]
  simp only [StableHlo.TRef.ofBuf_toBuf]
  rfl

/-- The third stretch cuts out the layer's bias. -/
theorem body_2 : StableHlo.after while0Ops0_2 V (Proc.devRef .tc main_while0b_v31)
    = vecAt (V (Proc.devRef .tc main_v5_2)) (V (Proc.devRef .tc main_v5_7)) := by
  after_reads_simp [StableHlo.unaryIndexed_result_read, StableHlo.indexContents_tref_cons, StableHlo.indexContents_tref_empty]
  simp only [StableHlo.TRef.ofBuf_toBuf]
  rfl

/-- The fourth stretch cuts out the layer's normalising factor. -/
theorem body_3 : StableHlo.after while0Ops0_3 V (Proc.devRef .tc main_while0b_v32)
    = vecAt (V (Proc.devRef .tc main_v5_3)) (V (Proc.devRef .tc main_v5_7)) := by
  after_reads_simp [StableHlo.unaryIndexed_result_read, StableHlo.indexContents_tref_cons, StableHlo.indexContents_tref_empty]
  simp only [StableHlo.TRef.ofBuf_toBuf]
  rfl

/-- The fifth stretch cuts out the layer's normalising offset. -/
theorem body_4 : StableHlo.after while0Ops0_4 V (Proc.devRef .tc main_while0b_v33)
    = vecAt (V (Proc.devRef .tc main_v5_4)) (V (Proc.devRef .tc main_v5_7)) := by
  after_reads_simp [StableHlo.unaryIndexed_result_read, StableHlo.indexContents_tref_cons, StableHlo.indexContents_tref_empty]
  simp only [StableHlo.TRef.ofBuf_toBuf]
  rfl

/-- Both programs gather rows in the same way. -/
theorem gather_same : gather_S50000x128_S800000x1_S800000x128_1_0_n_n_0_1_1128
    = Cert.KernelIdeal.gather_S50000x128_S800000x1_S800000x128_1_0_n_n_0_1_1128 := rfl

/-- Both programs add rows up in the same way. -/
theorem scatter_same : scatter_S50000x128_S800000x1_S800000x128_1_0_0_1
    = Cert.KernelIdeal.scatter_S50000x128_S800000x1_S800000x128_1_0_0_1 := rfl

/-- The sixth stretch gathers the features of the edges' sources. -/
theorem body_5 : StableHlo.after while0Ops0_5 V (Proc.devRef .tc main_while0b_v34)
    = takeRows (V (Proc.devRef .tc main_v5_5)) (V (Proc.devRef .tc main_v5_8)) := by
  after_reads_simp
  simp only [StableHlo.TRef.ofBuf_toBuf, gather_same]
  unfold takeRows Cert.KernelIdeal.Value.inRange Cert.KernelIdeal.Value.wrapIdx
  congr 1

/-- The seventh stretch forms the layer's messages. -/
theorem body_6_msg {row : Ends} {h : Nodes} (ht : V (Proc.devRef .tc main_while0b_v34) = takeRows row h) :
    StableHlo.after while0Ops0_6 V (Proc.devRef .tc main_while0b_v43)
      = msgOps (V (Proc.devRef .tc main_v5_8)) (aggOf row (V (Proc.devRef .tc main_v5_6)) h)
          (V (Proc.devRef .tc main_while0b_v30)) (V (Proc.devRef .tc main_while0b_v29)) (V (Proc.devRef .tc main_while0b_v31)) := by
  after_reads_simp
  rw [ht, scatter_same]
  unfold aggOf msgOps spread
  congr 1

/-- The seventh stretch takes the column means of the messages. -/
theorem body_6_mean : StableHlo.after while0Ops0_6 V (Proc.devRef .tc main_while0b_v47)
      = colMean (StableHlo.after while0Ops0_6 V (Proc.devRef .tc main_while0b_v43)) count := by
  after_reads_simp
  rfl

/-- The seventh stretch leaves a zero correction to the count. -/
theorem body_6_zero : StableHlo.after while0Ops0_6 V (Proc.devRef .tc main_while0b_c_12) = constantI S_ 32 0#32 := by
  after_reads_simp
  try rfl

/-- The eighth stretch takes the variance of the messages. -/
theorem body_7 (hz : V (Proc.devRef .tc main_while0b_c_12) = constantI S_ 32 0#32) :
    StableHlo.after while0Ops0_7 V (Proc.devRef .tc main_while0b_v48) = varOps (V (Proc.devRef .tc main_while0b_v43)) := by
  after_reads_simp
  simp only [StableHlo.TRef.ofBuf_toBuf]
  rw [hz]
  rfl

/-- The stretches after it normalise, rectify and add to the features. -/
theorem body_tail (hs : V (Proc.devRef .tc main_while0b_v47) = colMean (V (Proc.devRef .tc main_while0b_v43)) count)
    (hv : V (Proc.devRef .tc main_while0b_v48) = varOps (V (Proc.devRef .tc main_while0b_v43))) :
    StableHlo.after while0Ops0_10 (StableHlo.after while0Ops0_9 (StableHlo.after while0Ops0_8 V)) (Proc.devRef .tc main_v5_8)
      = normOps (V (Proc.devRef .tc main_v5_8)) (V (Proc.devRef .tc main_while0b_v43)) (V (Proc.devRef .tc main_while0b_v32))
          (V (Proc.devRef .tc main_while0b_v33)) := by
  after_reads_simp
  simp only [StableHlo.TRef.ofBuf_toBuf]
  rw [hs, hv]
  rfl

end Cert.ReferenceIdeal.Value
-- ==== Proof.RefTrip.lean ====
module

public import proofs.«01_k».proof.Proof.Ref
public import Idealize.ShloMosaic.Lib.DynamicIndex

/-
  The reference's loop, trip by trip, as functions of whole arrays.
-/

@[expose] public section

set_option maxRecDepth 16384

noncomputable section

namespace Cert.ReferenceIdeal.Value

open Cert.ReferenceIdeal Cert.ReferenceIdeal.Gen
open Cert.KernelIdeal.Value (Nodes Wt Row Ends Edges rowOf colOf takeRows aggOf matOf vecOf)
open Idealize.ShloMosaic Idealize.ShloMosaic.TcCoe Idealize.SL.Sem

/-- Layer `i`'s bias of a stack of fifteen. -/
def vecB (A : Vec Ideal S15x128 .f32) (i : Fin 15) : Vect := fun j => A (ix2 i (j 0))

/-- One layer of the reference, from the edge list and the stacks of weights. -/
def layerR (row col : Ends) (wr wn : Vec Ideal S15x128x128 .f32) (b g be : Vec Ideal S15x128 .f32) (i : Fin 15)
    (h : Nodes) : Nodes :=
  normOps h (msgOps h (aggOf row col h) (matOf wn i) (matOf wr i) (vecB b i)) (vecB g i) (vecB be i)

/-- The loop's counter before trip `k`, read as a number, is `k`. -/
theorem iv_toInt (k : Fin 15) : (Scf.iv 0#32 1#32 k.val).toInt = (k.val : Int) := by
  revert k
  decide

/-- The matrix cut out of a stack at the loop's counter is the trip's matrix. -/
theorem matAt_iv (A : Vec Ideal S15x128x128 .f32) (k : Fin 15) : matAt A (fun _ => Scf.iv 0#32 1#32 k.val) = matOf A k := by
  have hs : S15x128x128.Slices ![k.val, 0, 0] S1x128x128 := by revert k; decide
  unfold matAt
  rw [Host.dynamicSlice_eq_extractStridedSlice S1x128x128 A _ ![k.val, 0, 0] _ hs]
  · exact Cert.KernelIdeal.Value.mat_slice A k hs _
  · intro a
    fin_cases a
    · exact iv_toInt k
    · rfl
    · rfl

/-- The row cut out of a stack at the loop's counter is the trip's row. -/
theorem vecAt_iv (A : Vec Ideal S15x128 .f32) (k : Fin 15) : vecAt A (fun _ => Scf.iv 0#32 1#32 k.val) = vecB A k := by
  have hs : S15x128.Slices ![k.val, 0] S1x128 := by revert k; decide
  unfold vecAt
  rw [Host.dynamicSlice_eq_extractStridedSlice S1x128 A _ ![k.val, 0] _ hs]
  · funext j
    unfold vecB
    pointwise
  · intro a
    fin_cases a
    · exact iv_toInt k
    · rfl

/-- The stretch leaves every buffer that it does not write as it was. -/
theorem skip_condOps (V : Valuation τ sig (Elt Ideal)) {r : Ref sig .tc} (h : r ∉ condOps_W) :
    StableHlo.after condOps V (no_index (Proc.devRef .tc r)) = V (Proc.devRef .tc r) :=
  StableHlo.after_of_writes_sub condOps V condOps_writes h

/-- The stretch leaves every buffer that it does not write as it was. -/
theorem skip_while0Ops0 (V : Valuation τ sig (Elt Ideal)) {r : Ref sig .tc} (h : r ∉ while0Ops0_W) :
    StableHlo.after while0Ops0 V (no_index (Proc.devRef .tc r)) = V (Proc.devRef .tc r) :=
  StableHlo.after_of_writes_sub while0Ops0 V while0Ops0_writes h

/-- The stretch leaves every buffer that it does not write as it was. -/
theorem skip_while0Ops0_1 (V : Valuation τ sig (Elt Ideal)) {r : Ref sig .tc} (h : r ∉ while0Ops0_1_W) :
    StableHlo.after while0Ops0_1 V (no_index (Proc.devRef .tc r)) = V (Proc.devRef .tc r) :=
  StableHlo.after_of_writes_sub while0Ops0_1 V while0Ops0_1_writes h

/-- The stretch leaves every buffer that it does not write as it was. -/
theorem skip_while0Ops0_2 (V : Valuation τ sig (Elt Ideal)) {r : Ref sig .tc} (h : r ∉ while0Ops0_2_W) :
    StableHlo.after while0Ops0_2 V (no_index (Proc.devRef .tc r)) = V (Proc.devRef .tc r) :=
  StableHlo.after_of_writes_sub while0Ops0_2 V while0Ops0_2_writes h

/-- The stretch leaves every buffer that it does not write as it was. -/
theorem skip_while0Ops0_3 (V : Valuation τ sig (Elt Ideal)) {r : Ref sig .tc} (h : r ∉ while0Ops0_3_W) :
    StableHlo.after while0Ops0_3 V (no_index (Proc.devRef .tc r)) = V (Proc.devRef .tc r) :=
  StableHlo.after_of_writes_sub while0Ops0_3 V while0Ops0_3_writes h

/-- The stretch leaves every buffer that it does not write as it was. -/
theorem skip_while0Ops0_4 (V : Valuation τ sig (Elt Ideal)) {r : Ref sig .tc} (h : r ∉ while0Ops0_4_W) :
    StableHlo.after while0Ops0_4 V (no_index (Proc.devRef .tc r)) = V (Proc.devRef .tc r) :=
  StableHlo.after_of_writes_sub while0Ops0_4 V while0Ops0_4_writes h

/-- The stretch leaves every buffer that it does not write as it was. -/
theorem skip_while0Ops0_5 (V : Valuation τ sig (Elt Ideal)) {r : Ref sig .tc} (h : r ∉ while0Ops0_5_W) :
    StableHlo.after while0Ops0_5 V (no_index (Proc.devRef .tc r)) = V (Proc.devRef .tc r) :=
  StableHlo.after_of_writes_sub while0Ops0_5 V while0Ops0_5_writes h

/-- The stretch leaves every buffer that it does not write as it was. -/
theorem skip_while0Ops0_6 (V : Valuation τ sig (Elt Ideal)) {r : Ref sig .tc} (h : r ∉ while0Ops0_6_W) :
    StableHlo.after while0Ops0_6 V (no_index (Proc.devRef .tc r)) = V (Proc.devRef .tc r) :=
  StableHlo.after_of_writes_sub while0Ops0_6 V while0Ops0_6_writes h

/-- The stretch leaves every buffer that it does not write as it was. -/
theorem skip_while0Ops0_7 (V : Valuation τ sig (Elt Ideal)) {r : Ref sig .tc} (h : r ∉ while0Ops0_7_W) :
    StableHlo.after while0Ops0_7 V (no_index (Proc.devRef .tc r)) = V (Proc.devRef .tc r) :=
  StableHlo.after_of_writes_sub while0Ops0_7 V while0Ops0_7_writes h

/-- The stretch leaves every buffer that it does not write as it was. -/
theorem skip_while0Ops0_8 (V : Valuation τ sig (Elt Ideal)) {r : Ref sig .tc} (h : r ∉ while0Ops0_8_W) :
    StableHlo.after while0Ops0_8 V (no_index (Proc.devRef .tc r)) = V (Proc.devRef .tc r) :=
  StableHlo.after_of_writes_sub while0Ops0_8 V while0Ops0_8_writes h

/-- The stretch leaves every buffer that it does not write as it was. -/
theorem skip_while0Ops0_9 (V : Valuation τ sig (Elt Ideal)) {r : Ref sig .tc} (h : r ∉ while0Ops0_9_W) :
    StableHlo.after while0Ops0_9 V (no_index (Proc.devRef .tc r)) = V (Proc.devRef .tc r) :=
  StableHlo.after_of_writes_sub while0Ops0_9 V while0Ops0_9_writes h

/-- The stretch leaves every buffer that it does not write as it was. -/
theorem skip_while0Ops0_10 (V : Valuation τ sig (Elt Ideal)) {r : Ref sig .tc} (h : r ∉ while0Ops0_10_W) :
    StableHlo.after while0Ops0_10 V (no_index (Proc.devRef .tc r)) = V (Proc.devRef .tc r) :=
  StableHlo.after_of_writes_sub while0Ops0_10 V while0Ops0_10_writes h

/-- The buffers that no operation of the loop writes. -/
abbrev fixed : List (Ref sig .tc) :=
  [main_arg8, main_arg9, main_arg10, main_arg11, main_arg12, main_arg13, main_v1, main_v3, main_v5_0, main_v5_1, main_v5_2, main_v5_3,
   main_v5_4, main_v5_5, main_v5_6]

/-- A buffer that the loop does not write keeps its contents through a trip. -/
theorem body_fixed (V : Valuation τ sig (Elt Ideal)) (r : Ref sig .tc) (hr : r ∈ fixed) :
    StableHlo.afterL bodyI (StableHlo.after condOps V) (Proc.devRef .tc r) = V (Proc.devRef .tc r) := by
  simp only [StableHlo.afterL_cons, StableHlo.afterL_nil]
  revert r
  simp only [fixed, List.forall_mem_cons]
  refine ⟨?_, ?_, ?_, ?_, ?_, ?_, ?_, ?_, ?_, ?_, ?_, ?_, ?_, ?_, ?_, by simp⟩ <;>
    simp (disch := decide +kernel) only [skip_condOps, skip_while0Ops0, skip_while0Ops0_1, skip_while0Ops0_2, skip_while0Ops0_3, skip_while0Ops0_4, skip_while0Ops0_5, skip_while0Ops0_6, skip_while0Ops0_7, skip_while0Ops0_8, skip_while0Ops0_9, skip_while0Ops0_10]

/-- One trip of the loop is one layer. -/
theorem body_layer (V : Valuation τ sig (Elt Ideal)) (k : Fin 15)
    (hk : V (Proc.devRef .tc main_v5_7) = fun _ => Scf.iv 0#32 1#32 k.val) :
    StableHlo.afterL bodyI (StableHlo.after condOps V) (Proc.devRef .tc main_v5_8)
      = layerR (V (Proc.devRef .tc main_v5_5)) (V (Proc.devRef .tc main_v5_6)) (V (Proc.devRef .tc main_v5_0))
          (V (Proc.devRef .tc main_v5_1)) (V (Proc.devRef .tc main_v5_2)) (V (Proc.devRef .tc main_v5_3))
          (V (Proc.devRef .tc main_v5_4)) k (V (Proc.devRef .tc main_v5_8)) := by
  simp only [StableHlo.afterL_cons, StableHlo.afterL_nil]
  rw [body_tail]
  · simp (disch := decide +kernel) only [skip_condOps, skip_while0Ops0, skip_while0Ops0_1, skip_while0Ops0_2, skip_while0Ops0_3, skip_while0Ops0_4, skip_while0Ops0_5, skip_while0Ops0_6, skip_while0Ops0_7, skip_while0Ops0_8, skip_while0Ops0_9, skip_while0Ops0_10]
    rw [body_6_msg _ (body_5 _)]
    simp (disch := decide +kernel) only [skip_condOps, skip_while0Ops0, skip_while0Ops0_1, skip_while0Ops0_2, skip_while0Ops0_3, skip_while0Ops0_4, skip_while0Ops0_5, skip_while0Ops0_6, skip_while0Ops0_7, skip_while0Ops0_8, skip_while0Ops0_9, skip_while0Ops0_10]
    rw [body_0, body_1, body_2, body_3, body_4]
    simp (disch := decide +kernel) only [skip_while0Ops0_3]
    simp (disch := decide +kernel) only [skip_while0Ops0_2]
    simp (disch := decide +kernel) only [skip_while0Ops0_1]
    simp (disch := decide +kernel) only [skip_while0Ops0]
    simp (disch := decide +kernel) only [skip_condOps]
    rw [hk]
    unfold layerR
    simp only [← matAt_iv, ← vecAt_iv]
    rfl
  · simp (disch := decide +kernel) only [skip_while0Ops0_7]
    rw [body_6_mean]
  · rw [body_7 _ (body_6_zero _)]
    simp (disch := decide +kernel) only [skip_while0Ops0_7]

end Cert.ReferenceIdeal.Value
-- ==== Proof.RefEnd.lean ====
module

public import proofs.«01_k».proof.Proof.RefTrip
public import proofs.«01_k».proof.Proof.Edge

/-
  The reference's result, as a function of its arguments.
-/

@[expose] public section

set_option maxRecDepth 16384

noncomputable section

namespace Cert.ReferenceIdeal.Value

open Cert.ReferenceIdeal Cert.ReferenceIdeal.Gen
open Cert.KernelIdeal.Value (Nodes Wt Row Ends Edges rowOf colOf takeRows aggOf matOf vecOf edgeOut topOf botOf rowB oneB padOf padOf_col)
open Idealize.ShloMosaic Idealize.ShloMosaic.TcCoe Idealize.SL.Sem

/-- The input layer as the reference writes it. -/
def inpOps (x : Vec Ideal S50000x2 .f32) (w : Vec Ideal S2x128 .f32) : Nodes :=
  Host.dotGeneral (F := Ideal) (φ₁ := .f32) (φ₂ := .f32) dot_S50000x2_S2x128_S50000x128_1_0_0_1_n_n none x w

/-- One rectified row added to every edge. -/
def reluE (M : Edges) (b : Vect) : Edges :=
  maximumf (F := Ideal) (φ := .f32) (addf (F := Ideal) (φ := .f32) M (broadcastInDim S800000x128 ![0, 1] bcast_S1x128_S800000x128_0_1
      (broadcastInDim S1x128 ![1] bcast_S128_S1x128_1 b)))
    (broadcastInDim S800000x128 ![] bcast_S_S800000x128 (constant (F := Ideal) S_ .f32 0x00000000#32))

/-- The edge network's first layer: the two ends side by side, times the weight, plus the bias, rectified. -/
def edge1 (es ed : Edges) (w₁ : Vec Ideal S256x128 .f32) (b₁ : Vect) : Edges :=
  reluE (Host.dotGeneral (F := Ideal) (φ₁ := .f32) (φ₂ := .f32) dot_S800000x256_S256x128_S800000x128_1_0_0_1_n_n none
    (concatenate S800000x256 1 [⟨S800000x128, es⟩, ⟨S800000x128, ed⟩] concatenates_S800000x128_S800000x128_S800000x256_d1) w₁) b₁

/-- The second layer. -/
def edge2 (e : Edges) (w₂ : Wt) (b₂ : Vect) : Edges :=
  reluE (Host.dotGeneral (F := Ideal) (φ₁ := .f32) (φ₂ := .f32) dot_S800000x128_S128x128_S800000x128_1_0_0_1_n_n none e w₂) b₂

/-- The third layer and the sigmoid. -/
def edge3 (e : Edges) (w₃ : Vec Ideal S128x1 .f32) (b₃ : Vec Ideal S1 .f32) : Vec Ideal S800000x1 .f32 :=
  Host.divf (F := Ideal) (φ := .f32) (broadcastInDim S800000x1 ![] bcast_S_S800000x1 (constant (F := Ideal) S_ .f32 0x3F800000#32))
    (addf (F := Ideal) (φ := .f32) (broadcastInDim S800000x1 ![] bcast_S_S800000x1 (constant (F := Ideal) S_ .f32 0x3F800000#32))
      (Host.exp (F := Ideal) (φ := .f32) (Host.negf (F := Ideal) (φ := .f32) (addf (F := Ideal) (φ := .f32)
        (Host.dotGeneral (F := Ideal) (φ₁ := .f32) (φ₂ := .f32) dot_S800000x128_S128x1_S800000x1_1_0_0_1_n_n none e w₃)
        (broadcastInDim S800000x1 ![0, 1] bcast_S1x1_S800000x1_0_1 (broadcastInDim S1x1 ![1] bcast_S1_S1x1_1 b₃))))))

/-- What the stretch before the loop leaves in the buffers that the loop carries. -/
theorem entry_fixed (V : Valuation τ sig (Elt Ideal)) :
    StableHlo.after hostOps0 V (Proc.devRef .tc main_v1) = rowOf (V (Proc.devRef .tc main_arg1))
    ∧ StableHlo.after hostOps0 V (Proc.devRef .tc main_v3) = colOf (V (Proc.devRef .tc main_arg1))
    ∧ StableHlo.after hostOps0 V (Proc.devRef .tc main_v5_0) = V (Proc.devRef .tc main_arg3)
    ∧ StableHlo.after hostOps0 V (Proc.devRef .tc main_v5_1) = V (Proc.devRef .tc main_arg4)
    ∧ StableHlo.after hostOps0 V (Proc.devRef .tc main_v5_2) = V (Proc.devRef .tc main_arg5)
    ∧ StableHlo.after hostOps0 V (Proc.devRef .tc main_v5_3) = V (Proc.devRef .tc main_arg6)
    ∧ StableHlo.after hostOps0 V (Proc.devRef .tc main_v5_4) = V (Proc.devRef .tc main_arg7)
    ∧ StableHlo.after hostOps0 V (Proc.devRef .tc main_v5_5) = rowOf (V (Proc.devRef .tc main_arg1))
    ∧ StableHlo.after hostOps0 V (Proc.devRef .tc main_v5_6) = colOf (V (Proc.devRef .tc main_arg1))
    ∧ StableHlo.after hostOps0 V (Proc.devRef .tc main_v5_8) = inpOps (V (Proc.devRef .tc main_arg0)) (V (Proc.devRef .tc main_arg2)) := by
  refine ⟨?_, ?_, ?_, ?_, ?_, ?_, ?_, ?_, ?_, ?_⟩ <;> (after_reads_simp; rfl)

variable (V : Valuation τ sig (Elt Ideal))

/-- After the loop: the features of the edges' sources. -/
theorem post_1 : StableHlo.after hostOps0_1 V (Proc.devRef .tc main_v6)
    = takeRows (V (Proc.devRef .tc main_v1)) (V (Proc.devRef .tc main_v5_8)) := by
  after_reads_simp
  simp only [StableHlo.TRef.ofBuf_toBuf, gather_same]
  unfold takeRows Cert.KernelIdeal.Value.inRange Cert.KernelIdeal.Value.wrapIdx
  congr 1

/-- After the loop: the features of the edges' targets. -/
theorem post_2 : StableHlo.after hostOps0_2 V (Proc.devRef .tc main_v7)
    = takeRows (V (Proc.devRef .tc main_v3)) (V (Proc.devRef .tc main_v5_8)) := by
  after_reads_simp
  simp only [StableHlo.TRef.ofBuf_toBuf, gather_same]
  unfold takeRows Cert.KernelIdeal.Value.inRange Cert.KernelIdeal.Value.wrapIdx
  congr 1

/-- The edge network's first layer. -/
theorem post_34 : StableHlo.after hostOps0_4 (StableHlo.after hostOps0_3 V) (Proc.devRef .tc main_v13)
    = edge1 (V (Proc.devRef .tc main_v6)) (V (Proc.devRef .tc main_v7)) (V (Proc.devRef .tc main_arg8)) (V (Proc.devRef .tc main_arg9)) := by
  after_reads_simp
  simp only [StableHlo.TRef.ofBuf_toBuf]
  rfl

/-- The edge network's second layer. -/
theorem post_56 : StableHlo.after hostOps0_6 (StableHlo.after hostOps0_5 V) (Proc.devRef .tc main_v18)
    = edge2 (V (Proc.devRef .tc main_v13)) (V (Proc.devRef .tc main_arg10)) (V (Proc.devRef .tc main_arg11)) := by
  after_reads_simp
  simp only [StableHlo.TRef.ofBuf_toBuf]
  rfl

/-- The edge network's last layer. -/
theorem post_7 : StableHlo.after hostOps0_7 V (Proc.devRef .tc main_v28)
    = edge3 (V (Proc.devRef .tc main_v18)) (V (Proc.devRef .tc main_arg12)) (V (Proc.devRef .tc main_arg13)) := by
  after_reads_simp
  rfl

end Cert.ReferenceIdeal.Value
-- ==== Proof.Index.lean ====
module

public import proofs.«01_k».proof.Proof.RefEnd
public import Idealize.ShloMosaic.Lib.IdealHost

/-
  The pieces of the reference and of the host operations between the launches, read at an index.
-/

@[expose] public section

set_option maxRecDepth 16384

noncomputable section

namespace Cert.ReferenceIdeal.Value

open Cert.ReferenceIdeal Cert.ReferenceIdeal.Gen
open Cert.KernelIdeal.Value
open Idealize.ShloMosaic Idealize.ShloMosaic.TcCoe Idealize.SL.Sem

/-- The reference's input layer is the kernel's. -/
theorem inpOps_eq (x : Vec Ideal S50000x2 .f32) (w : Vec Ideal S2x128 .f32) : inpOps x w = inp x w := by
  funext i
  unfold inpOps inp
  pointwise
  exact Fin.sum_univ_two _

/-- The reference's message of a layer is the kernel's. -/
theorem msgOps_eq (h a : Nodes) (wn wr : Wt) (b : Vec Ideal S15x128 .f32) (i : Fin 15) :
    msgOps h a wn wr (vecB b i) = lm h a wn wr (vecOf b i) := by
  funext j
  unfold msgOps lm spread vecB vecOf
  rw [add_right_comm]
  pointwise

/-- The column means at an index: the sum over the nodes over their number. -/
theorem colMean_at (M : Nodes) (n : Row) (j : S1x128.Idx) :
    colMean M n j = Ideal.div (∑ r : Fin 50000, M (ix2 r (j 1))) (n j) := by
  unfold colMean
  pointwise

/-- The biased and rectified edge features at an index. -/
theorem reluE_at (M : Edges) (b : Vect) (j : S800000x128.Idx) : reluE M b j = max (M j + rowB b (ix2 0 (j 1))) 0 := by
  unfold reluE rowB
  pointwise

/-- The edge network's first layer at an index. -/
theorem edge1_at (es ed : Edges) (w : Vec Ideal S256x128 .f32) (b : Vect) (j : S800000x128.Idx) :
    edge1 es ed w b j = max ((∑ k : Fin 128, es (ix2 (j 0) k) * topOf w (ix2 k (j 1)))
      + (∑ k : Fin 128, ed (ix2 (j 0) k) * botOf w (ix2 k (j 1))) + rowB b (ix2 0 (j 1))) 0 := by
  unfold edge1
  rw [reluE_at]
  congr 2
  unfold topOf botOf
  pointwise

/-- The edge network's second layer at an index. -/
theorem edge2_at (e : Edges) (w : Wt) (b : Vect) (j : S800000x128.Idx) :
    edge2 e w b j = max ((∑ k : Fin 128, e (ix2 (j 0) k) * w (ix2 k (j 1))) + rowB b (ix2 0 (j 1))) 0 := by
  unfold edge2
  rw [reluE_at]
  congr 2
  pointwise

/-- The edge network's last layer at an index, a sigmoid. -/
theorem edge3_at (e : Edges) (w : Vec Ideal S128x1 .f32) (b : Vec Ideal S1 .f32) (j : S800000x1.Idx) :
    edge3 e w b j = Ideal.logistic ((∑ k : Fin 128, e (ix2 (j 0) k) * w (ix2 k 0)) + oneB b (ix2 0 0)) := by
  unfold edge3 oneB Ideal.logistic
  pointwise
  have e : j 1 = (0 : Fin 1) := Fin.fin_one_eq_zero _
  rw [e]

/-- The number of nodes as the reference writes it. -/
theorem ofBits_50000 : Ideal.ofBits .f32 0x47435000#32 = ((50000 : ℝ) : EReal) := by
  simp [Ideal.ofBits, Ideal.ieee, -EReal.coe_mul]; norm_num

/-- The small constant under the root is a positive real number. -/
theorem eps_pos : ∃ e : ℝ, 0 < e ∧ Ideal.ofBits .f32 0x3727C5AC#32 = (e : EReal) := by
  refine ⟨(8388608 + 2606508) * 2 ^ (-40 : ℤ), by positivity, ?_⟩
  simp [Ideal.ofBits, Ideal.ieee, -EReal.coe_mul]; norm_num

/-- The row of node counts is 50000 everywhere. -/
theorem count_at (j : S1x128.Idx) : count j = ((50000 : ℝ) : EReal) := by
  unfold count
  pointwise
  exact ofBits_50000

/-- The node count is 50000. -/
theorem count0_at (j : S_.Idx) : count0 j = ((50000 : ℝ) : EReal) := by
  unfold count0
  pointwise
  rw [ofBits_50000, show FloatOps.sitofp (F := Ideal) .f32 (0#32) = ((0 : ℝ) : EReal) from by
    simp [FloatOps.sitofp]]
  norm_num

/-- The reference's variance at an index: the mean of the squared differences from the mean. -/
theorem varOps_at (M : Nodes) (j : S1x128.Idx) : varOps M j
    = Ideal.div (∑ r : Fin 50000, (M (ix2 r (j 1)) - colMean M count (ix2 0 (j 1))) * (M (ix2 r (j 1)) - colMean M count (ix2 0 (j 1))))
        ((50000 : ℝ) : EReal) := by
  have hc : ∀ j, count0 j = ((50000 : ℝ) : EReal) := count0_at
  unfold varOps rows
  generalize colMean M count = A
  unfold colMean
  generalize count0 = n at hc ⊢
  pointwise
  rw [hc, if_pos (by exact_mod_cast (by norm_num : (0 : ℝ) < 50000))]

/-- The reference's normalised and rectified update at an index. -/
theorem normOps_at (h M : Nodes) (g be : Vec Ideal S15x128 .f32) (i : Fin 15) (j : S50000x128.Idx) :
    normOps h M (vecB g i) (vecB be i) j = h j + max (Ideal.div (M j - colMean M count (ix2 0 (j 1)))
      (Ideal.sqrt (varOps M (ix2 0 (j 1)) + Ideal.ofBits .f32 0x3727C5AC#32)) * g (ix2 i (j 1)) + be (ix2 i (j 1))) 0 := by
  unfold normOps rows spread vecB
  generalize colMean M count = A
  generalize varOps M = B
  pointwise

/-- The kernel's scale at an index. -/
theorem scaleOf_at (s q g : Row) (j : S1x128.Idx) :
    scaleOf s q g j = g j * Ideal.rsqrt (q j - s j * s j + Ideal.ofBits .f32 0x3727C5AC#32) := by
  unfold scaleOf
  pointwise

/-- The kernel's shift at an index. -/
theorem shiftOf_at (s q g b : Row) (j : S1x128.Idx) :
    shiftOf s q g b j = b j - s j * scaleOf s q g j := by
  unfold shiftOf
  generalize scaleOf s q g = A
  pointwise

end Cert.ReferenceIdeal.Value
-- ==== Proof.Algebra.lean ====
module

public import proofs.«01_k».proof.Proof.Index
public import Idealize.ShloMosaic.Lib.ReduceAll
public import Idealize.ShloMosaic.Lib.Affine

/-
  A layer of the kernel and a layer of the reference agree where every input is a real number and every edge index is in range.
-/

@[expose] public section

set_option maxRecDepth 16384

noncomputable section

namespace Cert.ReferenceIdeal.Value

open Cert.KernelIdeal (S50000x2 S2x128 S15x128x128 S15x128 S128x128 S1x128 S50000x128 S800000 S2x800000 S800000x1)
open Cert.KernelIdeal.Value
open Idealize.ShloMosaic Idealize.ShloMosaic.TcCoe Idealize.SL.Sem

/-- The value is a real number. -/
def IsR (x : EReal) : Prop := ∃ r : ℝ, x = (r : EReal)

/-- The sum of two real values is real. -/
theorem IsR.add {x y : EReal} : IsR x → IsR y → IsR (x + y) := by
  rintro ⟨a, rfl⟩ ⟨b, rfl⟩
  exact ⟨a + b, (EReal.coe_add a b).symm⟩

/-- The product of two real values is real. -/
theorem IsR.mul {x y : EReal} : IsR x → IsR y → IsR (x * y) := by
  rintro ⟨a, rfl⟩ ⟨b, rfl⟩
  exact ⟨a * b, (EReal.coe_mul a b).symm⟩

/-- Zero is real. -/
theorem IsR.zero : IsR 0 := ⟨0, rfl⟩

/-- The larger of two real values is real. -/
theorem IsR.max {x y : EReal} (hx : IsR x) (hy : IsR y) : IsR (max x y) := by
  rcases le_total x y with h | h
  · rwa [max_eq_right h]
  · rwa [max_eq_left h]

/-- A finite sum of real values is real. -/
theorem IsR.sum {ι : Type} (s : Finset ι) {f : ι → EReal} (h : ∀ i, IsR (f i)) : IsR (∑ i ∈ s, f i) := by
  classical
  induction s using Finset.induction_on with
  | empty => exact ⟨0, by simp⟩
  | insert a s ha ih => rw [Finset.sum_insert ha]; exact (h a).add ih

/-- A finite sum of real numbers, taken among the extended reals, is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The mean squared distance from the mean is the mean square minus the square of the mean. -/
theorem var_eq (f : Fin 50000 → ℝ) (μ : ℝ) (hμ : μ = (∑ r, f r) * (1 / 50000)) :
    (∑ r, (f r - μ) * (f r - μ)) * (1 / 50000) = (∑ r, f r * f r) * (1 / 50000) - μ * μ := by
  have h : ∑ r, (f r - μ) * (f r - μ) = ∑ r, f r * f r - 2 * μ * ∑ r, f r + 50000 * (μ * μ) := by
    have e : ∀ r, (f r - μ) * (f r - μ) = f r * f r - 2 * μ * f r + μ * μ := fun r => by ring
    simp only [e, Finset.sum_add_distrib, Finset.sum_sub_distrib, ← Finset.mul_sum, Finset.sum_const, Finset.card_univ,
      Fintype.card_fin, nsmul_eq_mul]
    norm_num
    ring
  have h' : ∑ r, f r = 50000 * μ := by rw [hμ]; ring
  rw [h, h']
  ring

/-- One column normalised both ways: with the mean and the mean square, a scale and a shift; with the mean and the variance,
    a difference and a quotient. -/
theorem norm_eq (f : Fin 50000 → ℝ) (e : ℝ) (he : 0 < e) (x g b : ℝ) :
    let s : EReal := (∑ r, (f r : EReal)) * ((1 / 50000 : ℝ) : EReal)
    let q : EReal := (∑ r, (f r : EReal) * (f r : EReal)) * ((1 / 50000 : ℝ) : EReal)
    let n : EReal := ((50000 : ℝ) : EReal)
    let μ : EReal := Ideal.div (∑ r, (f r : EReal)) n
    let v : EReal := Ideal.div (∑ r, ((f r : EReal) - μ) * ((f r : EReal) - μ)) n
    (x : EReal) * ((g : EReal) * Ideal.rsqrt (q - s * s + (e : EReal))) + ((b : EReal) - s * ((g : EReal) * Ideal.rsqrt (q - s * s + (e : EReal))))
        = Ideal.div ((x : EReal) - μ) (Ideal.sqrt (v + (e : EReal))) * (g : EReal) + (b : EReal)
      ∧ IsR (Ideal.div ((x : EReal) - μ) (Ideal.sqrt (v + (e : EReal))) * (g : EReal) + (b : EReal)) := by
  intro s q n μ v
  obtain ⟨M, hM⟩ : ∃ M : ℝ, M = (∑ r, f r) * (1 / 50000) := ⟨_, rfl⟩
  obtain ⟨Q, hQ⟩ : ∃ Q : ℝ, Q = (∑ r, f r * f r) * (1 / 50000) := ⟨_, rfl⟩
  have hn : (50000 : ℝ) ≠ 0 := by norm_num
  have hs : s = (M : EReal) := by
    show (∑ r, (f r : EReal)) * ((1 / 50000 : ℝ) : EReal) = _
    rw [coe_sum, ← EReal.coe_mul, hM]
  have hμ : μ = (M : EReal) := by
    show Ideal.div (∑ r, (f r : EReal)) ((50000 : ℝ) : EReal) = _
    rw [Ideal.div_coe hn]
    exact hs
  have hq : q = (Q : EReal) := by
    show (∑ r, (f r : EReal) * (f r : EReal)) * ((1 / 50000 : ℝ) : EReal) = _
    simp only [← EReal.coe_mul]
    rw [coe_sum, ← EReal.coe_mul, hQ]
  have hv : v = ((Q - M * M : ℝ) : EReal) := by
    show Ideal.div (∑ r, ((f r : EReal) - μ) * ((f r : EReal) - μ)) ((50000 : ℝ) : EReal) = _
    rw [Ideal.div_coe hn, hμ]
    simp only [← EReal.coe_sub, ← EReal.coe_mul]
    rw [coe_sum, ← EReal.coe_mul, var_eq f M hM, hQ]
  have h0 : 0 ≤ Q - M * M := by
    rw [hQ, ← var_eq f M hM]
    exact mul_nonneg (Finset.sum_nonneg fun r _ => mul_self_nonneg _) (by norm_num)
  have hp : 0 < Q - M * M + e := by linarith
  have hr : q - s * s + (e : EReal) = ((Q - M * M + e : ℝ) : EReal) := by
    rw [hq, hs, ← EReal.coe_mul, ← EReal.coe_sub, ← EReal.coe_add]
  have hR : Ideal.rsqrt (q - s * s + (e : EReal)) = (((Real.sqrt (Q - M * M + e))⁻¹ : ℝ) : EReal) := by
    rw [hr, Ideal.rsqrt_coe, if_neg (not_lt.2 hp.le), if_neg hp.ne']
  have hS : Ideal.sqrt (v + (e : EReal)) = ((Real.sqrt (Q - M * M + e) : ℝ) : EReal) := by
    rw [hv, ← EReal.coe_add, Ideal.sqrt_coe, if_neg (not_lt.2 hp.le)]
  have hne : Real.sqrt (Q - M * M + e) ≠ 0 := (Real.sqrt_pos.2 hp).ne'
  rw [hR, hS, hs, hμ, Ideal.div_coe hne]
  simp only [← EReal.coe_sub, ← EReal.coe_mul, ← EReal.coe_add]
  refine ⟨?_, _, rfl⟩
  refine EReal.coe_eq_coe_iff.2 ?_
  rw [one_div]
  ring

/-- Every entry is a real number. -/
def AllR {s : Shape} (X : Vec Ideal s .f32) : Prop := ∀ i, IsR (X i)

/-- Every edge index is a row of the node array. -/
def InRange (idx : Ends) : Prop := ∀ j, 0 ≤ (idx j).toInt ∧ (idx j).toInt < 50000

/-- A word that is not negative stays as it is where negative ones are counted from the end. -/
theorem wrap_word (z : BitVec 32) (h : 0 ≤ z.toInt) :
    Scalar.select (IntOp.cmpi .slt z 0#32) (IntOp.addi z 50000#32) z = z := by
  have hlt : z.slt 0#32 = false := by
    simp only [BitVec.slt, BitVec.toInt_zero, decide_eq_false_iff_not, Int.not_lt]
    exact h
  show (if BitVec.ofBool (z.slt 0#32) = 1 then _ else _) = _
  rw [hlt]
  rfl

/-- The test that a word lies between 0 and 49999. -/
theorem range_word (z : BitVec 32) (h : 0 ≤ z.toInt ∧ z.toInt < 50000) :
    IntOp.andi (IntOp.cmpi .sge z 0#32) (IntOp.cmpi .sle z 49999#32) = 1#1 := by
  have h0 : IntOp.cmpi .sge z 0#32 = 1#1 := by
    rw [IntOp.cmpi_sge]; exact h.1
  have h1 : IntOp.cmpi .sle z 49999#32 = 1#1 := by
    rw [IntOp.cmpi_sle]; exact Int.le_of_lt_add_one h.2
  rw [h0, h1]
  rfl

/-- Rows taken at indices in range from an array of real numbers are real numbers. -/
theorem take_real {idx : Ends} {h : Nodes} (hi : InRange idx) (hh : AllR h) : AllR (takeRows idx h) := by
  have hw : ∀ j : S800000x1.Idx, wrapIdx idx j = idx (ix1 (j 0)) := by
    intro j
    have := (hi (ix1 (j 0))).1
    unfold wrapIdx
    pointwise
    exact wrap_word _ this
  have hr : ∀ j, inRange (wrapIdx idx) j = 1#1 := by
    intro j
    unfold inRange
    refine Host.reduce_andi_one _ _ _ _ _ rfl fun i => ?_
    have := hi (ix1 (i 0))
    have e := hw i
    generalize wrapIdx idx = w at e ⊢
    rw [show idx (ix1 (i 0)) = w i from e.symm] at this
    exact range_word _ this
  intro i
  unfold takeRows
  generalize inRange (wrapIdx idx) = p at hr ⊢
  generalize wrapIdx idx = w
  have e : broadcastInDim Cert.KernelIdeal.S800000x128 ![0] Cert.KernelIdeal.Gen.bcast_S800000_S800000x128_0 p i = 1#1 := hr _
  simp only [select, e]
  exact hh _

/-- Sums of such rows are real numbers. -/
theorem agg_real {row col : Ends} {h : Nodes} (hr : InRange row) (hh : AllR h) : AllR (aggOf row col h) := by
  intro i
  have ht := take_real hr hh
  unfold aggOf
  generalize takeRows row h = T at ht ⊢
  show IsR (_ + ∑ j ∈ _, T j)
  refine IsR.add ?_ (IsR.sum _ ht)
  exact ⟨0, by pointwise; rfl⟩

/-- The messages of a layer are real numbers. -/
theorem lm_real {h a : Nodes} {wn wr : Wt} {b : Row} (hh : AllR h) (ha : AllR a) (hn : AllR wn) (hr : AllR wr) (hb : AllR b) :
    AllR (lm h a wn wr b) := fun i =>
  ((IsR.sum _ fun k => (ha _).mul (hn _)).add (IsR.sum _ fun k => (hh _).mul (hr _))).add (hb _)

/-- The input layer is real. -/
theorem inp_real {x : Vec Ideal S50000x2 .f32} {w : Vec Ideal S2x128 .f32} (hx : AllR x) (hw : AllR w) : AllR (inp x w) :=
  fun i => ((hx _).mul (hw _)).add ((hx _).mul (hw _))

/-- One layer: the kernel's is the reference's, and it is real. -/
theorem layer_eq {row col : Ends} {wr wn : Vec Ideal S15x128x128 .f32} {b g be : Vec Ideal S15x128 .f32} (i : Fin 15) {h : Nodes}
    (hrow : InRange row) (hwr : AllR wr) (hwn : AllR wn) (hb : AllR b) (hg : AllR g) (hbe : AllR be) (hh : AllR h) :
    layerK row col wr wn b g be i h = layerR row col wr wn b g be i h ∧ AllR (layerR row col wr wn b g be i h) := by
  have hM : AllR (lm h (aggOf row col h) (matOf wn i) (matOf wr i) (vecOf b i)) :=
    lm_real hh (agg_real hrow hh) (fun _ => hwn _) (fun _ => hwr _) (fun _ => hb _)
  have key : ∀ j, layerK row col wr wn b g be i h j = layerR row col wr wn b g be i h j ∧ IsR (layerR row col wr wn b g be i h j) := by
    intro j
    unfold layerK layerR
    rw [msgOps_eq, normOps_at]
    simp only [la, shiftOf_at, scaleOf_at, varOps_at, colMean_at, count_at]
    generalize lm h (aggOf row col h) (matOf wn i) (matOf wr i) (vecOf b i) = M at hM ⊢
    choose f hf using hM
    obtain ⟨e, he, hee⟩ := eps_pos
    obtain ⟨γ, hγ⟩ := hg (ix2 i (j 1))
    obtain ⟨β, hβ⟩ := hbe (ix2 i (j 1))
    have := norm_eq (fun r => f (ix2 r (j 1))) e he (f j) γ β
    rw [hee]
    have hmean : ∀ G : Nodes, lmean G (ix2 0 (j 1)) = (∑ r : Fin 50000, G (ix2 r (j 1))) * ((1 / 50000 : ℝ) : EReal) := fun G => rfl
    have hvec : ∀ A : Vec Ideal S15x128 .f32, vecOf A i (ix2 0 (j 1)) = A (ix2 i (j 1)) := fun A => rfl
    have hsq : ∀ r : Fin 50000, sq M (ix2 r (j 1)) = M (ix2 r (j 1)) * M (ix2 r (j 1)) := fun r => rfl
    have h1 : ∀ r : Fin 50000, M (ix2 r ((ix2 0 (j 1) : S1x128.Idx) 1)) = M (ix2 r (j 1)) := fun r => rfl
    simp only [hmean, hvec, hsq, h1, hf, hγ, hβ]
    refine ⟨?_, ?_⟩
    · exact congrArg (fun z => h j + max z 0) this.1
    · exact (hh j).add (this.2.max IsR.zero)
  exact ⟨funext fun j => (key j).1, fun j => (key j).2⟩

/-- The edge network: the reference's is the kernel's, for any values. -/
theorem edge_eq (es ed : Edges) (w₁ : Vec Ideal Cert.KernelIdeal.S256x128 .f32) (b₁ : Vect) (w₂ : Wt) (b₂ : Vect)
    (w₃ : Vec Ideal Cert.KernelIdeal.S128x1 .f32) (b₃ : Vec Ideal Cert.KernelIdeal.S1 .f32) :
    edge3 (edge2 (edge1 es ed w₁ b₁) w₂ b₂) w₃ b₃
      = edgeOut es ed (topOf w₁) (botOf w₁) (rowB b₁) w₂ (rowB b₂) (padOf w₃) (oneB b₃) := by
  funext j
  unfold edgeOut
  rw [edge3_at]
  simp only [edge2_at, edge1_at, padOf_col]
  rfl

end Cert.ReferenceIdeal.Value
-- ==== Proof.RefRun.lean ====
module

public import proofs.«01_k».proof.Proof.RefEnd
public import proofs.«01_k».proof.Proof.RefTrip
public import proofs.«01_k».proof.Proof.Iter

/-
  Every run of the reference ends with the result `resultR` and the arguments as launched.
-/

@[expose] public section

set_option maxRecDepth 16384

noncomputable section

namespace Cert.ReferenceIdeal.Value

open Cert.KernelIdeal.Value (Nodes Wt Edges Ends rowOf colOf takeRows layersOf)
open Cert.ReferenceIdeal Cert.ReferenceIdeal.Gen
open Idealize.ShloMosaic Idealize.ShloMosaic.TcCoe Idealize.SL.Sem

/-- The reference's result as a function of its arguments. -/
def resultR (x : Vec Ideal S50000x2 .f32) (e : Vec Ideal S2x800000 .i32) (w : Vec Ideal S2x128 .f32)
    (wr wn : Vec Ideal S15x128x128 .f32) (b g be : Vec Ideal S15x128 .f32) (w₁ : Vec Ideal S256x128 .f32) (b₁ : Vect) (w₂ : Wt)
    (b₂ : Vect) (w₃ : Vec Ideal S128x1 .f32) (b₃ : Vec Ideal S1 .f32) : Vec Ideal S800000x1 .f32 :=
  let h := layersOf (layerR (rowOf e) (colOf e) wr wn b g be) (inpOps x w) 15
  edge3 (edge2 (edge1 (takeRows (rowOf e) h) (takeRows (colOf e) h) w₁ b₁) w₂ b₂) w₃ b₃

/-- The arguments. -/
abbrev args : List (Ref sig .tc) :=
  [main_arg0, main_arg1, main_arg2, main_arg3, main_arg4, main_arg5, main_arg6, main_arg7, main_arg8, main_arg9, main_arg10, main_arg11, main_arg12, main_arg13]

variable (V : Valuation τ sig (Elt Ideal))

/-! ## What the stretches outside the loop leave alone -/

/-- The buffers that stretch writes. -/
abbrev hostOps0_1_W : List (Ref sig .tc) := [main_call8_c, main_call8_v0, main_call8_v1, main_call8_c_0, main_call8_v2,
  main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v6]
/-- It writes these buffers only. -/
theorem hostOps0_1_writes : (hostOps0_1 : List (HloOp τ sig (Elt Ideal))).Forall fun op =>
    op.writes ⊆ (hostOps0_1_W.map (Proc.devRef (τ := τ) .tc)).toFinset :=
  StableHlo.forall_writes_sub_of_map rfl

/-- The buffers that stretch writes. -/
abbrev hostOps0_2_W : List (Ref sig .tc) := [main_call9_c, main_call9_v0, main_call9_v1, main_call9_c_0, main_call9_v2,
  main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v7]
/-- It writes these buffers only. -/
theorem hostOps0_2_writes : (hostOps0_2 : List (HloOp τ sig (Elt Ideal))).Forall fun op =>
    op.writes ⊆ (hostOps0_2_W.map (Proc.devRef (τ := τ) .tc)).toFinset :=
  StableHlo.forall_writes_sub_of_map rfl

/-- The buffers that stretch writes. -/
abbrev hostOps0_3_W : List (Ref sig .tc) := [main_v8, main_v9, main_v10, main_v11, main_v12]
/-- It writes these buffers only. -/
theorem hostOps0_3_writes : (hostOps0_3 : List (HloOp τ sig (Elt Ideal))).Forall fun op =>
    op.writes ⊆ (hostOps0_3_W.map (Proc.devRef (τ := τ) .tc)).toFinset :=
  StableHlo.forall_writes_sub_of_map rfl

/-- The buffers that stretch writes. -/
abbrev hostOps0_4_W : List (Ref sig .tc) := [main_call10_cst, main_call10_v0, main_v13]
/-- It writes these buffers only. -/
theorem hostOps0_4_writes : (hostOps0_4 : List (HloOp τ sig (Elt Ideal))).Forall fun op =>
    op.writes ⊆ (hostOps0_4_W.map (Proc.devRef (τ := τ) .tc)).toFinset :=
  StableHlo.forall_writes_sub_of_map rfl

/-- The buffers that stretch writes. -/
abbrev hostOps0_5_W : List (Ref sig .tc) := [main_v14, main_v15, main_v16, main_v17]
/-- It writes these buffers only. -/
theorem hostOps0_5_writes : (hostOps0_5 : List (HloOp τ sig (Elt Ideal))).Forall fun op =>
    op.writes ⊆ (hostOps0_5_W.map (Proc.devRef (τ := τ) .tc)).toFinset :=
  StableHlo.forall_writes_sub_of_map rfl

/-- The buffers that stretch writes. -/
abbrev hostOps0_6_W : List (Ref sig .tc) := [main_call11_cst, main_call11_v0, main_v18]
/-- It writes these buffers only. -/
theorem hostOps0_6_writes : (hostOps0_6 : List (HloOp τ sig (Elt Ideal))).Forall fun op =>
    op.writes ⊆ (hostOps0_6_W.map (Proc.devRef (τ := τ) .tc)).toFinset :=
  StableHlo.forall_writes_sub_of_map rfl

/-- The buffers that stretch writes. -/
abbrev hostOps0_7_W : List (Ref sig .tc) := [main_v19, main_v20, main_v21, main_v22, main_v23, main_v24, main_cst,
  main_v25, main_v26, main_cst_0, main_v27, main_v28]
/-- It writes these buffers only. -/
theorem hostOps0_7_writes : (hostOps0_7 : List (HloOp τ sig (Elt Ideal))).Forall fun op =>
    op.writes ⊆ (hostOps0_7_W.map (Proc.devRef (τ := τ) .tc)).toFinset :=
  StableHlo.forall_writes_sub_of_map rfl

/-- The stretch leaves every buffer that it does not write as it was. -/
theorem skip_hostOps0 {r : Ref sig .tc} (h : r ∉ hostOps0_W) :
    StableHlo.after hostOps0 V (no_index (Proc.devRef .tc r)) = V (Proc.devRef .tc r) :=
  StableHlo.after_of_writes_sub hostOps0 V hostOps0_writes h

/-- The stretch leaves every buffer that it does not write as it was. -/
theorem skip_hostOps0_1 {r : Ref sig .tc} (h : r ∉ hostOps0_1_W) :
    StableHlo.after hostOps0_1 V (no_index (Proc.devRef .tc r)) = V (Proc.devRef .tc r) :=
  StableHlo.after_of_writes_sub hostOps0_1 V hostOps0_1_writes h

/-- The stretch leaves every buffer that it does not write as it was. -/
theorem skip_hostOps0_2 {r : Ref sig .tc} (h : r ∉ hostOps0_2_W) :
    StableHlo.after hostOps0_2 V (no_index (Proc.devRef .tc r)) = V (Proc.devRef .tc r) :=
  StableHlo.after_of_writes_sub hostOps0_2 V hostOps0_2_writes h

/-- The stretch leaves every buffer that it does not write as it was. -/
theorem skip_hostOps0_3 {r : Ref sig .tc} (h : r ∉ hostOps0_3_W) :
    StableHlo.after hostOps0_3 V (no_index (Proc.devRef .tc r)) = V (Proc.devRef .tc r) :=
  StableHlo.after_of_writes_sub hostOps0_3 V hostOps0_3_writes h

/-- The stretch leaves every buffer that it does not write as it was. -/
theorem skip_hostOps0_4 {r : Ref sig .tc} (h : r ∉ hostOps0_4_W) :
    StableHlo.after hostOps0_4 V (no_index (Proc.devRef .tc r)) = V (Proc.devRef .tc r) :=
  StableHlo.after_of_writes_sub hostOps0_4 V hostOps0_4_writes h

/-- The stretch leaves every buffer that it does not write as it was. -/
theorem skip_hostOps0_5 {r : Ref sig .tc} (h : r ∉ hostOps0_5_W) :
    StableHlo.after hostOps0_5 V (no_index (Proc.devRef .tc r)) = V (Proc.devRef .tc r) :=
  StableHlo.after_of_writes_sub hostOps0_5 V hostOps0_5_writes h

/-- The stretch leaves every buffer that it does not write as it was. -/
theorem skip_hostOps0_6 {r : Ref sig .tc} (h : r ∉ hostOps0_6_W) :
    StableHlo.after hostOps0_6 V (no_index (Proc.devRef .tc r)) = V (Proc.devRef .tc r) :=
  StableHlo.after_of_writes_sub hostOps0_6 V hostOps0_6_writes h

/-- The stretch leaves every buffer that it does not write as it was. -/
theorem skip_hostOps0_7 {r : Ref sig .tc} (h : r ∉ hostOps0_7_W) :
    StableHlo.after hostOps0_7 V (no_index (Proc.devRef .tc r)) = V (Proc.devRef .tc r) :=
  StableHlo.after_of_writes_sub hostOps0_7 V hostOps0_7_writes h

/-- The stretches after the loop: the two gathers and the edge network. -/
theorem post : StableHlo.afterL postI V (Proc.devRef .tc main_v28)
    = edge3 (edge2 (edge1 (takeRows (V (Proc.devRef .tc main_v1)) (V (Proc.devRef .tc main_v5_8)))
          (takeRows (V (Proc.devRef .tc main_v3)) (V (Proc.devRef .tc main_v5_8)))
          (V (Proc.devRef .tc main_arg8)) (V (Proc.devRef .tc main_arg9)))
        (V (Proc.devRef .tc main_arg10)) (V (Proc.devRef .tc main_arg11)))
      (V (Proc.devRef .tc main_arg12)) (V (Proc.devRef .tc main_arg13)) := by
  simp only [StableHlo.afterL_cons, StableHlo.afterL_nil]
  rw [post_7, post_56, post_34, post_2, skip_hostOps0_2 (r := main_v6) _ (by decide +kernel), post_1]
  simp (disch := decide +kernel) only [skip_hostOps0_1, skip_hostOps0_2, skip_hostOps0_3, skip_hostOps0_4, skip_hostOps0_5, skip_hostOps0_6, skip_hostOps0_7]

/-- The stretches after the loop write no argument. -/
theorem post_args (a : Ref sig .tc) (ha : a ∈ args) : StableHlo.afterL postI V (Proc.devRef .tc a) = V (Proc.devRef .tc a) := by
  have k : ∀ a ∈ args, a ∉ hostOps0_1_W ∧ a ∉ hostOps0_2_W ∧ a ∉ hostOps0_3_W ∧ a ∉ hostOps0_4_W ∧ a ∉ hostOps0_5_W ∧ a ∉ hostOps0_6_W ∧ a ∉ hostOps0_7_W := by decide +kernel
  obtain ⟨h1, h2, h3, h4, h5, h6, h7⟩ := k a ha
  simp only [StableHlo.afterL_cons, StableHlo.afterL_nil]
  rw [skip_hostOps0_7 _ h7, skip_hostOps0_6 _ h6, skip_hostOps0_5 _ h5, skip_hostOps0_4 _ h4, skip_hostOps0_3 _ h3, skip_hostOps0_2 _ h2,
    skip_hostOps0_1 _ h1]

/-- A trip of the loop writes no argument. -/
theorem body_args (a : Ref sig .tc) (ha : a ∈ args) :
    StableHlo.afterL bodyI (StableHlo.after condOps V) (Proc.devRef .tc a) = V (Proc.devRef .tc a) := by
  have k : ∀ a ∈ args, a ∉ condOps_W ∧ a ∉ while0Ops0_W ∧ a ∉ while0Ops0_1_W ∧ a ∉ while0Ops0_2_W ∧ a ∉ while0Ops0_3_W ∧ a ∉ while0Ops0_4_W ∧ a ∉ while0Ops0_5_W ∧ a ∉ while0Ops0_6_W ∧ a ∉ while0Ops0_7_W ∧ a ∉ while0Ops0_8_W ∧ a ∉ while0Ops0_9_W ∧ a ∉ while0Ops0_10_W := by decide +kernel
  obtain ⟨h0, h1, h2, h3, h4, h5, h6, h7, h8, h9, h10, h11⟩ := k a ha
  simp only [StableHlo.afterL_cons, StableHlo.afterL_nil]
  rw [skip_while0Ops0_10 _ h11, skip_while0Ops0_9 _ h10, skip_while0Ops0_8 _ h9, skip_while0Ops0_7 _ h8, skip_while0Ops0_6 _ h7, skip_while0Ops0_5 _ h6, skip_while0Ops0_4 _ h5, skip_while0Ops0_3 _ h4, skip_while0Ops0_2 _ h3, skip_while0Ops0_1 _ h2, skip_while0Ops0 _ h1, skip_condOps _ h0]

/-! ## The run -/

variable (m : (ℓ : Loc nD τ sig) → Buf (Elt Ideal) ℓ) (ρ : Dev nD → PrngReg) (c : Dev nD)

/-- Before every trip the arguments are as launched. -/
theorem trip_args (a : Ref sig .tc) (ha : a ∈ args) : ∀ k : ℕ, atK m k c (Proc.devRef .tc a) = m ((c.tc : Thread nD τ).loc a)
  | 0 => by
    have k : ∀ a ∈ args, a ∉ hostOps0_W := by decide +kernel
    rw [show atK m 0 c = StableHlo.after hostOps0 (StableHlo.launchContents m c) from rfl, skip_hostOps0 _ (k a ha)]
  | k + 1 => by
    rw [show atK m (k + 1) c = StableHlo.afterL bodyI (StableHlo.after condOps (atK m k c)) from rfl, body_args _ a ha]
    exact trip_args a ha k

/-- Before every trip the buffers that the loop does not write are as at its entry. -/
theorem trip_fixed (r : Ref sig .tc) (hr : r ∈ fixed) : ∀ k : ℕ, atK m k c (Proc.devRef .tc r)
    = StableHlo.after hostOps0 (StableHlo.launchContents m c) (Proc.devRef .tc r)
  | 0 => rfl
  | k + 1 => by
    rw [show atK m (k + 1) c = StableHlo.afterL bodyI (StableHlo.after condOps (atK m k c)) from rfl, body_fixed _ r hr]
    exact trip_fixed r hr k

/-- Before trip `k` the node features are those after `k` layers. -/
theorem trip_layers : ∀ k : ℕ, k ≤ 15 → atK m k c (Proc.devRef .tc main_v5_8)
    = layersOf (layerR (rowOf (m ((c.tc : Thread nD τ).loc main_arg1))) (colOf (m ((c.tc : Thread nD τ).loc main_arg1))) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)))
        (inpOps (m ((c.tc : Thread nD τ).loc main_arg0)) (m ((c.tc : Thread nD τ).loc main_arg2))) k := by
  obtain ⟨-, -, e0, e1, e2, e3, e4, e5, e6, e8⟩ := entry_fixed (StableHlo.launchContents m c)
  intro k
  induction k with
  | zero => exact fun _ => e8
  | succ k ih =>
    intro hk
    have hv : (Fin.ofNat 15 k).val = k := Nat.mod_eq_of_lt hk
    have fx := fun r hr => trip_fixed m c r hr k
    rw [show atK m (k + 1) c = StableHlo.afterL bodyI (StableHlo.after condOps (atK m k c)) from rfl,
      body_layer (atK m k c) (Fin.ofNat 15 k) (by rw [hv]; exact atK_ctr m c k), ih (Nat.le_of_succ_le hk),
      fx main_v5_0 (by decide), fx main_v5_1 (by decide), fx main_v5_2 (by decide), fx main_v5_3 (by decide),
      fx main_v5_4 (by decide), fx main_v5_5 (by decide), fx main_v5_6 (by decide), e0, e1, e2, e3, e4, e5, e6]
    rfl

/-- The reference's result buffer at the end. -/
theorem final_result : StableHlo.finalContents condOps preI bodyI postI 15 m c (Proc.devRef .tc main_v28)
    = resultR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        (m ((c.tc : Thread nD τ).loc main_arg10)) (m ((c.tc : Thread nD τ).loc main_arg11)) (m ((c.tc : Thread nD τ).loc main_arg12)) (m ((c.tc : Thread nD τ).loc main_arg13)) := by
  obtain ⟨e1, e3, -⟩ := entry_fixed (StableHlo.launchContents m c)
  have ar := fun a ha => trip_args m c a ha 15
  rw [show StableHlo.finalContents condOps preI bodyI postI 15 m c = StableHlo.afterL postI (StableHlo.after condOps (atK m 15 c)) from rfl, post]
  simp (disch := decide +kernel) only [skip_condOps]
  rw [trip_layers m c 15 le_rfl, trip_fixed m c main_v1 (by decide) 15, trip_fixed m c main_v3 (by decide) 15, e1, e3,
    ar main_arg8 (by decide), ar main_arg9 (by decide), ar main_arg10 (by decide), ar main_arg11 (by decide),
    ar main_arg12 (by decide), ar main_arg13 (by decide)]
  rfl

/-- The arguments at the end. -/
theorem final_args (a : Ref sig .tc) (ha : a ∈ args) :
    StableHlo.finalContents condOps preI bodyI postI 15 m c (Proc.devRef .tc a) = m ((c.tc : Thread nD τ).loc a) := by
  have k : ∀ a ∈ args, a ∉ condOps_W := by decide +kernel
  rw [show StableHlo.finalContents condOps preI bodyI postI 15 m c = StableHlo.afterL postI (StableHlo.after condOps (atK m 15 c)) from rfl,
    post_args _ a ha, skip_condOps _ (k a ha)]
  exact trip_args m c a ha 15

/-- Every fair run of the reference ends with its result, its arguments as launched and every semaphore at zero. -/
theorem run : θ_run defs (onTc (τ := τ) (main (F := Ideal))) ⟨m, fun _ => 0, ρ⟩ (fun r => (∀ c : Dev nD,
      r.2.mem ((c.tc : Thread nD τ).loc main_v28)
        = resultR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        (m ((c.tc : Thread nD τ).loc main_arg10)) (m ((c.tc : Thread nD τ).loc main_arg11)) (m ((c.tc : Thread nD τ).loc main_arg12)) (m ((c.tc : Thread nD τ).loc main_arg13))
      ∧ ∀ a ∈ args, r.2.mem ((c.tc : Thread nD τ).loc a) = m ((c.tc : Thread nD τ).loc a))
    ∧ r.2.sem = fun _ => 0) :=
  (θ_run defs _ _).mono (fun r h => ⟨fun c => ⟨(h c main_v28 (by decide)).trans (final_result m c),
      fun a ha => (h c a ((by decide : ∀ a ∈ args, (Proc.devRef .tc a : DevRef τ sig).isScoped = false) a ha)).trans (final_args m c a ha)⟩,
    sem_eq_zero_of_no_sems (by decide) r.2⟩) (run_fold m ρ)

end Cert.ReferenceIdeal.Value

end
-- ==== Proof.Final.lean ====
module

public import proofs.«01_k».proof.Defs
public import proofs.«01_k».proof.Proof.Gen.Pre_real_inputs
public import proofs.«01_k».proof.Proof.Algebra
public import proofs.«01_k».proof.Proof.Chain
public import proofs.«01_k».proof.Proof.RefRun

/-
  What the precondition says of the arguments, and the two results' equality under it.
-/

@[expose] public section

set_option maxRecDepth 16384

noncomputable section

namespace Cert.ReferenceIdeal.Value

open Cert.KernelIdeal (S50000x2 S2x128 S15x128x128 S15x128 S128x128 S2x800000 S256x128 S128 S128x1 S1)
open Cert.KernelIdeal.Value
open Idealize.ShloMosaic Idealize.ShloMosaic.TcCoe Idealize.SL.Sem

/-- A value whose magnitude is below infinity is a real number. -/
theorem isR_of_lt (x : EReal) (h : Ideal.cmp .olt (max x (-x)) (Ideal.ofBits .f32 0x7F800000#32) = 1#1) : IsR x := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- An array whose magnitudes compare below infinity is an array of real numbers. -/
theorem allR_of_lt {s u : Shape} {f : Fin u.rank → Fin s.rank} (hb : u.BroadcastsInDim s f) (X : FVec Ideal s .f32)
    (h : cmpf .olt (Host.absf X) (broadcastInDim s f hb (constant (F := Ideal) u .f32 0x7F800000#32)) = fun _ => 1#1) : AllR X :=
  fun i => isR_of_lt (X i) (congrFun h i)

/-- Both bits of a conjunction that holds are set. -/
theorem and_bits : ∀ a b : BitVec 1, IntOp.andi a b = 1#1 → a = 1#1 ∧ b = 1#1 := by decide

/-- The two comparisons of the edges' sources put every one in range. -/
theorem source_range {u : Shape} {f : Fin u.rank → Fin Cert.KernelIdeal.S800000.rank} (hb : u.BroadcastsInDim Cert.KernelIdeal.S800000 f)
    (r : Ends) (h : andi (cmpi .sge r (broadcastInDim _ f hb (constantI u 32 0#32)))
      (cmpi .slt r (broadcastInDim _ f hb (constantI u 32 50000#32))) = fun _ => 1#1) : InRange r := by
  intro i
  obtain ⟨h1, h2⟩ := and_bits _ _ (congrFun h i)
  exact ⟨IntOp.cmpi_sge.1 h1, IntOp.cmpi_slt.1 h2⟩

/-- Under the precondition's bounds the kernel's layers and the reference's agree, and what they leave is real. -/
theorem layers_eq {row col : Ends} {wr wn : Vec Ideal S15x128x128 .f32} {b g be : Vec Ideal S15x128 .f32} {h : Nodes}
    (hrow : InRange row) (hwr : AllR wr) (hwn : AllR wn) (hb : AllR b) (hg : AllR g) (hbe : AllR be) (hh : AllR h) :
    ∀ k : ℕ, layersOf (layerK row col wr wn b g be) h k = layersOf (layerR row col wr wn b g be) h k
      ∧ AllR (layersOf (layerR row col wr wn b g be) h k) := by
  intro k
  induction k with
  | zero =>
    rw [layersOf_zero, layersOf_zero]
    exact ⟨rfl, hh⟩
  | succ k ih =>
    rw [layersOf_succ, layersOf_succ, ih.1]
    exact layer_eq (col := col) (Fin.ofNat 15 k) hrow hwr hwn hb hg hbe ih.2

/-- The kernel's result is the reference's. -/
theorem result_eq {x : Vec Ideal S50000x2 .f32} {e : Vec Ideal S2x800000 .i32} {w : Vec Ideal S2x128 .f32}
    {wr wn : Vec Ideal S15x128x128 .f32} {b g be : Vec Ideal S15x128 .f32} (w₁ : Vec Ideal S256x128 .f32)
    (b₁ : Vec Ideal S128 .f32) (w₂ : Wt) (b₂ : Vec Ideal S128 .f32) (w₃ : Vec Ideal S128x1 .f32) (b₃ : Vec Ideal S1 .f32)
    (hx : AllR x) (hrow : InRange (rowOf e)) (hw : AllR w) (hwr : AllR wr) (hwn : AllR wn) (hb : AllR b)
    (hg : AllR g) (hbe : AllR be) :
    resultR x e w wr wn b g be w₁ b₁ w₂ b₂ w₃ b₃ = resultK x e w wr wn b g be w₁ b₁ w₂ b₂ w₃ b₃ := by
  unfold resultR resultK
  rw [inpOps_eq]
  simp only [(layers_eq (col := colOf e) hrow hwr hwn hb hg hbe (inp_real hx hw) 15).1]
  exact edge_eq _ _ w₁ b₁ w₂ b₂ w₃ b₃

end Cert.ReferenceIdeal.Value

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Pre_real_inputs
public import proofs.«01_k».proof.Proof.KernelRun
public import proofs.«01_k».proof.Proof.Final

@[expose] public section

set_option maxRecDepth 16384

noncomputable section

namespace Cert.Proof

open Idealize.ShloMosaic Idealize.ShloMosaic.TcCoe Idealize.SL.Sem

/-- What holds of every argument of the reference, argument by argument. -/
theorem each {P : Ref Cert.ReferenceIdeal.sig .tc → Prop} (h : ∀ a ∈ Cert.ReferenceIdeal.Value.args, P a) :
    P Cert.ReferenceIdeal.main_arg0 ∧ P Cert.ReferenceIdeal.main_arg1 ∧ P Cert.ReferenceIdeal.main_arg2
    ∧ P Cert.ReferenceIdeal.main_arg3 ∧ P Cert.ReferenceIdeal.main_arg4 ∧ P Cert.ReferenceIdeal.main_arg5
    ∧ P Cert.ReferenceIdeal.main_arg6 ∧ P Cert.ReferenceIdeal.main_arg7 ∧ P Cert.ReferenceIdeal.main_arg8
    ∧ P Cert.ReferenceIdeal.main_arg9 ∧ P Cert.ReferenceIdeal.main_arg10 ∧ P Cert.ReferenceIdeal.main_arg11
    ∧ P Cert.ReferenceIdeal.main_arg12 ∧ P Cert.ReferenceIdeal.main_arg13 :=
  ⟨h _ (by decide), h _ (by decide), h _ (by decide), h _ (by decide), h _ (by decide), h _ (by decide), h _ (by decide),
   h _ (by decide), h _ (by decide), h _ (by decide), h _ (by decide), h _ (by decide), h _ (by decide), h _ (by decide)⟩

/-- The reference's frame. -/
theorem frameR : Cert.quiescent_ReferenceIdeal (hReferenceIdeal := Cert.ReferenceIdeal.Gen.facts) := fun m ρ _ =>
  (θ_run _ _ _).mono (fun _ h => ⟨fun c => each (h.1 c).2, h.2⟩) (Cert.ReferenceIdeal.Value.run m ρ)

/-- On real inputs with the edges' sources in range the kernel and the reference end with the same result. -/
theorem algebraic : Cert.algebraic_KernelIdeal_ReferenceIdeal_pre_real_inputs (hKernelIdeal := Cert.KernelIdeal.Gen.facts)
    (hReferenceIdeal := Cert.ReferenceIdeal.Gen.facts) (hPre_real_inputs := Cert.Pre_real_inputs.Gen.facts) := by
  intro m ρ m' ρ' hp hm
  refine ⟨fun c => Cert.KernelIdeal.Gen.W64 m ρ c (Proc.devRef .tc Cert.KernelIdeal.main_v0), ?_, ?_⟩
  · refine (θ_run _ _ _).mono (fun _ h => ?_) (Cert.KernelIdeal.Value.run m ρ)
    intro c
    have k : ∀ a (ha : ¬(Proc.devRef .tc a : DevRef Cert.KernelIdeal.τ Cert.KernelIdeal.sig).isScoped = true), _ :=
      fun a ha => h c _ (Cert.KernelIdeal.Gen.mem_uc a ha)
    have ar := fun a (ha : a ∈ Cert.KernelIdeal.Gen.argRefs) hs => (k a hs).trans (Cert.KernelIdeal.Gen.W64_args m ρ c a ha)
    exact ⟨k _ (by decide), ar _ (by decide) (by decide), ar _ (by decide) (by decide), ar _ (by decide) (by decide),
      ar _ (by decide) (by decide), ar _ (by decide) (by decide), ar _ (by decide) (by decide), ar _ (by decide) (by decide),
      ar _ (by decide) (by decide), ar _ (by decide) (by decide), ar _ (by decide) (by decide), ar _ (by decide) (by decide),
      ar _ (by decide) (by decide), ar _ (by decide) (by decide), ar _ (by decide) (by decide)⟩
  · refine (θ_run _ _ _).mono (fun _ h c => ⟨((h.1 c).1).trans ?_, each (h.1 c).2⟩) (Cert.ReferenceIdeal.Value.run m' ρ')
    obtain ⟨a0, a1, a2, a3, a4, a5, a6, a7, a8, a9, a10, a11, a12, a13⟩ := hm c
    obtain ⟨p0, p1, p2, p3, p4, p5, p6, p7⟩ := hp c
    refine Eq.trans ?_ (Cert.KernelIdeal.Value.result m ρ c).symm
    rw [a0, a1, a2, a3, a4, a5, a6, a7, a8, a9, a10, a11, a12, a13]
    exact Cert.ReferenceIdeal.Value.result_eq _ _ _ _ _ _ (Cert.ReferenceIdeal.Value.allR_of_lt _ _ p0)
      (Cert.ReferenceIdeal.Value.source_range _ _ p1) (Cert.ReferenceIdeal.Value.allR_of_lt _ _ p2)
      (Cert.ReferenceIdeal.Value.allR_of_lt _ _ p3) (Cert.ReferenceIdeal.Value.allR_of_lt _ _ p4)
      (Cert.ReferenceIdeal.Value.allR_of_lt _ _ p5) (Cert.ReferenceIdeal.Value.allR_of_lt _ _ p6)
      (Cert.ReferenceIdeal.Value.allR_of_lt _ _ p7)

/-- Everything that is claimed. -/
theorem claim : Cert.Claim :=
  ⟨Cert.Kernel.Gen.facts, Cert.KernelIdeal.Gen.facts, Cert.ReferenceIdeal.Gen.facts, Cert.Pre_real_inputs.Gen.facts,
    fun m ρ _ => Cert.Kernel.Gen.frame m ρ, fun m ρ _ => Cert.KernelIdeal.Gen.frame m ρ, fun m ρ _ => Cert.KernelIdeal.Gen.frame m ρ,
    frameR, fun m ρ _ => frameR m ρ trivial,
    IdealRules.named_const.statement Cert.KernelIdeal.κ "inv_n" .f32 0x37A7C5AC#32 ((1/50000:ℝ):EReal) rfl, algebraic⟩

end Cert.Proof

end
